-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite [hPre_finite : Cert.Pre_finite.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite [hPre_finite : Cert.Pre_finite.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8)) (m ((c.tc : Thread Cert.Reference1Ideal.nD Cert.Reference1Ideal.τ).loc Cert.Reference1Ideal.main_arg9))) = (fun _ => 1#1)

def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Reference0Ideal (m : (ℓ : Loc Cert.Reference0Ideal.nD Cert.Reference0Ideal.τ Cert.Reference0Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Kernel1Ideal_pre_finite [hKernel1Ideal : Cert.Kernel1Ideal.Facts] [hPre_finite : Cert.Pre_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Reference1Ideal_pre_finite [hReference1Ideal : Cert.Reference1Ideal.Facts] [hPre_finite : Cert.Pre_finite.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel1_Kernel1Ideal : Prop :=
  IdealRules.named_const.Statement Cert.Kernel1Ideal.κ "log2e" .f32 0x3FB8AA3B#32 (((Real.log 2)⁻¹ : ℝ) : EReal)

def algebraic_Kernel1Ideal_Reference1Ideal_pre_finite [hKernel1Ideal : Cert.Kernel1Ideal.Facts] [hReference1Ideal : Cert.Reference1Ideal.Facts] [hPre_finite : Cert.Pre_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v43_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v43_1) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v31) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel0_Kernel0Ideal : Prop :=
  True

def algebraic_Kernel0Ideal_Reference0Ideal [hKernel0Ideal : Cert.Kernel0Ideal.Facts] [hReference0Ideal : Cert.Reference0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)) →
    ∃ (v0 : (c : Dev Cert.Kernel0Ideal.nD) → Buf (Elt Ideal) ((c.tc : Thread Cert.Kernel0Ideal.nD Cert.Kernel0Ideal.τ).loc Cert.Kernel0Ideal.main_v26_0)) (v1 : (c : Dev Cert.Kernel0Ideal.nD) → Buf (Elt Ideal) ((c.tc : Thread Cert.Kernel0Ideal.nD Cert.Kernel0Ideal.τ).loc Cert.Kernel0Ideal.main_v26_1)) (v2 : (c : Dev Cert.Kernel0Ideal.nD) → Buf (Elt Ideal) ((c.tc : Thread Cert.Kernel0Ideal.nD Cert.Kernel0Ideal.τ).loc Cert.Kernel0Ideal.main_v26_2)) (v3 : (c : Dev Cert.Kernel0Ideal.nD) → Buf (Elt Ideal) ((c.tc : Thread Cert.Kernel0Ideal.nD Cert.Kernel0Ideal.τ).loc Cert.Kernel0Ideal.main_v26_3)) (v4 : (c : Dev Cert.Kernel0Ideal.nD) → Buf (Elt Ideal) ((c.tc : Thread Cert.Kernel0Ideal.nD Cert.Kernel0Ideal.τ).loc Cert.Kernel0Ideal.main_v26_4)) (v5 : (c : Dev Cert.Kernel0Ideal.nD) → Buf (Elt Ideal) ((c.tc : Thread Cert.Kernel0Ideal.nD Cert.Kernel0Ideal.τ).loc Cert.Kernel0Ideal.main_v26_5)) (v6 : (c : Dev Cert.Kernel0Ideal.nD) → Buf (Elt Ideal) ((c.tc : Thread Cert.Kernel0Ideal.nD Cert.Kernel0Ideal.τ).loc Cert.Kernel0Ideal.main_v26_6)) (v7 : (c : Dev Cert.Kernel0Ideal.nD) → Buf (Elt Ideal) ((c.tc : Thread Cert.Kernel0Ideal.nD Cert.Kernel0Ideal.τ).loc Cert.Kernel0Ideal.main_v26_7)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v26_0) = v0 c
          ∧ r.2.mem ((c.tc : Thread Cert.Kernel0Ideal.nD Cert.Kernel0Ideal.τ).loc Cert.Kernel0Ideal.main_v26_1) = v1 c
          ∧ r.2.mem ((c.tc : Thread Cert.Kernel0Ideal.nD Cert.Kernel0Ideal.τ).loc Cert.Kernel0Ideal.main_v26_2) = v2 c
          ∧ r.2.mem ((c.tc : Thread Cert.Kernel0Ideal.nD Cert.Kernel0Ideal.τ).loc Cert.Kernel0Ideal.main_v26_3) = v3 c
          ∧ r.2.mem ((c.tc : Thread Cert.Kernel0Ideal.nD Cert.Kernel0Ideal.τ).loc Cert.Kernel0Ideal.main_v26_4) = v4 c
          ∧ r.2.mem ((c.tc : Thread Cert.Kernel0Ideal.nD Cert.Kernel0Ideal.τ).loc Cert.Kernel0Ideal.main_v26_5) = v5 c
          ∧ r.2.mem ((c.tc : Thread Cert.Kernel0Ideal.nD Cert.Kernel0Ideal.τ).loc Cert.Kernel0Ideal.main_v26_6) = v6 c
          ∧ r.2.mem ((c.tc : Thread Cert.Kernel0Ideal.nD Cert.Kernel0Ideal.τ).loc Cert.Kernel0Ideal.main_v26_7) = v7 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v67) = v0 c
          ∧ r.2.mem ((c.tc : Thread Cert.Reference0Ideal.nD Cert.Reference0Ideal.τ).loc Cert.Reference0Ideal.main_v54) = v1 c
          ∧ r.2.mem ((c.tc : Thread Cert.Reference0Ideal.nD Cert.Reference0Ideal.τ).loc Cert.Reference0Ideal.main_v69) = v2 c
          ∧ r.2.mem ((c.tc : Thread Cert.Reference0Ideal.nD Cert.Reference0Ideal.τ).loc Cert.Reference0Ideal.main_v71) = v3 c
          ∧ r.2.mem ((c.tc : Thread Cert.Reference0Ideal.nD Cert.Reference0Ideal.τ).loc Cert.Reference0Ideal.main_v8) = v4 c
          ∧ r.2.mem ((c.tc : Thread Cert.Reference0Ideal.nD Cert.Reference0Ideal.τ).loc Cert.Reference0Ideal.main_v72) = v5 c
          ∧ r.2.mem ((c.tc : Thread Cert.Reference0Ideal.nD Cert.Reference0Ideal.τ).loc Cert.Reference0Ideal.main_v73) = v6 c
          ∧ r.2.mem ((c.tc : Thread Cert.Reference0Ideal.nD Cert.Reference0Ideal.τ).loc Cert.Reference0Ideal.main_v66) = v7 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel1 : Cert.Kernel1.Facts) (hKernel1Ideal : Cert.Kernel1Ideal.Facts) (hReference1Ideal : Cert.Reference1Ideal.Facts) (hKernel0 : Cert.Kernel0.Facts) (hKernel0Ideal : Cert.Kernel0Ideal.Facts) (hReference0Ideal : Cert.Reference0Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel1 (hKernel1 := hKernel1)
    ∧ quiescent_Kernel1Ideal (hKernel1Ideal := hKernel1Ideal)
    ∧ quiescent_Kernel1Ideal_pre_finite (hKernel1Ideal := hKernel1Ideal) (hPre_finite := hPre_finite)
    ∧ quiescent_Reference1Ideal (hReference1Ideal := hReference1Ideal)
    ∧ quiescent_Reference1Ideal_pre_finite (hReference1Ideal := hReference1Ideal) (hPre_finite := hPre_finite)
    ∧ quiescent_Kernel0 (hKernel0 := hKernel0)
    ∧ quiescent_Kernel0Ideal (hKernel0Ideal := hKernel0Ideal)
    ∧ quiescent_Reference0Ideal (hReference0Ideal := hReference0Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel1_Kernel1Ideal
    ∧ algebraic_Kernel1Ideal_Reference1Ideal_pre_finite (hKernel1Ideal := hKernel1Ideal) (hReference1Ideal := hReference1Ideal) (hPre_finite := hPre_finite)
    ∧ preserves_Kernel0_Kernel0Ideal
    ∧ algebraic_Kernel0Ideal_Reference0Ideal (hKernel0Ideal := hKernel0Ideal) (hReference0Ideal := hReference0Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x2048x128 : Shape := ⟨3, ![8, 2048, 128]⟩
abbrev S8x2048x1024 : Shape := ⟨3, ![8, 2048, 1024]⟩
abbrev S8x2048x512 : Shape := ⟨3, ![8, 2048, 512]⟩
abbrev S16 : Shape := ⟨1, ![16]⟩
abbrev S16x512 : Shape := ⟨2, ![16, 512]⟩
abbrev S512 : Shape := ⟨1, ![512]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg8 : FVec F S16x512 .f32) (main_arg9 : FVec F S512 .f32) (main_v14 : IVec S_ 1) (main_v16 : FVec F S8x2048x1024 .f32) : IVec S_ 1 :=
  let main_cst_5 : FVec F S_ .f32 := constant S_ .f32 0x7F800000#32
  let main_v17 : FVec F S8x2048x1024 .f32 := broadcastInDim S8x2048x1024 ![] bcast_S_S8x2048x1024 main_cst_5
  let main_v18 : IVec S8x2048x1024 1 := cmpf .olt main_v16 main_v17
  let main_c_6 : IVec S_ 1 := constantI S_ 1 1#1
  let main_v19 : IVec S_ 1 := (fun x v => Host.reduce IntOp.andi x v reducesTo_S8x2048x1024_S_d0_1_2 h_S_) main_v18 main_c_6
  let main_v20 : IVec S_ 1 := andi main_v14 main_v19
  let main_v21 : FVec F S16x512 .f32 := Host.absf main_arg8
  let main_cst_7 : FVec F S_ .f32 := constant S_ .f32 0x7F800000#32
  let main_v22 : FVec F S16x512 .f32 := broadcastInDim S16x512 ![] bcast_S_S16x512 main_cst_7
  let main_v23 : IVec S16x512 1 := cmpf .olt main_v21 main_v22
  let main_c_8 : IVec S_ 1 := constantI S_ 1 1#1
  let main_v24 : IVec S_ 1 := (fun x v => Host.reduce IntOp.andi x v reducesTo_S16x512_S_d0_1 h_S_) main_v23 main_c_8
  let main_v25 : IVec S_ 1 := andi main_v20 main_v24
  let main_v26 : FVec F S512 .f32 := Host.absf main_arg9
  let main_cst_9 : FVec F S_ .f32 := constant S_ .f32 0x7F800000#32
  let main_v27 : FVec F S512 .f32 := broadcastInDim S512 ![] bcast_S_S512 main_cst_9
  let main_v28 : IVec S512 1 := cmpf .olt main_v26 main_v27
  let main_c_10 : IVec S_ 1 := constantI S_ 1 1#1
  let main_v29 : IVec S_ 1 := (fun x v => Host.reduce IntOp.andi x v reducesTo_S512_S_d0 h_S_) main_v28 main_c_10
  let main_v30 : IVec S_ 1 := andi main_v25 main_v29
  main_v30

def fn {F : FTy → Type} [FloatOps F] (main_arg0 : FVec F S8x2048x128 .f32) (main_arg1 : FVec F S8x2048x1024 .f32) (main_arg2 : FVec F S8x2048x512 .bf16) (main_arg3 : FVec F S8x2048x512 .f32) (main_arg4 : FVec F S8x2048x512 .f32) (main_arg5 : FVec F S8x2048x1024 .bf16) (main_arg6 : FVec F S16 .f32) (main_arg7 : FVec F S16 .f32) (main_arg8 : FVec F S16x512 .f32) (main_arg9 : FVec F S512 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_c_0 : IVec S_ 1 := constantI S_ 1 1#1
  let main_v4 : IVec S_ 1 := andi main_c_0 main_v3
  let main_v5 : FVec F S8x2048x512 .f32 := Host.absf main_arg3
  let main_cst_1 : FVec F S_ .f32 := constant S_ .f32 0x7F800000#32
  let main_v6 : FVec F S8x2048x512 .f32 := broadcastInDim S8x2048x512 ![] bcast_S_S8x2048x512 main_cst_1
  let main_v7 : IVec S8x2048x512 1 := cmpf .olt main_v5 main_v6
  let main_c_2 : IVec S_ 1 := constantI S_ 1 1#1
  let main_v8 : IVec S_ 1 := (fun x v => Host.reduce IntOp.andi x v reducesTo_S8x2048x512_S_d0_1_2 h_S_) main_v7 main_c_2
  let main_v9 : IVec S_ 1 := andi main_v4 main_v8
  let main_v10 : FVec F S8x2048x512 .f32 := Host.absf main_arg4
  let main_cst_3 : FVec F S_ .f32 := constant S_ .f32 0x7F800000#32
  let main_v11 : FVec F S8x2048x512 .f32 := broadcastInDim S8x2048x512 ![] bcast_S_S8x2048x512 main_cst_3
  let main_v12 : IVec S8x2048x512 1 := cmpf .olt main_v10 main_v11
  let main_c_4 : IVec S_ 1 := constantI S_ 1 1#1
  let main_v13 : IVec S_ 1 := (fun x v => Host.reduce IntOp.andi x v reducesTo_S8x2048x512_S_d0_1_2 h_S_) main_v12 main_c_4
  let main_v14 : IVec S_ 1 := andi main_v9 main_v13
  let main_v15 : FVec F S8x2048x1024 .f32 := (extf .f32 · bitsLt_bf16_f32) main_arg5
  let main_v16 : FVec F S8x2048x1024 .f32 := Host.absf main_v15
  fn_part1 (F := F) main_arg8 main_arg9 main_v14 main_v16
-- ==== Kernel1.lean ====
abbrev S8x2048x128 : Shape := ⟨3, ![8, 2048, 128]⟩
abbrev S8x2048x1024 : Shape := ⟨3, ![8, 2048, 1024]⟩
abbrev S8x2048x512 : Shape := ⟨3, ![8, 2048, 512]⟩
abbrev S16 : Shape := ⟨1, ![16]⟩
abbrev S16x512 : Shape := ⟨2, ![16, 512]⟩
abbrev S512 : Shape := ⟨1, ![512]⟩
abbrev S_ : Shape := ⟨0, ![]⟩
abbrev S1x96 : Shape := ⟨2, ![1, 96]⟩
abbrev S1x16 : Shape := ⟨2, ![1, 16]⟩
abbrev S1x128 : Shape := ⟨2, ![1, 128]⟩
abbrev S128x512 : Shape := ⟨2, ![128, 512]⟩
abbrev S1 : Shape := ⟨1, ![1]⟩
abbrev S1x512 : Shape := ⟨2, ![1, 512]⟩
abbrev S128 : Shape := ⟨1, ![128]⟩
abbrev S128x1 : Shape := ⟨2, ![128, 1]⟩
abbrev S128x128 : Shape := ⟨2, ![128, 128]⟩
abbrev S1x128x1x128 : Shape := ⟨4, ![1, 128, 1, 128]⟩
abbrev S1x128x3x128 : Shape := ⟨4, ![1, 128, 3, 128]⟩
abbrev S128x384 : Shape := ⟨2, ![128, 384]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x1x64 : Shape := ⟨4, ![1, 64, 1, 64]⟩
abbrev S1x64x3x64 : Shape := ⟨4, ![1, 64, 3, 64]⟩
abbrev S64x192 : Shape := ⟨2, ![64, 192]⟩
abbrev S1024 : Shape := ⟨1, ![1024]⟩
abbrev S1x1024 : Shape := ⟨2, ![1, 1024]⟩
abbrev S128x1024 : Shape := ⟨2, ![128, 1024]⟩
abbrev S256x1024 : Shape := ⟨2, ![256, 1024]⟩
abbrev S1x512x128 : Shape := ⟨3, ![1, 512, 128]⟩
abbrev S1x512x1024 : Shape := ⟨3, ![1, 512, 1024]⟩
abbrev S1x512x512 : Shape := ⟨3, ![1, 512, 512]⟩
abbrev S2x128x512 : Shape := ⟨3, ![2, 128, 512]⟩
abbrev S4x128x256 : Shape := ⟨3, ![4, 128, 256]⟩
abbrev S1x128x512 : Shape := ⟨3, ![1, 128, 512]⟩
abbrev S1x128x256 : Shape := ⟨3, ![1, 128, 256]⟩
abbrev S128x256 : Shape := ⟨2, ![128, 256]⟩
abbrev S512x128 : Shape := ⟨2, ![512, 128]⟩
abbrev S384x128 : Shape := ⟨2, ![384, 128]⟩
abbrev S512x256 : Shape := ⟨2, ![512, 256]⟩
abbrev S512x1024 : Shape := ⟨2, ![512, 1024]⟩
abbrev S512x512 : Shape := ⟨2, ![512, 512]⟩
abbrev S64x512 : Shape := ⟨2, ![64, 512]⟩
abbrev S192x512 : Shape := ⟨2, ![192, 512]⟩
abbrev S1x128x128 : Shape := ⟨3, ![1, 128, 128]⟩
abbrev S256x128 : Shape := ⟨2, ![256, 128]⟩
abbrev S256x256 : Shape := ⟨2, ![256, 256]⟩

abbrev nBuf : Space → Nat
  | .hbm => 76
  | .vmem => 24
  | .smem => 0
  | _ => 0

abbrev bufTy : (tb : Table) → Fin (tcTables nBuf tb) → BufTy
  | .hbm, ⟨0, _⟩ => ⟨S8x2048x128, .f32⟩
  | .hbm, ⟨1, _⟩ => ⟨S8x2048x1024, .f32⟩
  | .hbm, ⟨2, _⟩ => ⟨S8x2048x512, .bf16⟩
  | .hbm, ⟨3, _⟩ => ⟨S8x2048x512, .f32⟩
  | .hbm, ⟨4, _⟩ => ⟨S8x2048x512, .f32⟩
  | .hbm, ⟨5, _⟩ => ⟨S8x2048x1024, .bf16⟩
  | .hbm, ⟨6, _⟩ => ⟨S16, .f32⟩
  | .hbm, ⟨7, _⟩ => ⟨S16, .f32⟩
  | .hbm, ⟨8, _⟩ => ⟨S16x512, .f32⟩
  | .hbm, ⟨9, _⟩ => ⟨S512, .f32⟩
  | .hbm, ⟨10, _⟩ => ⟨S_, .f32⟩
  | .hbm, ⟨11, _⟩ => ⟨S1x96, .f32⟩
  | .hbm, ⟨12, _⟩ => ⟨S1x16, .f32⟩
  | .hbm, ⟨13, _⟩ => ⟨S1x16, .f32⟩
  | .hbm, ⟨14, _⟩ => ⟨S1x128, .f32⟩
  | .hbm, ⟨15, _⟩ => ⟨S_, .f32⟩
  | .hbm, ⟨16, _⟩ => ⟨S128x512, .f32⟩
  | .hbm, ⟨17, _⟩ => ⟨S_, .i32⟩
  | .hbm, ⟨18, _⟩ => ⟨S1, .i32⟩
  | .hbm, ⟨19, _⟩ => ⟨S128x512, .f32⟩
  | .hbm, ⟨20, _⟩ => ⟨S128x512, .bf16⟩
  | .hbm, ⟨21, _⟩ => ⟨S1x512, .f32⟩
  | .hbm, ⟨22, _⟩ => ⟨S128, .i32⟩
  | .hbm, ⟨23, _⟩ => ⟨S128x1, .i32⟩
  | .hbm, ⟨24, _⟩ => ⟨S128, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .bf16⟩
  | .hbm, ⟨30, _⟩ => ⟨S1x128x1x128, .bf16⟩
  | .hbm, ⟨31, _⟩ => ⟨S1x128x3x128, .bf16⟩
  | .hbm, ⟨32, _⟩ => ⟨S128x384, .bf16⟩
  | .hbm, ⟨33, _⟩ => ⟨S64, .i32⟩
  | .hbm, ⟨34, _⟩ => ⟨S64x1, .i32⟩
  | .hbm, ⟨35, _⟩ => ⟨S64, .i32⟩
  | .hbm, ⟨36, _⟩ => ⟨S1x64, .i32⟩
  | .hbm, ⟨37, _⟩ => ⟨S64x64, .i32⟩
  | .hbm, ⟨38, _⟩ => ⟨S64x64, .i32⟩
  | .hbm, ⟨39, _⟩ => ⟨S64x64, .i1⟩
  | .hbm, ⟨40, _⟩ => ⟨S64x64, .bf16⟩
  | .hbm, ⟨41, _⟩ => ⟨S1x64x1x64, .bf16⟩
  | .hbm, ⟨42, _⟩ => ⟨S1x64x3x64, .bf16⟩
  | .hbm, ⟨43, _⟩ => ⟨S64x192, .bf16⟩
  | .hbm, ⟨44, _⟩ => ⟨S128, .i32⟩
  | .hbm, ⟨45, _⟩ => ⟨S128x1, .i32⟩
  | .hbm, ⟨46, _⟩ => ⟨S1024, .i32⟩
  | .hbm, ⟨47, _⟩ => ⟨S1x1024, .i32⟩
  | .hbm, ⟨48, _⟩ => ⟨S_, .i32⟩
  | .hbm, ⟨49, _⟩ => ⟨S_, .i32⟩
  | .hbm, ⟨50, _⟩ => ⟨S1x1024, .i32⟩
  | .hbm, ⟨51, _⟩ => ⟨S1x1024, .i32⟩
  | .hbm, ⟨52, _⟩ => ⟨S1x1024, .i32⟩
  | .hbm, ⟨53, _⟩ => ⟨S_, .i32⟩
  | .hbm, ⟨54, _⟩ => ⟨S1x1024, .i32⟩
  | .hbm, ⟨55, _⟩ => ⟨S1x1024, .i1⟩
  | .hbm, ⟨56, _⟩ => ⟨S1x1024, .i32⟩
  | .hbm, ⟨57, _⟩ => ⟨S1x1024, .i32⟩
  | .hbm, ⟨58, _⟩ => ⟨S_, .i32⟩
  | .hbm, ⟨59, _⟩ => ⟨S1x1024, .i32⟩
  | .hbm, ⟨60, _⟩ => ⟨S1x1024, .i1⟩
  | .hbm, ⟨61, _⟩ => ⟨S1x1024, .i1⟩
  | .hbm, ⟨62, _⟩ => ⟨S_, .i32⟩
  | .hbm, ⟨63, _⟩ => ⟨S1x1024, .i32⟩
  | .hbm, ⟨64, _⟩ => ⟨S1x1024, .i32⟩
  | .hbm, ⟨65, _⟩ => ⟨S1x1024, .i32⟩
  | .hbm, ⟨66, _⟩ => ⟨S_, .i32⟩
  | .hbm, ⟨67, _⟩ => ⟨S128x1, .i32⟩
  | .hbm, ⟨68, _⟩ => ⟨S128x1, .i32⟩
  | .hbm, ⟨69, _⟩ => ⟨S128x1024, .i32⟩
  | .hbm, ⟨70, _⟩ => ⟨S128x1024, .i32⟩
  | .hbm, ⟨71, _⟩ => ⟨S128x1024, .i1⟩
  | .hbm, ⟨72, _⟩ => ⟨S128x1024, .bf16⟩
  | .hbm, ⟨73, _⟩ => ⟨S256x1024, .bf16⟩
  | .hbm, ⟨74, _⟩ => ⟨S8x2048x1024, .bf16⟩
  | .hbm, ⟨75, _⟩ => ⟨S8x2048x1024, .bf16⟩
  | .local _ .vmem, ⟨0, _⟩ => ⟨S1x512x128, .f32⟩
  | .local _ .vmem, ⟨1, _⟩ => ⟨S1x512x128, .f32⟩
  | .local _ .vmem, ⟨2, _⟩ => ⟨S1x512x1024, .f32⟩
  | .local _ .vmem, ⟨3, _⟩ => ⟨S1x512x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x1024, .bf16⟩
  | .local _ .vmem, ⟨11, _⟩ => ⟨S1x512x1024, .bf16⟩
  | .local _ .vmem, ⟨12, _⟩ => ⟨S1x128, .f32⟩
  | .local _ .vmem, ⟨13, _⟩ => ⟨S128x512, .bf16⟩
  | .local _ .vmem, ⟨14, _⟩ => ⟨S1x512, .f32⟩
  | .local _ .vmem, ⟨15, _⟩ => ⟨S128x384, .bf16⟩
  | .local _ .vmem, ⟨16, _⟩ => ⟨S64x192, .bf16⟩
  | .local _ .vmem, ⟨17, _⟩ => ⟨S256x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S2x128x512, .f32⟩
  | .local _ .vmem, ⟨23, _⟩ => ⟨S4x128x256, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_1 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v35 : Ref sig .tc := ⟨.hbm, 65, rfl⟩
abbrev main_c_2 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43_0 : Ref sig .tc := ⟨.hbm, 74, rfl⟩
abbrev main_v43_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel1Ideal.lean ====
variable {F : FTy → Type} [FloatOps F] [Named F]
def κ : String → Option EReal := fun
  | "log2e" => some (((Real.log 2)⁻¹ : ℝ) : EReal)
  | _ => none
-- ==== Reference1Ideal.lean ====
abbrev S8x2048x128 : Shape := ⟨3, ![8, 2048, 128]⟩
abbrev S8x2048x1024 : Shape := ⟨3, ![8, 2048, 1024]⟩
abbrev S8x2048x512 : Shape := ⟨3, ![8, 2048, 512]⟩
abbrev S16 : Shape := ⟨1, ![16]⟩
abbrev S16x512 : Shape := ⟨2, ![16, 512]⟩
abbrev S512 : Shape := ⟨1, ![512]⟩
abbrev S8x2048x16 : Shape := ⟨3, ![8, 2048, 16]⟩
abbrev S1x1x512 : Shape := ⟨3, ![1, 1, 512]⟩
abbrev S_ : Shape := ⟨0, ![]⟩
abbrev S8x2048x4x128 : Shape := ⟨4, ![8, 2048, 4, 128]⟩
abbrev S8x2048x4x256 : Shape := ⟨4, ![8, 2048, 4, 256]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2048x2048 : Shape := ⟨4, ![8, 4, 2048, 2048]⟩
abbrev S8x4x256x2048 : Shape := ⟨4, ![8, 4, 256, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x1024, .f32⟩
  | .hbm, ⟨2, _⟩ => ⟨S8x2048x512, .bf16⟩
  | .hbm, ⟨3, _⟩ => ⟨S8x2048x512, .f32⟩
  | .hbm, ⟨4, _⟩ => ⟨S8x2048x512, .f32⟩
  | .hbm, ⟨5, _⟩ => ⟨S8x2048x1024, .bf16⟩
  | .hbm, ⟨6, _⟩ => ⟨S16, .f32⟩
  | .hbm, ⟨7, _⟩ => ⟨S16, .f32⟩
  | .hbm, ⟨8, _⟩ => ⟨S16x512, .f32⟩
  | .hbm, ⟨9, _⟩ => ⟨S512, .f32⟩
  | .hbm, ⟨10, _⟩ => ⟨S8x2048x16, .f32⟩
  | .hbm, ⟨11, _⟩ => ⟨S8x2048x512, .f32⟩
  | .hbm, ⟨12, _⟩ => ⟨S1x1x512, .f32⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S_, .f32⟩
  | .hbm, ⟨17, _⟩ => ⟨S8x2048x512, .f32⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S8x2048x512, .i1⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S_, .f32⟩
  | .hbm, ⟨32, _⟩ => ⟨S8x2048x512, .f32⟩
  | .hbm, ⟨33, _⟩ => ⟨S8x2048x512, .f32⟩
  | .hbm, ⟨34, _⟩ => ⟨S8x2048x4x128, .f32⟩
  | .hbm, ⟨35, _⟩ => ⟨S8x2048x4x128, .f32⟩
  | .hbm, ⟨36, _⟩ => ⟨S8x2048x4x128, .f32⟩
  | .hbm, ⟨37, _⟩ => ⟨S8x2048x1024, .f32⟩
  | .hbm, ⟨38, _⟩ => ⟨S8x2048x4x256, .f32⟩
  | .hbm, ⟨39, _⟩ => ⟨S2048, .i32⟩
  | .hbm, ⟨40, _⟩ => ⟨S1x2048, .i32⟩
  | .hbm, ⟨41, _⟩ => ⟨S2048, .i32⟩
  | .hbm, ⟨42, _⟩ => ⟨S2048x1, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S_, .f32⟩
  | .hbm, ⟨47, _⟩ => ⟨S_, .f32⟩
  | .hbm, ⟨48, _⟩ => ⟨S8x2048x4x128, .f32⟩
  | .hbm, ⟨49, _⟩ => ⟨S8x2048x4x128, .f32⟩
  | .hbm, ⟨50, _⟩ => ⟨S8x2048x4x128, .f32⟩
  | .hbm, ⟨51, _⟩ => ⟨S8x2048x4x128, .f32⟩
  | .hbm, ⟨52, _⟩ => ⟨S8x2048x4x128, .f32⟩
  | .hbm, ⟨53, _⟩ => ⟨S8x2048x4x128, .f32⟩
  | .hbm, ⟨54, _⟩ => ⟨S8x4x2048x2048, .f32⟩
  | .hbm, ⟨55, _⟩ => ⟨S_, .f32⟩
  | .hbm, ⟨56, _⟩ => ⟨S_, .f32⟩
  | .hbm, ⟨57, _⟩ => ⟨S8x4x2048x2048, .i1⟩
  | .hbm, ⟨58, _⟩ => ⟨S8x4x2048x2048, .f32⟩
  | .hbm, ⟨59, _⟩ => ⟨S8x4x2048x2048, .f32⟩
  | .hbm, ⟨60, _⟩ => ⟨S8x4x256x2048, .f32⟩
  | .hbm, ⟨61, _⟩ => ⟨S8x2048x4x256, .f32⟩
  | .hbm, ⟨62, _⟩ => ⟨S8x2048x1024, .f32⟩
  | .hbm, ⟨63, _⟩ => ⟨S8x2048x1024, .bf16⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call1_cst : Ref sig .tc := ⟨.hbm, 46, rfl⟩
abbrev main_call1_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]
-- ==== Kernel0.lean ====
abbrev S8x8192x1024 : Shape := ⟨3, ![8, 8192, 1024]⟩
abbrev S1024x5680 : Shape := ⟨2, ![1024, 5680]⟩
abbrev S5x1536 : Shape := ⟨2, ![5, 1536]⟩
abbrev S1536 : Shape := ⟨1, ![1536]⟩
abbrev S16 : Shape := ⟨1, ![16]⟩
abbrev S1024x1024 : Shape := ⟨2, ![1024, 1024]⟩
abbrev S1024x256 : Shape := ⟨2, ![1024, 256]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x80 : Shape := ⟨2, ![1024, 80]⟩
abbrev S1024x128 : Shape := ⟨2, ![1024, 128]⟩
abbrev S1x96 : Shape := ⟨2, ![1, 96]⟩
abbrev S1x16 : Shape := ⟨2, ![1, 16]⟩
abbrev S1x128 : Shape := ⟨2, ![1, 128]⟩
abbrev S1x1536 : Shape := ⟨2, ![1, 1536]⟩
abbrev S8x8192x512 : Shape := ⟨3, ![8, 8192, 512]⟩
abbrev S8x8192x128 : Shape := ⟨3, ![8, 8192, 128]⟩
abbrev S1x512x1024 : Shape := ⟨3, ![1, 512, 1024]⟩
abbrev S1x8x1024 : Shape := ⟨3, ![1, 8, 1024]⟩
abbrev S1x512x512 : Shape := ⟨3, ![1, 512, 512]⟩
abbrev S1x512x128 : Shape := ⟨3, ![1, 512, 128]⟩
abbrev S12x528x128 : Shape := ⟨3, ![12, 528, 128]⟩
abbrev S512x1024 : Shape := ⟨2, ![512, 1024]⟩
abbrev S8x1024 : Shape := ⟨2, ![8, 1024]⟩
abbrev S528x1024 : Shape := ⟨2, ![528, 1024]⟩
abbrev S528x1 : Shape := ⟨2, ![528, 1]⟩
abbrev S528x512 : Shape := ⟨2, ![528, 512]⟩
abbrev S528x128 : Shape := ⟨2, ![528, 128]⟩
abbrev S1x528x128 : Shape := ⟨3, ![1, 528, 128]⟩
abbrev S512x128 : Shape := ⟨2, ![512, 128]⟩
abbrev S512x512 : Shape := ⟨2, ![512, 512]⟩

abbrev nBuf : Space → Nat
  | .hbm => 42
  | .vmem => 33
  | .smem => 0
  | _ => 0

abbrev bufTy : (tb : Table) → Fin (tcTables nBuf tb) → BufTy
  | .hbm, ⟨0, _⟩ => ⟨S8x8192x1024, .f32⟩
  | .hbm, ⟨1, _⟩ => ⟨S1024x5680, .f32⟩
  | .hbm, ⟨2, _⟩ => ⟨S5x1536, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x256, .f32⟩
  | .hbm, ⟨10, _⟩ => ⟨S1024x256, .f32⟩
  | .hbm, ⟨11, _⟩ => ⟨S1024x1536, .f32⟩
  | .hbm, ⟨12, _⟩ => ⟨S1024x1536, .bf16⟩
  | .hbm, ⟨13, _⟩ => ⟨S1024x512, .f32⟩
  | .hbm, ⟨14, _⟩ => ⟨S1024x512, .bf16⟩
  | .hbm, ⟨15, _⟩ => ⟨S1024x512, .f32⟩
  | .hbm, ⟨16, _⟩ => ⟨S1024x512, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x16, .f32⟩
  | .hbm, ⟨22, _⟩ => ⟨S1024x16, .f32⟩
  | .hbm, ⟨23, _⟩ => ⟨S1024x16, .f32⟩
  | .hbm, ⟨24, _⟩ => ⟨S_, .f32⟩
  | .hbm, ⟨25, _⟩ => ⟨S1024x80, .f32⟩
  | .hbm, ⟨26, _⟩ => ⟨S1024x128, .f32⟩
  | .hbm, ⟨27, _⟩ => ⟨S1024x128, .bf16⟩
  | .hbm, ⟨28, _⟩ => ⟨S_, .f32⟩
  | .hbm, ⟨29, _⟩ => ⟨S1x96, .f32⟩
  | .hbm, ⟨30, _⟩ => ⟨S1x16, .f32⟩
  | .hbm, ⟨31, _⟩ => ⟨S1x16, .f32⟩
  | .hbm, ⟨32, _⟩ => ⟨S1x128, .f32⟩
  | .hbm, ⟨33, _⟩ => ⟨S1x1536, .f32⟩
  | .hbm, ⟨34, _⟩ => ⟨S8x8192x1024, .bf16⟩
  | .hbm, ⟨35, _⟩ => ⟨S8x8192x1024, .f32⟩
  | .hbm, ⟨36, _⟩ => ⟨S8x8192x512, .bf16⟩
  | .hbm, ⟨37, _⟩ => ⟨S8x8192x512, .f32⟩
  | .hbm, ⟨38, _⟩ => ⟨S8x8192x512, .f32⟩
  | .hbm, ⟨39, _⟩ => ⟨S8x8192x1024, .bf16⟩
  | .hbm, ⟨40, _⟩ => ⟨S8x8192x1024, .bf16⟩
  | .hbm, ⟨41, _⟩ => ⟨S8x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x1024, .bf16⟩
  | .local _ .vmem, ⟨7, _⟩ => ⟨S1024x1536, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .bf16⟩
  | .local _ .vmem, ⟨13, _⟩ => ⟨S5x1536, .f32⟩
  | .local _ .vmem, ⟨14, _⟩ => ⟨S1x1536, .f32⟩
  | .local _ .vmem, ⟨15, _⟩ => ⟨S1x128, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x128, .f32⟩
  | .local _ .vmem, ⟨31, _⟩ => ⟨S1x512x128, .f32⟩
  | .local _ .vmem, ⟨32, _⟩ => ⟨S12x528x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v26_5 : Ref sig .tc := ⟨.hbm, 39, rfl⟩
abbrev main_v26_6 : Ref sig .tc := ⟨.hbm, 40, rfl⟩
abbrev main_v26_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S5x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference0Ideal.lean ====
abbrev S8x8192x1024 : Shape := ⟨3, ![8, 8192, 1024]⟩
abbrev S1024x5680 : Shape := ⟨2, ![1024, 5680]⟩
abbrev S5x1536 : Shape := ⟨2, ![5, 1536]⟩
abbrev S1536 : Shape := ⟨1, ![1536]⟩
abbrev S16 : Shape := ⟨1, ![16]⟩
abbrev S8x8192x5680 : Shape := ⟨3, ![8, 8192, 5680]⟩
abbrev S8x8192x256 : Shape := ⟨3, ![8, 8192, 256]⟩
abbrev S8x8192x16 : Shape := ⟨3, ![8, 8192, 16]⟩
abbrev S8x8192x512 : Shape := ⟨3, ![8, 8192, 512]⟩
abbrev S8x8192x1536 : Shape := ⟨3, ![8, 8192, 1536]⟩
abbrev S_ : Shape := ⟨0, ![]⟩
abbrev S8x8196x1536 : Shape := ⟨3, ![8, 8196, 1536]⟩
abbrev S1x1536 : Shape := ⟨2, ![1, 1536]⟩
abbrev S1x1x1536 : Shape := ⟨3, ![1, 1, 1536]⟩
abbrev S1x1x16 : Shape := ⟨3, ![1, 1, 16]⟩
abbrev S8x8192x80 : Shape := ⟨3, ![8, 8192, 80]⟩
abbrev S8x8192x128 : Shape := ⟨3, ![8, 8192, 128]⟩

abbrev nBuf : Space → Nat
  | .hbm => 119
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x5680, .f32⟩
  | .hbm, ⟨2, _⟩ => ⟨S5x1536, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S8x8192x5680, .f32⟩
  | .hbm, ⟨7, _⟩ => ⟨S8x8192x1024, .f32⟩
  | .hbm, ⟨8, _⟩ => ⟨S8x8192x1024, .f32⟩
  | .hbm, ⟨9, _⟩ => ⟨S8x8192x256, .f32⟩
  | .hbm, ⟨10, _⟩ => ⟨S8x8192x256, .f32⟩
  | .hbm, ⟨11, _⟩ => ⟨S8x8192x16, .f32⟩
  | .hbm, ⟨12, _⟩ => ⟨S8x8192x16, .f32⟩
  | .hbm, ⟨13, _⟩ => ⟨S8x8192x512, .f32⟩
  | .hbm, ⟨14, _⟩ => ⟨S8x8192x512, .f32⟩
  | .hbm, ⟨15, _⟩ => ⟨S8x8192x1024, .f32⟩
  | .hbm, ⟨16, _⟩ => ⟨S8x8192x1024, .f32⟩
  | .hbm, ⟨17, _⟩ => ⟨S8x8192x16, .f32⟩
  | .hbm, ⟨18, _⟩ => ⟨S8x8192x1536, .f32⟩
  | .hbm, ⟨19, _⟩ => ⟨S_, .i32⟩
  | .hbm, ⟨20, _⟩ => ⟨S_, .f32⟩
  | .hbm, ⟨21, _⟩ => ⟨S8x8196x1536, .f32⟩
  | .hbm, ⟨22, _⟩ => ⟨S8x8192x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S8x8192x1536, .f32⟩
  | .hbm, ⟨27, _⟩ => ⟨S8x8192x1536, .f32⟩
  | .hbm, ⟨28, _⟩ => ⟨S_, .f32⟩
  | .hbm, ⟨29, _⟩ => ⟨S8x8192x1536, .f32⟩
  | .hbm, ⟨30, _⟩ => ⟨S8x8192x1536, .f32⟩
  | .hbm, ⟨31, _⟩ => ⟨S8x8192x1536, .f32⟩
  | .hbm, ⟨32, _⟩ => ⟨S1x1536, .f32⟩
  | .hbm, ⟨33, _⟩ => ⟨S1536, .f32⟩
  | .hbm, ⟨34, _⟩ => ⟨S1x1x1536, .f32⟩
  | .hbm, ⟨35, _⟩ => ⟨S8x8192x1536, .f32⟩
  | .hbm, ⟨36, _⟩ => ⟨S8x8192x1536, .f32⟩
  | .hbm, ⟨37, _⟩ => ⟨S8x8192x1536, .f32⟩
  | .hbm, ⟨38, _⟩ => ⟨S8x8192x1536, .f32⟩
  | .hbm, ⟨39, _⟩ => ⟨S1x1536, .f32⟩
  | .hbm, ⟨40, _⟩ => ⟨S1536, .f32⟩
  | .hbm, ⟨41, _⟩ => ⟨S1x1x1536, .f32⟩
  | .hbm, ⟨42, _⟩ => ⟨S8x8192x1536, .f32⟩
  | .hbm, ⟨43, _⟩ => ⟨S8x8192x1536, .f32⟩
  | .hbm, ⟨44, _⟩ => ⟨S8x8192x1536, .f32⟩
  | .hbm, ⟨45, _⟩ => ⟨S8x8192x1536, .f32⟩
  | .hbm, ⟨46, _⟩ => ⟨S1x1536, .f32⟩
  | .hbm, ⟨47, _⟩ => ⟨S1536, .f32⟩
  | .hbm, ⟨48, _⟩ => ⟨S1x1x1536, .f32⟩
  | .hbm, ⟨49, _⟩ => ⟨S8x8192x1536, .f32⟩
  | .hbm, ⟨50, _⟩ => ⟨S8x8192x1536, .f32⟩
  | .hbm, ⟨51, _⟩ => ⟨S8x8192x1536, .f32⟩
  | .hbm, ⟨52, _⟩ => ⟨S8x8192x1536, .f32⟩
  | .hbm, ⟨53, _⟩ => ⟨S1x1536, .f32⟩
  | .hbm, ⟨54, _⟩ => ⟨S1536, .f32⟩
  | .hbm, ⟨55, _⟩ => ⟨S1x1x1536, .f32⟩
  | .hbm, ⟨56, _⟩ => ⟨S8x8192x1536, .f32⟩
  | .hbm, ⟨57, _⟩ => ⟨S8x8192x1536, .f32⟩
  | .hbm, ⟨58, _⟩ => ⟨S8x8192x1536, .f32⟩
  | .hbm, ⟨59, _⟩ => ⟨S1x1x1536, .f32⟩
  | .hbm, ⟨60, _⟩ => ⟨S8x8192x1536, .f32⟩
  | .hbm, ⟨61, _⟩ => ⟨S8x8192x1536, .f32⟩
  | .hbm, ⟨62, _⟩ => ⟨S8x8192x1536, .f32⟩
  | .hbm, ⟨63, _⟩ => ⟨S8x8192x1536, .f32⟩
  | .hbm, ⟨64, _⟩ => ⟨S_, .f32⟩
  | .hbm, ⟨65, _⟩ => ⟨S8x8192x1536, .f32⟩
  | .hbm, ⟨66, _⟩ => ⟨S8x8192x1536, .f32⟩
  | .hbm, ⟨67, _⟩ => ⟨S_, .f32⟩
  | .hbm, ⟨68, _⟩ => ⟨S8x8192x1536, .f32⟩
  | .hbm, ⟨69, _⟩ => ⟨S8x8192x1536, .f32⟩
  | .hbm, ⟨70, _⟩ => ⟨S8x8192x1536, .f32⟩
  | .hbm, ⟨71, _⟩ => ⟨S8x8192x1024, .f32⟩
  | .hbm, ⟨72, _⟩ => ⟨S8x8192x256, .f32⟩
  | .hbm, ⟨73, _⟩ => ⟨S8x8192x256, .f32⟩
  | .hbm, ⟨74, _⟩ => ⟨S1x1x16, .f32⟩
  | .hbm, ⟨75, _⟩ => ⟨S8x8192x16, .f32⟩
  | .hbm, ⟨76, _⟩ => ⟨S8x8192x16, .f32⟩
  | .hbm, ⟨77, _⟩ => ⟨S_, .f32⟩
  | .hbm, ⟨78, _⟩ => ⟨S8x8192x16, .f32⟩
  | .hbm, ⟨79, _⟩ => ⟨S8x8192x16, .f32⟩
  | .hbm, ⟨80, _⟩ => ⟨S8x8192x16, .f32⟩
  | .hbm, ⟨81, _⟩ => ⟨S8x8192x16, .f32⟩
  | .hbm, ⟨82, _⟩ => ⟨S8x8192x16, .i1⟩
  | .hbm, ⟨83, _⟩ => ⟨S8x8192x16, .f32⟩
  | .hbm, ⟨84, _⟩ => ⟨S8x8192x16, .f32⟩
  | .hbm, ⟨85, _⟩ => ⟨S8x8192x16, .f32⟩
  | .hbm, ⟨86, _⟩ => ⟨S8x8192x16, .f32⟩
  | .hbm, ⟨87, _⟩ => ⟨S8x8192x16, .f32⟩
  | .hbm, ⟨88, _⟩ => ⟨S8x8192x16, .f32⟩
  | .hbm, ⟨89, _⟩ => ⟨S8x8192x16, .f32⟩
  | .hbm, ⟨90, _⟩ => ⟨S8x8192x16, .f32⟩
  | .hbm, ⟨91, _⟩ => ⟨S1x1x16, .f32⟩
  | .hbm, ⟨92, _⟩ => ⟨S8x8192x16, .f32⟩
  | .hbm, ⟨93, _⟩ => ⟨S8x8192x16, .f32⟩
  | .hbm, ⟨94, _⟩ => ⟨S_, .f32⟩
  | .hbm, ⟨95, _⟩ => ⟨S8x8192x16, .f32⟩
  | .hbm, ⟨96, _⟩ => ⟨S8x8192x16, .f32⟩
  | .hbm, ⟨97, _⟩ => ⟨S8x8192x16, .f32⟩
  | .hbm, ⟨98, _⟩ => ⟨S8x8192x16, .f32⟩
  | .hbm, ⟨99, _⟩ => ⟨S8x8192x16, .i1⟩
  | .hbm, ⟨100, _⟩ => ⟨S8x8192x16, .f32⟩
  | .hbm, ⟨101, _⟩ => ⟨S8x8192x16, .f32⟩
  | .hbm, ⟨102, _⟩ => ⟨S8x8192x16, .f32⟩
  | .hbm, ⟨103, _⟩ => ⟨S8x8192x16, .f32⟩
  | .hbm, ⟨104, _⟩ => ⟨S8x8192x16, .f32⟩
  | .hbm, ⟨105, _⟩ => ⟨S8x8192x16, .f32⟩
  | .hbm, ⟨106, _⟩ => ⟨S8x8192x16, .f32⟩
  | .hbm, ⟨107, _⟩ => ⟨S8x8192x16, .f32⟩
  | .hbm, ⟨108, _⟩ => ⟨S_, .f32⟩
  | .hbm, ⟨109, _⟩ => ⟨S8x8192x80, .f32⟩
  | .hbm, ⟨110, _⟩ => ⟨S8x8192x128, .f32⟩
  | .hbm, ⟨111, _⟩ => ⟨S8x8192x1024, .bf16⟩
  | .hbm, ⟨112, _⟩ => ⟨S8x8192x512, .f32⟩
  | .hbm, ⟨113, _⟩ => ⟨S8x8192x512, .bf16⟩
  | .hbm, ⟨114, _⟩ => ⟨S_, .f32⟩
  | .hbm, ⟨115, _⟩ => ⟨S8x8192x512, .f32⟩
  | .hbm, ⟨116, _⟩ => ⟨S8x8192x512, .f32⟩
  | .hbm, ⟨117, _⟩ => ⟨S8x8192x1024, .bf16⟩
  | .hbm, ⟨118, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call3_cst : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_v64 : Ref sig .tc := ⟨.hbm, 107, rfl⟩
abbrev main_cst_0 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_1 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x256x1024 : Shape := ⟨3, ![8, 256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 20
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .bf16⟩
  | .hbm, ⟨2, _⟩ => ⟨S8x256x1024, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S1x1024, .f32⟩
  | .hbm, ⟨19, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x8192x1024 : Shape := ⟨3, ![8, 8192, 1024]⟩
abbrev S8x256x1024 : Shape := ⟨3, ![8, 256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S_ : Shape := ⟨0, ![]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .bf16⟩
  | .hbm, ⟨2, _⟩ => ⟨S8x256x1024, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S8x8192x1024, .f32⟩
  | .hbm, ⟨12, _⟩ => ⟨S8x8192x4x256, .f32⟩
  | .hbm, ⟨13, _⟩ => ⟨S8x256x1024, .f32⟩
  | .hbm, ⟨14, _⟩ => ⟨S8x256x4x256, .f32⟩
  | .hbm, ⟨15, _⟩ => ⟨S8x256x1024, .f32⟩
  | .hbm, ⟨16, _⟩ => ⟨S8x256x4x256, .f32⟩
  | .hbm, ⟨17, _⟩ => ⟨S8x4x8192x256, .f32⟩
  | .hbm, ⟨18, _⟩ => ⟨S_, .f32⟩
  | .hbm, ⟨19, _⟩ => ⟨S8x4x8192x256, .f32⟩
  | .hbm, ⟨20, _⟩ => ⟨S8x4x8192x256, .f32⟩
  | .hbm, ⟨21, _⟩ => ⟨S_, .f32⟩
  | .hbm, ⟨22, _⟩ => ⟨S8x4x8192, .f32⟩
  | .hbm, ⟨23, _⟩ => ⟨S_, .f32⟩
  | .hbm, ⟨24, _⟩ => ⟨S8x4x8192, .f32⟩
  | .hbm, ⟨25, _⟩ => ⟨S8x4x8192, .f32⟩
  | .hbm, ⟨26, _⟩ => ⟨S8x4x8192x1, .f32⟩
  | .hbm, ⟨27, _⟩ => ⟨S8x4x8192x256, .f32⟩
  | .hbm, ⟨28, _⟩ => ⟨S8x4x8192x256, .f32⟩
  | .hbm, ⟨29, _⟩ => ⟨S8x4x8192x256, .f32⟩
  | .hbm, ⟨30, _⟩ => ⟨S_, .f32⟩
  | .hbm, ⟨31, _⟩ => ⟨S8x4x8192, .f32⟩
  | .hbm, ⟨32, _⟩ => ⟨S8x4x8192x1, .f32⟩
  | .hbm, ⟨33, _⟩ => ⟨S8x4x8192x256, .f32⟩
  | .hbm, ⟨34, _⟩ => ⟨S8x4x8192x256, .f32⟩
  | .hbm, ⟨35, _⟩ => ⟨S8x4x256x8192, .f32⟩
  | .hbm, ⟨36, _⟩ => ⟨S8x8192x4x256, .f32⟩
  | .hbm, ⟨37, _⟩ => ⟨S8x8192x1024, .f32⟩
  | .hbm, ⟨38, _⟩ => ⟨S_, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x8192x1, .f32⟩
  | .hbm, ⟨64, _⟩ => ⟨S8x8192x1024, .f32⟩
  | .hbm, ⟨65, _⟩ => ⟨S8x8192x1024, .f32⟩
  | .hbm, ⟨66, _⟩ => ⟨S1x1x1024, .f32⟩
  | .hbm, ⟨67, _⟩ => ⟨S8x8192x1024, .f32⟩
  | .hbm, ⟨68, _⟩ => ⟨S8x8192x1024, .f32⟩
  | .hbm, ⟨69, _⟩ => ⟨S1x1x1024, .f32⟩
  | .hbm, ⟨70, _⟩ => ⟨S8x8192x1024, .f32⟩
  | .hbm, ⟨71, _⟩ => ⟨S8x8192x1024, .f32⟩
  | .hbm, ⟨72, _⟩ => ⟨S_, .f32⟩
  | .hbm, ⟨73, _⟩ => ⟨S8x8192x1024, .f32⟩
  | .hbm, ⟨74, _⟩ => ⟨S8x8192x1024, .f32⟩
  | .hbm, ⟨75, _⟩ => ⟨S8x8192x4096, .f32⟩
  | .hbm, ⟨76, _⟩ => ⟨S_, .f32⟩
  | .hbm, ⟨77, _⟩ => ⟨S8x8192x4096, .f32⟩
  | .hbm, ⟨78, _⟩ => ⟨S8x8192x4096, .f32⟩
  | .hbm, ⟨79, _⟩ => ⟨S8x8192x4096, .f32⟩
  | .hbm, ⟨80, _⟩ => ⟨S8x8192x1024, .f32⟩
  | .hbm, ⟨81, _⟩ => ⟨S8x8192x1024, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S_, .f32⟩
  | .hbm, ⟨86, _⟩ => ⟨S8x8192x1, .f32⟩
  | .hbm, ⟨87, _⟩ => ⟨S8x8192x1, .f32⟩
  | .hbm, ⟨88, _⟩ => ⟨S8x8192x1024, .f32⟩
  | .hbm, ⟨89, _⟩ => ⟨S8x8192x1024, .f32⟩
  | .hbm, ⟨90, _⟩ => ⟨S8x8192x1024, .f32⟩
  | .hbm, ⟨91, _⟩ => ⟨S_, .f32⟩
  | .hbm, ⟨92, _⟩ => ⟨S8x8192, .f32⟩
  | .hbm, ⟨93, _⟩ => ⟨S8x8192x1, .f32⟩
  | .hbm, ⟨94, _⟩ => ⟨S_, .f32⟩
  | .hbm, ⟨95, _⟩ => ⟨S8x8192x1, .f32⟩
  | .hbm, ⟨96, _⟩ => ⟨S8x8192x1, .f32⟩
  | .hbm, ⟨97, _⟩ => ⟨S8x8192x1024, .f32⟩
  | .hbm, ⟨98, _⟩ => ⟨S8x8192x1024, .f32⟩
  | .hbm, ⟨99, _⟩ => ⟨S_, .f32⟩
  | .hbm, ⟨100, _⟩ => ⟨S8x8192x1, .f32⟩
  | .hbm, ⟨101, _⟩ => ⟨S8x8192x1, .f32⟩
  | .hbm, ⟨102, _⟩ => ⟨S8x8192x1, .f32⟩
  | .hbm, ⟨103, _⟩ => ⟨S8x8192x1024, .f32⟩
  | .hbm, ⟨104, _⟩ => ⟨S8x8192x1024, .f32⟩
  | .hbm, ⟨105, _⟩ => ⟨S1x1x1024, .f32⟩
  | .hbm, ⟨106, _⟩ => ⟨S8x8192x1024, .f32⟩
  | .hbm, ⟨107, _⟩ => ⟨S8x8192x1024, .f32⟩
  | .hbm, ⟨108, _⟩ => ⟨S1x1x1024, .f32⟩
  | .hbm, ⟨109, _⟩ => ⟨S8x8192x1024, .f32⟩
  | .hbm, ⟨110, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_cst : Ref sig .tc := ⟨.hbm, 76, rfl⟩
abbrev main_call0_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== Kernel3.lean ====
abbrev S8x256x1024 : Shape := ⟨3, ![8, 256, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S8x256x1024, .bf16⟩
  | .hbm, ⟨6, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x256x1024 : Shape := ⟨3, ![8, 256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S8x256x1024, .f32⟩
  | .hbm, ⟨4, _⟩ => ⟨S8x256x1024, .bf16⟩
  | .hbm, ⟨5, _⟩ => ⟨S8x256x1024, .f32⟩
  | .hbm, ⟨6, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.ScanStages.lean ====
/- The backward scan over the extended reals in stages, for its second result: the gates, their sums over halves of chunks,
   the queries and keys with their decays, the weights inside a chunk, the state before a chunk and what a chunk gives. Then
   what a grid step gives, said with these stages. -/
module

public import proofs.«01_k».proof.Proof.Gen.Kernel1Ideal.Skeleton
public import Idealize.ShloMosaic.Lib.Pointwise
public import Idealize.ShloMosaic.Lib.Pipeline.ValueKit

@[expose] public section

set_option maxRecDepth 16384

noncomputable section

namespace Cert.Kernel1Ideal.Stage

open Cert.Kernel1Ideal Cert.Kernel1Ideal.Gen Idealize.ShloMosaic Idealize.ShloMosaic.TcCoe Idealize.SL.Sem
open Idealize.ShloMosaic.Pipeline (Dat)

/-- Sixty-four rows of a block. -/
theorem half_slices (h : ℕ) (hh : h < 8) : S512x512.Slices ![64 * h, 0] S64x512 := by
  interval_cases h <;> decide

/-- A chunk's rows and a head's columns of a block. -/
theorem chunk_slices (p h : ℕ) (hp : p < 4) (hh : h < 4) : S512x512.Slices ![128 * p, 128 * h] S128x128 := by
  interval_cases p <;> interval_cases h <;> decide

/-- A head's columns of a row. -/
theorem head_slices (h : ℕ) (hh : h < 4) : S1x512.Slices ![0, 128 * h] S1x128 := by
  interval_cases h <;> decide

/-- A half's later-sums, from three pieces of the gates. -/
def half (a b d : FVec Ideal S512x512 .bf16) (tri : FVec Ideal S64x192 .bf16) (h : ℕ) (hh : h < 8) : FVec Ideal S64x512 .f32 :=
  matmul dot_S64x192_S192x512_S64x512_1_0_0_1_n_n none tri
    (concatenate S192x512 0 [⟨S64x512, extractStridedSlice S64x512 ![64 * h, 0] a (half_slices h hh)⟩, ⟨S64x512, extractStridedSlice S64x512 ![64 * h, 0] b (half_slices h hh)⟩,
      ⟨S64x512, extractStridedSlice S64x512 ![64 * h, 0] d (half_slices h hh)⟩] concatenates_S64x512_S64x512_S64x512_S192x512_d0)
    (constant S64x512 .f32 0x00000000#32)

/-- A half's sum: its first row. -/
def first (u : FVec Ideal S64x512 .f32) : FVec Ideal S1x512 .f32 := extractStridedSlice S1x512 ![0, 0] u slices_S64x512_o0_0_S1x512

/-- The blocks a step is given. -/
structure Blocks where
  sm : Vec Ideal S1x512x128 .f32
  q : Vec Ideal S1x512x512 .f32
  k : Vec Ideal S1x512x512 .f32
  v : Vec Ideal S1x512x1024 .bf16
  w : Vec Ideal S128x512 .bf16
  b : Vec Ideal S1x512 .f32
  tri : Vec Ideal S64x192 .bf16

variable (X : Blocks)

/-- A half's later-sums of a step's gates. -/
def gh (h : ℕ) (hh : h < 8) : FVec Ideal S64x512 .f32 := half (k0_pay63 X.sm X.w X.b) (k0_pay65 X.sm X.w X.b) (k0_pay66 X.sm X.w X.b) (k0_pay67 X.tri) h hh

/-- A half's sum. -/
def tot (h : ℕ) (hh : h < 8) : FVec Ideal S1x512 .f32 := first (gh X h hh)

/-- All eight halves, one under the other. -/
def later : FVec Ideal S512x512 .f32 :=
  concatenate S512x512 0 [⟨S64x512, gh X 0 (by omega)⟩, ⟨S64x512, gh X 1 (by omega)⟩, ⟨S64x512, gh X 2 (by omega)⟩, ⟨S64x512, gh X 3 (by omega)⟩,
    ⟨S64x512, gh X 4 (by omega)⟩, ⟨S64x512, gh X 5 (by omega)⟩, ⟨S64x512, gh X 6 (by omega)⟩, ⟨S64x512, gh X 7 (by omega)⟩]
    concatenates_S64x512_S64x512_S64x512_S64x512_S64x512_S64x512_S64x512_S64x512_S512x512_d0

/-- Queries from their half's end. -/
def qt : FVec Ideal S512x512 .bf16 := k0_pay92 (later X) X.q
/-- Queries from their chunk's end. -/
def qs : FVec Ideal S512x512 .bf16 :=
  k0_pay93 (tot X 1 (by omega)) (tot X 3 (by omega)) (tot X 5 (by omega)) (tot X 7 (by omega)) k0_pay85 (later X) X.q
/-- Keys to their half's end. -/
def ke : FVec Ideal S512x512 .bf16 := k0_pay94 (later X) X.k
/-- The first half's sum on every row. -/
def b0 : FVec Ideal S64x512 .f32 := broadcastTo S64x512 (shapeCast S1x512 (tot X 0 (by omega)) shapeCasts_S1x512_S1x512) broadcasts_S1x512_S64x512
/-- Keys to their half's start. -/
def ks : FVec Ideal S512x512 .bf16 := k0_pay95 (tot X 1 (by omega)) (tot X 2 (by omega)) (tot X 3 (by omega)) (tot X 4 (by omega)) (tot X 5 (by omega)) (tot X 6 (by omega)) (tot X 7 (by omega)) (later X) (b0 X) X.k
/-- Keys to their chunk's start. -/
def kS : FVec Ideal S512x512 .bf16 := k0_pay96 (later X)
  (k0_pay88 (tot X 1 (by omega)) (tot X 2 (by omega)) (tot X 3 (by omega)) (tot X 4 (by omega)) (tot X 5 (by omega)) (tot X 6 (by omega)) (tot X 7 (by omega)) (b0 X))
  (k0_pay89 (tot X 0 (by omega)) (tot X 2 (by omega)) (tot X 4 (by omega)) (tot X 6 (by omega)) k0_pay85) (k0_pay90 X.k)

/-- A chunk's decay of a head's state. -/
def dec (p h : ℕ) (hp : p < 4) (hh : h < 4) : FVec Ideal S128x128 .f32 :=
  transpose S128x128 [1, 0] (broadcastTo S128x128 (shapeCast S1x128 (exp2 (extractStridedSlice S1x128 ![0, 128 * h]
    (addf (tot X (2 * p) (by omega)) (tot X (2 * p + 1) (by omega))) (head_slices h hh))) shapeCasts_S1x128_S1x128) broadcasts_S1x128_S128x128) transposes_S128x128_p1_0_S128x128

/-- The weights inside a chunk. -/
def att (p h : ℕ) (hp : p < 4) (hh : h < 4) : FVec Ideal S128x128 .bf16 :=
  let i0 := iota .tc S128x128 32 [0] iota_S128x128_d0_w32
  let i1 := iota .tc S128x128 32 [1] iota_S128x128_d1_w32
  let P := matmul dot_S128x128_S256x128_S128x256_1_1_0_0_n_n none (extractStridedSlice S128x128 ![128 * p, 128 * h] (qt X) (chunk_slices p h hp hh))
    (concatenate S256x128 0 [⟨S128x128, extractStridedSlice S128x128 ![128 * p, 128 * h] (ke X) (chunk_slices p h hp hh)⟩,
      ⟨S128x128, extractStridedSlice S128x128 ![128 * p, 128 * h] (ks X) (chunk_slices p h hp hh)⟩] concatenates_S128x128_S128x128_S256x128_d0) (constant S128x256 .f32 0x00000000#32)
  truncf .bf16 (select (k0_pay213 i0 i1 k0_pay212) (extractStridedSlice S128x128 ![0, 0] P slices_S128x256_o0_0_S128x128)
    (select (k0_pay214 k0_pay210 k0_pay211) (extractStridedSlice S128x128 ![0, 128] P slices_S128x256_o0_128_S128x128)
      (broadcast S128x128 (Scalar.ofBits .f32 0x00000000#32)))) bitsLt_bf16_f32

/-- A chunk's values of a head. -/
def vals (p h : ℕ) (hp : p < 4) (hh : h < 4) : FVec Ideal S128x256 .bf16 :=
  shapeCast S128x256 (View.ld X.v (Rect.unit ![0, 128 * p, 256 * h] S1x128x256.size (fun a => by fin_cases a <;> simp [Shape.size] <;> omega)))
    shapeCasts_S1x128x256_S128x256

/-- What a chunk adds to a head's state. -/
def upd (p h : ℕ) (hp : p < 4) (hh : h < 4) : FVec Ideal S128x256 .f32 :=
  matmul dot_S128x128_S128x256_S128x256_0_0_1_1_n_n none (extractStridedSlice S128x128 ![128 * p, 128 * h] (kS X) (chunk_slices p h hp hh))
    (vals X p h hp hh) (constant S128x256 .f32 0x00000000#32)

/-- A head's state after a chunk. -/
def move (p h : ℕ) (hp : p < 4) (hh : h < 4) (s : FVec Ideal S128x256 .f32) : FVec Ideal S128x256 .f32 :=
  addf (mulf s (concatenate S128x256 1 [⟨S128x128, dec X p h hp hh⟩, ⟨S128x128, dec X p h hp hh⟩] concatenates_S128x128_S128x128_S128x256_d1)) (upd X p h hp hh)

/-- What a chunk gives for a head. -/
def give (p h : ℕ) (hp : p < 4) (hh : h < 4) (s : FVec Ideal S128x256 .f32) : FVec Ideal S128x256 .f32 :=
  matmul dot_S128x256_S256x256_S128x256_1_0_0_1_n_n none
    (concatenate S128x256 1 [⟨S128x128, extractStridedSlice S128x128 ![128 * p, 128 * h] (qs X) (chunk_slices p h hp hh)⟩, ⟨S128x128, att X p h hp hh⟩] concatenates_S128x128_S128x128_S128x256_d1)
    (concatenate S256x256 0 [⟨S128x256, truncf .bf16 s bitsLt_bf16_f32⟩, ⟨S128x256, vals X p h hp hh⟩] concatenates_S128x256_S128x256_S256x256_d0)
    (constant S128x256 .f32 0x00000000#32)

/-- A head's state before each chunk of the block, the last chunk first. -/
def st (S : Fin 4 → FVec Ideal S128x256 .f32) (h : Fin 4) : ℕ → FVec Ideal S128x256 .f32
  | 0 => S h
  | n + 1 => if hn : n < 4 then move X (3 - n) h.val (by omega) h.isLt (st S h n) else st S h n

/-- The four heads' states of a stored state. -/
def load (Z : Vec Ideal S4x128x256 .f32) (h : Fin 4) : FVec Ideal S128x256 .f32 :=
  shapeCast S128x256 (View.ld Z (Rect.unit ![h.val, 0, 0] S1x128x256.size (fun a => by fin_cases a <;> simp [Shape.size] <;> omega))) shapeCasts_S1x128x256_S128x256

/-- A chunk's row of the result, its four heads side by side. -/
def row (S : Fin 4 → FVec Ideal S128x256 .f32) (p : ℕ) (hp : p < 4) : FVec Ideal S128x1024 .f32 :=
  concatenate S128x1024 1 [⟨S128x256, give X p 0 hp (by omega) (st X S 0 (3 - p))⟩, ⟨S128x256, give X p 1 hp (by omega) (st X S 1 (3 - p))⟩,
    ⟨S128x256, give X p 2 hp (by omega) (st X S 2 (3 - p))⟩, ⟨S128x256, give X p 3 hp (by omega) (st X S 3 (3 - p))⟩]
    concatenates_S128x256_S128x256_S128x256_S128x256_S128x1024_d1

/-- The result's block. -/
def block (S : Fin 4 → FVec Ideal S128x256 .f32) : FVec Ideal S1x512x1024 .bf16 :=
  shapeCast S1x512x1024 (truncf .bf16 (concatenate S512x1024 0 [⟨S128x1024, row X S 0 (by omega)⟩, ⟨S128x1024, row X S 1 (by omega)⟩, ⟨S128x1024, row X S 2 (by omega)⟩,
    ⟨S128x1024, row X S 3 (by omega)⟩] concatenates_S128x1024_S128x1024_S128x1024_S128x1024_S512x1024_d0) bitsLt_bf16_f32) shapeCasts_S512x1024_S1x512x1024

/-- A head's state as it is stored. -/
def keep (S : Fin 4 → FVec Ideal S128x256 .f32) (h : Fin 4) : FVec Ideal S1x128x256 .f32 :=
  shapeCast S1x128x256 (st X S h 4) shapeCasts_S128x256_S1x128x256

/-- The stored zeros a run of steps starts from. -/
def zeros : List (View.Piece (Elt Ideal) S4x128x256 .f32) :=
  [⟨Rect.unit ![0, 0, 0] S4x128x256.size inb_S4x128x256_S4x128x256_0_0_0, k0_pay4 (F := Ideal)⟩]

/-- A head's state read from the stored zeros. -/
def fresh (h : Fin 4) : FVec Ideal S128x256 .f32 :=
  shapeCast S128x256 ((View.whole cc0_scratch1).readCov zeros (Rect.unit (s := S4x128x256) ![h.val, 0, 0] S1x128x256.size (fun a => by fin_cases a <;> simp [Shape.size] <;> omega)).toLoadRect) shapeCasts_S1x128x256_S128x256

end Cert.Kernel1Ideal.Stage

end
-- ==== Proof.ScanParts.lean ====
/- What a grid step of the backward scan leaves in the second result's block and in the state, said with the stages. -/
module

public import proofs.«01_k».proof.Proof.ScanStages
public import proofs.«01_k».proof.Proof.Gen.Kernel1Ideal.Value
public import Idealize.ShloMosaic.Lib.Pointwise
public import Idealize.ShloMosaic.Lib.Pipeline.ValueKit

@[expose] public section

set_option maxRecDepth 16384

noncomputable section

namespace Cert.Kernel1Ideal.Stage

open Cert.Kernel1Ideal Cert.Kernel1Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The blocks of a grid point. -/
def at_ : Blocks := ⟨iblk m c 0 t, iblk m c 3 t, iblk m c 4 t, iblk m c 5 t, iblk m c 7 t, iblk m c 8 t, iblk m c 10 t⟩

/-- The blocks of a grid point, as the body loads them. -/
def raw_ : Blocks :=
  ⟨View.readAt (Elt Ideal) (ms0_0 t).view (Rect.unit ![0, 0, 0] S1x512x128.size inb_S1x512x128_S1x512x128_0_0_0).toLoadRect ((hs0_0 t).unread (iblk m c 0 t)),
   View.readAt (Elt Ideal) (ms0_3 t).view (Rect.unit ![0, 0, 0] S1x512x512.size inb_S1x512x512_S1x512x512_0_0_0).toLoadRect ((hs0_3 t).unread (iblk m c 3 t)),
   View.readAt (Elt Ideal) (ms0_4 t).view (Rect.unit ![0, 0, 0] S1x512x512.size inb_S1x512x512_S1x512x512_0_0_0).toLoadRect ((hs0_4 t).unread (iblk m c 4 t)),
   View.read (Elt Ideal) (ms0_5 t).view ((hs0_5 t).unread (iblk m c 5 t)),
   View.readAt (Elt Ideal) (ms0_7 t).view (Rect.unit ![0, 0] S128x512.size inb_S128x512_S128x512_0_0).toLoadRect ((hs0_7 t).unread (iblk m c 7 t)),
   View.readAt (Elt Ideal) (ms0_8 t).view (Rect.unit ![0, 0] S1x512.size inb_S1x512_S1x512_0_0).toLoadRect ((hs0_8 t).unread (iblk m c 8 t)),
   View.readAt (Elt Ideal) (ms0_10 t).view (Rect.unit ![0, 0] S64x192.size inb_S64x192_S64x192_0_0).toLoadRect ((hs0_10 t).unread (iblk m c 10 t))⟩

/-- A load of a whole block is the block. -/
theorem load_whole {s : Shape} {e : EltTy} (M : Memref sig .tc .vmem s e) (h : M.IsWhole) {off : Fin s.rank → ℕ} (inb : ∀ a, off a + s.size a ≤ s.size a)
    (x : Vec Ideal s e) (h0 : ∀ a, off a = 0) : View.readAt (Elt Ideal) M.view (Rect.unit off s.size inb).toLoadRect (h.unread x) = x := by
  rw [View.readAt_eq_ld, View.ld_unit_lit' _ _ h0, h.read_unread]

/-- They are the blocks. -/
theorem raw_eq : raw_ m c t = at_ m c t := by
  unfold raw_ at_
  rw [load_whole (ms0_0 t) (hs0_0 t) inb_S1x512x128_S1x512x128_0_0_0 (iblk m c 0 t) (by decide),
    load_whole (ms0_3 t) (hs0_3 t) inb_S1x512x512_S1x512x512_0_0_0 (iblk m c 3 t) (by decide),
    load_whole (ms0_4 t) (hs0_4 t) inb_S1x512x512_S1x512x512_0_0_0 (iblk m c 4 t) (by decide),
    (hs0_5 t).read_unread (iblk m c 5 t),
    load_whole (ms0_7 t) (hs0_7 t) inb_S128x512_S128x512_0_0 (iblk m c 7 t) (by decide),
    load_whole (ms0_8 t) (hs0_8 t) inb_S1x512_S1x512_0_0 (iblk m c 8 t) (by decide),
    load_whole (ms0_10 t) (hs0_10 t) inb_S64x192_S64x192_0_0 (iblk m c 10 t) (by decide)]

/-- A head's state read from the state a step is left. -/
def back (Z : Vec Ideal S4x128x256 .f32) (h : Fin 4) : FVec Ideal S128x256 .f32 :=
  shapeCast S128x256 (View.readAt (Elt Ideal) scM0_1.view (Rect.unit (s := S4x128x256) ![h.val, 0, 0] S1x128x256.size (fun a => by fin_cases a <;> simp [Shape.size] <;> omega)).toLoadRect
    ((Memref.isWhole_whole cc0_scratch1).unread Z)) shapeCasts_S1x128x256_S128x256

/-- It is the state's head. -/
theorem back_eq (Z : Vec Ideal S4x128x256 .f32) : back Z = load Z := by
  funext h
  unfold back load
  rw [View.readAt_eq_ld, (Memref.isWhole_whole cc0_scratch1).read_unread]

end Cert.Kernel1Ideal.Stage

end
-- ==== Proof.ScanStepA.lean ====
/- The values of the first step of a run, one after the other, are the stages. -/
module

public import proofs.«01_k».proof.Proof.ScanParts
public import proofs.«01_k».proof.Proof.Gen.Kernel1Ideal.Value
public import Idealize.ShloMosaic.Lib.Pointwise
public import Idealize.ShloMosaic.Lib.Pipeline.ValueKit

@[expose] public section

set_option maxRecDepth 16384

noncomputable section

namespace Cert.Kernel1Ideal.Stage

open Cert.Kernel1Ideal Cert.Kernel1Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- A piece of the gates. -/
theorem A_r_13 : kernelRun0_A.sl.r_13 c (ms0_0 t) (hs0_0 t) (ms0_7 t) (hs0_7 t) (ms0_8 t) (hs0_8 t) (iblk m c 0 t) (iblk m c 7 t) (iblk m c 8 t) = k0_pay63 (raw_ m c t).sm (raw_ m c t).w (raw_ m c t).b := by
  delta kernelRun0_A.sl.r_13
  rfl

/-- A piece of the gates. -/
theorem A_r_14 : kernelRun0_A.sl.r_14 c (ms0_0 t) (hs0_0 t) (ms0_7 t) (hs0_7 t) (ms0_8 t) (hs0_8 t) (iblk m c 0 t) (iblk m c 7 t) (iblk m c 8 t) = k0_pay65 (raw_ m c t).sm (raw_ m c t).w (raw_ m c t).b := by
  delta kernelRun0_A.sl.r_14
  rfl

/-- A piece of the gates. -/
theorem A_r_15 : kernelRun0_A.sl.r_15 c (ms0_0 t) (hs0_0 t) (ms0_7 t) (hs0_7 t) (ms0_8 t) (hs0_8 t) (iblk m c 0 t) (iblk m c 7 t) (iblk m c 8 t) = k0_pay66 (raw_ m c t).sm (raw_ m c t).w (raw_ m c t).b := by
  delta kernelRun0_A.sl.r_15
  rfl

/-- The triangle. -/
theorem A_r_16 : kernelRun0_A.sl.r_16 c (ms0_10 t) (hs0_10 t) (iblk m c 10 t) = k0_pay67 (raw_ m c t).tri := by
  delta kernelRun0_A.sl.r_16
  rfl

/-- The first rows of the first piece. -/
theorem A_r_17 : kernelRun0_A.sl.r_17 c (ms0_0 t) (hs0_0 t) (ms0_7 t) (hs0_7 t) (ms0_8 t) (hs0_8 t) (iblk m c 0 t) (iblk m c 7 t) (iblk m c 8 t) = extractStridedSlice S64x512 ![64 * 0, 0] (k0_pay63 (raw_ m c t).sm (raw_ m c t).w (raw_ m c t).b) (half_slices 0 (by omega)) := rfl

/-- A half's later-sums. -/
theorem A_v177 : kernelRun0_A.sl.v177 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 0 (by omega) := by
  delta kernelRun0_A.sl.v177 kernelRun0_A.sl.v176 kernelRun0_A.sl.v174 kernelRun0_A.sl.v175 kernelRun0_A.sl.cst_55 gh half
  rw [A_r_17, A_r_14, A_r_15, A_r_16]

/-- A half's later-sums. -/
theorem A_v183 : kernelRun0_A.sl.v183 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 1 (by omega) := by
  delta kernelRun0_A.sl.v183 kernelRun0_A.sl.v182 kernelRun0_A.sl.v179 kernelRun0_A.sl.v180 kernelRun0_A.sl.v181 kernelRun0_A.sl.cst_55 gh half
  rw [A_r_13, A_r_14, A_r_15, A_r_16]

/-- A half's later-sums. -/
theorem A_v189 : kernelRun0_A.sl.v189 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 2 (by omega) := by
  delta kernelRun0_A.sl.v189 kernelRun0_A.sl.v188 kernelRun0_A.sl.v185 kernelRun0_A.sl.v186 kernelRun0_A.sl.v187 kernelRun0_A.sl.cst_55 gh half
  rw [A_r_13, A_r_14, A_r_15, A_r_16]

/-- A half's later-sums. -/
theorem A_v195 : kernelRun0_A.sl.v195 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 3 (by omega) := by
  delta kernelRun0_A.sl.v195 kernelRun0_A.sl.v194 kernelRun0_A.sl.v191 kernelRun0_A.sl.v192 kernelRun0_A.sl.v193 kernelRun0_A.sl.cst_55 gh half
  rw [A_r_13, A_r_14, A_r_15, A_r_16]

/-- A half's later-sums. -/
theorem A_v201 : kernelRun0_A.sl.v201 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 4 (by omega) := by
  delta kernelRun0_A.sl.v201 kernelRun0_A.sl.v200 kernelRun0_A.sl.v197 kernelRun0_A.sl.v198 kernelRun0_A.sl.v199 kernelRun0_A.sl.cst_55 gh half
  rw [A_r_13, A_r_14, A_r_15, A_r_16]

/-- A half's later-sums. -/
theorem A_v207 : kernelRun0_A.sl.v207 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 5 (by omega) := by
  delta kernelRun0_A.sl.v207 kernelRun0_A.sl.v206 kernelRun0_A.sl.v203 kernelRun0_A.sl.v204 kernelRun0_A.sl.v205 kernelRun0_A.sl.cst_55 gh half
  rw [A_r_13, A_r_14, A_r_15, A_r_16]

/-- A half's later-sums. -/
theorem A_v213 : kernelRun0_A.sl.v213 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 6 (by omega) := by
  delta kernelRun0_A.sl.v213 kernelRun0_A.sl.v212 kernelRun0_A.sl.v209 kernelRun0_A.sl.v210 kernelRun0_A.sl.v211 kernelRun0_A.sl.cst_55 gh half
  rw [A_r_13, A_r_14, A_r_15, A_r_16]

/-- A half's later-sums. -/
theorem A_v219 : kernelRun0_A.sl.v219 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 7 (by omega) := by
  delta kernelRun0_A.sl.v219 kernelRun0_A.sl.v218 kernelRun0_A.sl.v215 kernelRun0_A.sl.v216 kernelRun0_A.sl.v217 kernelRun0_A.sl.cst_55 gh half
  rw [A_r_13, A_r_14, A_r_15, A_r_16]

/-- A half's sum. -/
theorem A_v178 : kernelRun0_A.sl.v178 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 0 (by omega) := by
  delta kernelRun0_A.sl.v178 tot first
  rw [A_v177]

/-- A half's sum. -/
theorem A_v184 : kernelRun0_A.sl.v184 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 1 (by omega) := by
  delta kernelRun0_A.sl.v184 tot first
  rw [A_v183]

/-- A half's sum. -/
theorem A_v190 : kernelRun0_A.sl.v190 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 2 (by omega) := by
  delta kernelRun0_A.sl.v190 tot first
  rw [A_v189]

/-- A half's sum. -/
theorem A_v196 : kernelRun0_A.sl.v196 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 3 (by omega) := by
  delta kernelRun0_A.sl.v196 tot first
  rw [A_v195]

/-- A half's sum. -/
theorem A_v202 : kernelRun0_A.sl.v202 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 4 (by omega) := by
  delta kernelRun0_A.sl.v202 tot first
  rw [A_v201]

/-- A half's sum. -/
theorem A_v208 : kernelRun0_A.sl.v208 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 5 (by omega) := by
  delta kernelRun0_A.sl.v208 tot first
  rw [A_v207]

/-- A half's sum. -/
theorem A_v214 : kernelRun0_A.sl.v214 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 6 (by omega) := by
  delta kernelRun0_A.sl.v214 tot first
  rw [A_v213]

/-- A half's sum. -/
theorem A_v220 : kernelRun0_A.sl.v220 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 7 (by omega) := by
  delta kernelRun0_A.sl.v220 tot first
  rw [A_v219]

/-- All the halves. -/
theorem A_v222 : kernelRun0_A.sl.v222 c (ms0_0 t) (hs0_0 t) (ms0_7 t) (hs0_7 t) (ms0_8 t) (hs0_8 t) (ms0_10 t) (hs0_10 t) (iblk m c 0 t) (iblk m c 7 t) (iblk m c 8 t) (iblk m c 10 t) = later (raw_ m c t) := by
  delta kernelRun0_A.sl.v222 later
  rw [A_v177, A_v183, A_v189, A_v195, A_v201, A_v207, A_v213, A_v219]

/-- The queries from their half. -/
theorem A_v264 : kernelRun0_A.sl.v264 c (ms0_0 t) (hs0_0 t) (ms0_3 t) (hs0_3 t) (ms0_7 t) (hs0_7 t) (ms0_8 t) (hs0_8 t) (ms0_10 t) (hs0_10 t) (iblk m c 0 t) (iblk m c 3 t) (iblk m c 7 t) (iblk m c 8 t) (iblk m c 10 t) = qt (raw_ m c t) := by
  delta kernelRun0_A.sl.v264 kernelRun0_A.sl.v263 kernelRun0_A.sl.v261 kernelRun0_A.sl.v262 qt
  rw [A_v222]
  rfl

/-- The queries from their chunk. -/
theorem A_v268 : kernelRun0_A.sl.v268 c (ms0_0 t) (hs0_0 t) (ms0_3 t) (hs0_3 t) (ms0_7 t) (hs0_7 t) (ms0_8 t) (hs0_8 t) (ms0_10 t) (hs0_10 t) (iblk m c 0 t) (iblk m c 3 t) (iblk m c 7 t) (iblk m c 8 t) (iblk m c 10 t) = qs (raw_ m c t) := by
  delta kernelRun0_A.sl.v268 kernelRun0_A.sl.v267 kernelRun0_A.sl.v261 kernelRun0_A.sl.v266 kernelRun0_A.sl.v265 kernelRun0_A.sl.v248 kernelRun0_A.sl.v226 kernelRun0_A.sl.v225 kernelRun0_A.sl.v221 kernelRun0_A.sl.cst_63 kernelRun0_A.sl.v230 kernelRun0_A.sl.v229 kernelRun0_A.sl.v234 kernelRun0_A.sl.v233 kernelRun0_A.sl.v238 kernelRun0_A.sl.v237 qs
  rw [A_v184, A_v196, A_v208, A_v220, A_v222]
  rfl

/-- The keys to their half. -/
theorem A_v273 : kernelRun0_A.sl.v273 c (ms0_0 t) (hs0_0 t) (ms0_4 t) (hs0_4 t) (ms0_7 t) (hs0_7 t) (ms0_8 t) (hs0_8 t) (ms0_10 t) (hs0_10 t) (iblk m c 0 t) (iblk m c 4 t) (iblk m c 7 t) (iblk m c 8 t) (iblk m c 10 t) = ke (raw_ m c t) := by
  delta kernelRun0_A.sl.v273 kernelRun0_A.sl.v272 kernelRun0_A.sl.v259 kernelRun0_A.sl.v271 kernelRun0_A.sl.v270 kernelRun0_A.sl.v269 kernelRun0_A.sl.cst_63 ke
  rw [A_v222]
  rfl

/-- The keys to their half's start. -/
theorem A_v277 : kernelRun0_A.sl.v277 c (ms0_0 t) (hs0_0 t) (ms0_4 t) (hs0_4 t) (ms0_7 t) (hs0_7 t) (ms0_8 t) (hs0_8 t) (ms0_10 t) (hs0_10 t) (iblk m c 0 t) (iblk m c 4 t) (iblk m c 7 t) (iblk m c 8 t) (iblk m c 10 t) = ks (raw_ m c t) := by
  delta kernelRun0_A.sl.v277 kernelRun0_A.sl.v276 kernelRun0_A.sl.v259 kernelRun0_A.sl.v275 kernelRun0_A.sl.v274 kernelRun0_A.sl.v239 kernelRun0_A.sl.v224 kernelRun0_A.sl.v223 kernelRun0_A.sl.v226 kernelRun0_A.sl.v225 kernelRun0_A.sl.v228 kernelRun0_A.sl.v227 kernelRun0_A.sl.v230 kernelRun0_A.sl.v229 kernelRun0_A.sl.v232 kernelRun0_A.sl.v231 kernelRun0_A.sl.v234 kernelRun0_A.sl.v233 kernelRun0_A.sl.v236 kernelRun0_A.sl.v235 kernelRun0_A.sl.v238 kernelRun0_A.sl.v237 ks b0
  rw [A_v178, A_v184, A_v190, A_v196, A_v202, A_v208, A_v214, A_v220, A_v222]
  rfl

/-- The keys to their chunk's start. -/
theorem A_v282 : kernelRun0_A.sl.v282 c (ms0_0 t) (hs0_0 t) (ms0_4 t) (hs0_4 t) (ms0_7 t) (hs0_7 t) (ms0_8 t) (hs0_8 t) (ms0_10 t) (hs0_10 t) (iblk m c 0 t) (iblk m c 4 t) (iblk m c 7 t) (iblk m c 8 t) (iblk m c 10 t) = kS (raw_ m c t) := by
  delta kernelRun0_A.sl.v282 kernelRun0_A.sl.v281 kernelRun0_A.sl.v259 kernelRun0_A.sl.v280 kernelRun0_A.sl.v279 kernelRun0_A.sl.v274 kernelRun0_A.sl.v239 kernelRun0_A.sl.v224 kernelRun0_A.sl.v223 kernelRun0_A.sl.v226 kernelRun0_A.sl.v225 kernelRun0_A.sl.v228 kernelRun0_A.sl.v227 kernelRun0_A.sl.v230 kernelRun0_A.sl.v229 kernelRun0_A.sl.v232 kernelRun0_A.sl.v231 kernelRun0_A.sl.v234 kernelRun0_A.sl.v233 kernelRun0_A.sl.v236 kernelRun0_A.sl.v235 kernelRun0_A.sl.v238 kernelRun0_A.sl.v237 kernelRun0_A.sl.v257 kernelRun0_A.sl.v221 kernelRun0_A.sl.cst_63 kS b0
  rw [A_v178, A_v184, A_v190, A_v196, A_v202, A_v208, A_v214, A_v220, A_v222]
  rfl

/-- A head's state as it is loaded. -/
theorem A_r_2 : kernelRun0_A.sl.r_2 c scM0_1 = fresh 0 := by
  delta kernelRun0_A.sl.r_2 kernelRun0_A.sl.v7 kernelRun0_A.sl.HS1_1
  rfl

/-- A head's state as it is loaded. -/
theorem A_r_3 : kernelRun0_A.sl.r_3 c scM0_1 = fresh 1 := by
  delta kernelRun0_A.sl.r_3 kernelRun0_A.sl.v9 kernelRun0_A.sl.HS1_1
  rfl

/-- A head's state as it is loaded. -/
theorem A_r_4 : kernelRun0_A.sl.r_4 c scM0_1 = fresh 2 := by
  delta kernelRun0_A.sl.r_4 kernelRun0_A.sl.v11 kernelRun0_A.sl.HS1_1
  rfl

/-- A head's state as it is loaded. -/
theorem A_r_5 : kernelRun0_A.sl.r_5 c scM0_1 = fresh 3 := by
  delta kernelRun0_A.sl.r_5 kernelRun0_A.sl.v13 kernelRun0_A.sl.HS1_1
  rfl

/-- A chunk's values of a head. -/
theorem A_v1272 : kernelRun0_A.sl.v1272 c (ms0_5 t) (hs0_5 t) (iblk m c 5 t) = vals (raw_ m c t) 0 0 (by omega) (by omega) := by
  delta kernelRun0_A.sl.v1272
  rfl

/-- A chunk's values of a head. -/
theorem A_v1287 : kernelRun0_A.sl.v1287 c (ms0_5 t) (hs0_5 t) (iblk m c 5 t) = vals (raw_ m c t) 0 1 (by omega) (by omega) := by
  delta kernelRun0_A.sl.v1287
  rfl

/-- A chunk's values of a head. -/
theorem A_v1302 : kernelRun0_A.sl.v1302 c (ms0_5 t) (hs0_5 t) (iblk m c 5 t) = vals (raw_ m c t) 0 2 (by omega) (by omega) := by
  delta kernelRun0_A.sl.v1302
  rfl

/-- A chunk's values of a head. -/
theorem A_v1317 : kernelRun0_A.sl.v1317 c (ms0_5 t) (hs0_5 t) (iblk m c 5 t) = vals (raw_ m c t) 0 3 (by omega) (by omega) := by
  delta kernelRun0_A.sl.v1317
  rfl

/-- A chunk's values of a head. -/
theorem A_v1344 : kernelRun0_A.sl.v1344 c (ms0_5 t) (hs0_5 t) (iblk m c 5 t) = vals (raw_ m c t) 1 0 (by omega) (by omega) := by
  delta kernelRun0_A.sl.v1344
  rfl

/-- A chunk's values of a head. -/
theorem A_v1359 : kernelRun0_A.sl.v1359 c (ms0_5 t) (hs0_5 t) (iblk m c 5 t) = vals (raw_ m c t) 1 1 (by omega) (by omega) := by
  delta kernelRun0_A.sl.v1359
  rfl

/-- A chunk's values of a head. -/
theorem A_v1374 : kernelRun0_A.sl.v1374 c (ms0_5 t) (hs0_5 t) (iblk m c 5 t) = vals (raw_ m c t) 1 2 (by omega) (by omega) := by
  delta kernelRun0_A.sl.v1374
  rfl

/-- A chunk's values of a head. -/
theorem A_v1389 : kernelRun0_A.sl.v1389 c (ms0_5 t) (hs0_5 t) (iblk m c 5 t) = vals (raw_ m c t) 1 3 (by omega) (by omega) := by
  delta kernelRun0_A.sl.v1389
  rfl

/-- A chunk's values of a head. -/
theorem A_v1416 : kernelRun0_A.sl.v1416 c (ms0_5 t) (hs0_5 t) (iblk m c 5 t) = vals (raw_ m c t) 2 0 (by omega) (by omega) := by
  delta kernelRun0_A.sl.v1416
  rfl

/-- A chunk's values of a head. -/
theorem A_v1431 : kernelRun0_A.sl.v1431 c (ms0_5 t) (hs0_5 t) (iblk m c 5 t) = vals (raw_ m c t) 2 1 (by omega) (by omega) := by
  delta kernelRun0_A.sl.v1431
  rfl

/-- A chunk's values of a head. -/
theorem A_v1446 : kernelRun0_A.sl.v1446 c (ms0_5 t) (hs0_5 t) (iblk m c 5 t) = vals (raw_ m c t) 2 2 (by omega) (by omega) := by
  delta kernelRun0_A.sl.v1446
  rfl

/-- A chunk's values of a head. -/
theorem A_v1461 : kernelRun0_A.sl.v1461 c (ms0_5 t) (hs0_5 t) (iblk m c 5 t) = vals (raw_ m c t) 2 3 (by omega) (by omega) := by
  delta kernelRun0_A.sl.v1461
  rfl

/-- A chunk's values of a head. -/
theorem A_v1488 : kernelRun0_A.sl.v1488 c (ms0_5 t) (hs0_5 t) (iblk m c 5 t) = vals (raw_ m c t) 3 0 (by omega) (by omega) := by
  delta kernelRun0_A.sl.v1488
  rfl

/-- A chunk's values of a head. -/
theorem A_v1503 : kernelRun0_A.sl.v1503 c (ms0_5 t) (hs0_5 t) (iblk m c 5 t) = vals (raw_ m c t) 3 1 (by omega) (by omega) := by
  delta kernelRun0_A.sl.v1503
  rfl

/-- A chunk's values of a head. -/
theorem A_v1518 : kernelRun0_A.sl.v1518 c (ms0_5 t) (hs0_5 t) (iblk m c 5 t) = vals (raw_ m c t) 3 2 (by omega) (by omega) := by
  delta kernelRun0_A.sl.v1518
  rfl

/-- A chunk's values of a head. -/
theorem A_v1533 : kernelRun0_A.sl.v1533 c (ms0_5 t) (hs0_5 t) (iblk m c 5 t) = vals (raw_ m c t) 3 3 (by omega) (by omega) := by
  delta kernelRun0_A.sl.v1533
  rfl

/-- What a chunk gives for a head. -/
theorem A_v1673 : kernelRun0_A.sl.v1673 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 3 0 (by omega) (by omega) (st (raw_ m c t) fresh 0 0) := by
  delta kernelRun0_A.sl.v1673 kernelRun0_A.sl.v1668 kernelRun0_A.sl.v1667 kernelRun0_A.sl.v1485 kernelRun0_A.sl.v1484 kernelRun0_A.sl.v1256 kernelRun0_A.sl.v1253 kernelRun0_A.sl.v379 kernelRun0_A.sl.v1249 kernelRun0_A.sl.v380 kernelRun0_A.sl.cst_230 kernelRun0_A.sl.v1480 kernelRun0_A.sl.v1479 kernelRun0_A.sl.v1475 kernelRun0_A.sl.v1478 kernelRun0_A.sl.v1476 kernelRun0_A.sl.v1477 kernelRun0_A.sl.cst_232 kernelRun0_A.sl.v1483 kernelRun0_A.sl.v1258 kernelRun0_A.sl.v1257 kernelRun0_A.sl.v1481 kernelRun0_A.sl.v1266 kernelRun0_A.sl.cst_63 kernelRun0_A.sl.v1672 kernelRun0_A.sl.v1669 give att
  rw [A_v264, A_v273, A_v277, A_v268, A_v1488, A_r_2]
  rfl

/-- A head's state after a chunk. -/
theorem A_v1676 : kernelRun0_A.sl.v1676 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 0 1 := by
  show _ = move (raw_ m c t) 3 0 (by omega) (by omega) (st (raw_ m c t) fresh 0 0)
  delta kernelRun0_A.sl.v1676 kernelRun0_A.sl.v1675 kernelRun0_A.sl.v1674 kernelRun0_A.sl.v360 kernelRun0_A.sl.v359 kernelRun0_A.sl.v358 kernelRun0_A.sl.v357 kernelRun0_A.sl.v356 kernelRun0_A.sl.v355 kernelRun0_A.sl.v1489 kernelRun0_A.sl.v1486 kernelRun0_A.sl.cst_232 move dec upd
  rw [A_v214, A_v220, A_v282, A_v1488, A_r_2]
  rfl

/-- What a chunk gives for a head. -/
theorem A_v1683 : kernelRun0_A.sl.v1683 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 3 1 (by omega) (by omega) (st (raw_ m c t) fresh 1 0) := by
  delta kernelRun0_A.sl.v1683 kernelRun0_A.sl.v1678 kernelRun0_A.sl.v1677 kernelRun0_A.sl.v1500 kernelRun0_A.sl.v1499 kernelRun0_A.sl.v1256 kernelRun0_A.sl.v1253 kernelRun0_A.sl.v379 kernelRun0_A.sl.v1249 kernelRun0_A.sl.v380 kernelRun0_A.sl.cst_230 kernelRun0_A.sl.v1495 kernelRun0_A.sl.v1494 kernelRun0_A.sl.v1490 kernelRun0_A.sl.v1493 kernelRun0_A.sl.v1491 kernelRun0_A.sl.v1492 kernelRun0_A.sl.cst_232 kernelRun0_A.sl.v1498 kernelRun0_A.sl.v1258 kernelRun0_A.sl.v1257 kernelRun0_A.sl.v1496 kernelRun0_A.sl.v1266 kernelRun0_A.sl.cst_63 kernelRun0_A.sl.v1682 kernelRun0_A.sl.v1679 give att
  rw [A_v264, A_v273, A_v277, A_v268, A_v1503, A_r_3]
  rfl

/-- A head's state after a chunk. -/
theorem A_v1686 : kernelRun0_A.sl.v1686 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 1 1 := by
  show _ = move (raw_ m c t) 3 1 (by omega) (by omega) (st (raw_ m c t) fresh 1 0)
  delta kernelRun0_A.sl.v1686 kernelRun0_A.sl.v1685 kernelRun0_A.sl.v1684 kernelRun0_A.sl.v366 kernelRun0_A.sl.v365 kernelRun0_A.sl.v364 kernelRun0_A.sl.v363 kernelRun0_A.sl.v362 kernelRun0_A.sl.v355 kernelRun0_A.sl.v1504 kernelRun0_A.sl.v1501 kernelRun0_A.sl.cst_232 move dec upd
  rw [A_v214, A_v220, A_v282, A_v1503, A_r_3]
  rfl

/-- What a chunk gives for a head. -/
theorem A_v1693 : kernelRun0_A.sl.v1693 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 3 2 (by omega) (by omega) (st (raw_ m c t) fresh 2 0) := by
  delta kernelRun0_A.sl.v1693 kernelRun0_A.sl.v1688 kernelRun0_A.sl.v1687 kernelRun0_A.sl.v1515 kernelRun0_A.sl.v1514 kernelRun0_A.sl.v1256 kernelRun0_A.sl.v1253 kernelRun0_A.sl.v379 kernelRun0_A.sl.v1249 kernelRun0_A.sl.v380 kernelRun0_A.sl.cst_230 kernelRun0_A.sl.v1510 kernelRun0_A.sl.v1509 kernelRun0_A.sl.v1505 kernelRun0_A.sl.v1508 kernelRun0_A.sl.v1506 kernelRun0_A.sl.v1507 kernelRun0_A.sl.cst_232 kernelRun0_A.sl.v1513 kernelRun0_A.sl.v1258 kernelRun0_A.sl.v1257 kernelRun0_A.sl.v1511 kernelRun0_A.sl.v1266 kernelRun0_A.sl.cst_63 kernelRun0_A.sl.v1692 kernelRun0_A.sl.v1689 give att
  rw [A_v264, A_v273, A_v277, A_v268, A_v1518, A_r_4]
  rfl

/-- A head's state after a chunk. -/
theorem A_v1696 : kernelRun0_A.sl.v1696 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 2 1 := by
  show _ = move (raw_ m c t) 3 2 (by omega) (by omega) (st (raw_ m c t) fresh 2 0)
  delta kernelRun0_A.sl.v1696 kernelRun0_A.sl.v1695 kernelRun0_A.sl.v1694 kernelRun0_A.sl.v372 kernelRun0_A.sl.v371 kernelRun0_A.sl.v370 kernelRun0_A.sl.v369 kernelRun0_A.sl.v368 kernelRun0_A.sl.v355 kernelRun0_A.sl.v1519 kernelRun0_A.sl.v1516 kernelRun0_A.sl.cst_232 move dec upd
  rw [A_v214, A_v220, A_v282, A_v1518, A_r_4]
  rfl

/-- What a chunk gives for a head. -/
theorem A_v1703 : kernelRun0_A.sl.v1703 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 3 3 (by omega) (by omega) (st (raw_ m c t) fresh 3 0) := by
  delta kernelRun0_A.sl.v1703 kernelRun0_A.sl.v1698 kernelRun0_A.sl.v1697 kernelRun0_A.sl.v1530 kernelRun0_A.sl.v1529 kernelRun0_A.sl.v1256 kernelRun0_A.sl.v1253 kernelRun0_A.sl.v379 kernelRun0_A.sl.v1249 kernelRun0_A.sl.v380 kernelRun0_A.sl.cst_230 kernelRun0_A.sl.v1525 kernelRun0_A.sl.v1524 kernelRun0_A.sl.v1520 kernelRun0_A.sl.v1523 kernelRun0_A.sl.v1521 kernelRun0_A.sl.v1522 kernelRun0_A.sl.cst_232 kernelRun0_A.sl.v1528 kernelRun0_A.sl.v1258 kernelRun0_A.sl.v1257 kernelRun0_A.sl.v1526 kernelRun0_A.sl.v1266 kernelRun0_A.sl.cst_63 kernelRun0_A.sl.v1702 kernelRun0_A.sl.v1699 give att
  rw [A_v264, A_v273, A_v277, A_v268, A_v1533, A_r_5]
  rfl

/-- A head's state after a chunk. -/
theorem A_v1706 : kernelRun0_A.sl.v1706 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 3 1 := by
  show _ = move (raw_ m c t) 3 3 (by omega) (by omega) (st (raw_ m c t) fresh 3 0)
  delta kernelRun0_A.sl.v1706 kernelRun0_A.sl.v1705 kernelRun0_A.sl.v1704 kernelRun0_A.sl.v378 kernelRun0_A.sl.v377 kernelRun0_A.sl.v376 kernelRun0_A.sl.v375 kernelRun0_A.sl.v374 kernelRun0_A.sl.v355 kernelRun0_A.sl.v1534 kernelRun0_A.sl.v1531 kernelRun0_A.sl.cst_232 move dec upd
  rw [A_v214, A_v220, A_v282, A_v1533, A_r_5]
  rfl

/-- A chunk's row. -/
theorem A_v1707 : kernelRun0_A.sl.v1707 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = row (raw_ m c t) fresh 3 (by omega) := by
  delta kernelRun0_A.sl.v1707 row
  rw [A_v1673, A_v1683, A_v1693, A_v1703]

/-- What a chunk gives for a head. -/
theorem A_v1714 : kernelRun0_A.sl.v1714 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 2 0 (by omega) (by omega) (st (raw_ m c t) fresh 0 1) := by
  delta kernelRun0_A.sl.v1714 kernelRun0_A.sl.v1709 kernelRun0_A.sl.v1708 kernelRun0_A.sl.v1413 kernelRun0_A.sl.v1412 kernelRun0_A.sl.v1256 kernelRun0_A.sl.v1253 kernelRun0_A.sl.v379 kernelRun0_A.sl.v1249 kernelRun0_A.sl.v380 kernelRun0_A.sl.cst_230 kernelRun0_A.sl.v1408 kernelRun0_A.sl.v1407 kernelRun0_A.sl.v1403 kernelRun0_A.sl.v1406 kernelRun0_A.sl.v1404 kernelRun0_A.sl.v1405 kernelRun0_A.sl.cst_232 kernelRun0_A.sl.v1411 kernelRun0_A.sl.v1258 kernelRun0_A.sl.v1257 kernelRun0_A.sl.v1409 kernelRun0_A.sl.v1266 kernelRun0_A.sl.cst_63 kernelRun0_A.sl.v1713 kernelRun0_A.sl.v1710 give att
  rw [A_v264, A_v273, A_v277, A_v268, A_v1416, A_v1676]
  rfl

/-- A head's state after a chunk. -/
theorem A_v1717 : kernelRun0_A.sl.v1717 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 0 2 := by
  show _ = move (raw_ m c t) 2 0 (by omega) (by omega) (st (raw_ m c t) fresh 0 1)
  delta kernelRun0_A.sl.v1717 kernelRun0_A.sl.v1716 kernelRun0_A.sl.v1715 kernelRun0_A.sl.v336 kernelRun0_A.sl.v335 kernelRun0_A.sl.v334 kernelRun0_A.sl.v333 kernelRun0_A.sl.v332 kernelRun0_A.sl.v331 kernelRun0_A.sl.v1417 kernelRun0_A.sl.v1414 kernelRun0_A.sl.cst_232 move dec upd
  rw [A_v202, A_v208, A_v282, A_v1416, A_v1676]

/-- What a chunk gives for a head. -/
theorem A_v1724 : kernelRun0_A.sl.v1724 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 2 1 (by omega) (by omega) (st (raw_ m c t) fresh 1 1) := by
  delta kernelRun0_A.sl.v1724 kernelRun0_A.sl.v1719 kernelRun0_A.sl.v1718 kernelRun0_A.sl.v1428 kernelRun0_A.sl.v1427 kernelRun0_A.sl.v1256 kernelRun0_A.sl.v1253 kernelRun0_A.sl.v379 kernelRun0_A.sl.v1249 kernelRun0_A.sl.v380 kernelRun0_A.sl.cst_230 kernelRun0_A.sl.v1423 kernelRun0_A.sl.v1422 kernelRun0_A.sl.v1418 kernelRun0_A.sl.v1421 kernelRun0_A.sl.v1419 kernelRun0_A.sl.v1420 kernelRun0_A.sl.cst_232 kernelRun0_A.sl.v1426 kernelRun0_A.sl.v1258 kernelRun0_A.sl.v1257 kernelRun0_A.sl.v1424 kernelRun0_A.sl.v1266 kernelRun0_A.sl.cst_63 kernelRun0_A.sl.v1723 kernelRun0_A.sl.v1720 give att
  rw [A_v264, A_v273, A_v277, A_v268, A_v1431, A_v1686]
  rfl

/-- A head's state after a chunk. -/
theorem A_v1727 : kernelRun0_A.sl.v1727 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 1 2 := by
  show _ = move (raw_ m c t) 2 1 (by omega) (by omega) (st (raw_ m c t) fresh 1 1)
  delta kernelRun0_A.sl.v1727 kernelRun0_A.sl.v1726 kernelRun0_A.sl.v1725 kernelRun0_A.sl.v342 kernelRun0_A.sl.v341 kernelRun0_A.sl.v340 kernelRun0_A.sl.v339 kernelRun0_A.sl.v338 kernelRun0_A.sl.v331 kernelRun0_A.sl.v1432 kernelRun0_A.sl.v1429 kernelRun0_A.sl.cst_232 move dec upd
  rw [A_v202, A_v208, A_v282, A_v1431, A_v1686]

/-- What a chunk gives for a head. -/
theorem A_v1734 : kernelRun0_A.sl.v1734 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 2 2 (by omega) (by omega) (st (raw_ m c t) fresh 2 1) := by
  delta kernelRun0_A.sl.v1734 kernelRun0_A.sl.v1729 kernelRun0_A.sl.v1728 kernelRun0_A.sl.v1443 kernelRun0_A.sl.v1442 kernelRun0_A.sl.v1256 kernelRun0_A.sl.v1253 kernelRun0_A.sl.v379 kernelRun0_A.sl.v1249 kernelRun0_A.sl.v380 kernelRun0_A.sl.cst_230 kernelRun0_A.sl.v1438 kernelRun0_A.sl.v1437 kernelRun0_A.sl.v1433 kernelRun0_A.sl.v1436 kernelRun0_A.sl.v1434 kernelRun0_A.sl.v1435 kernelRun0_A.sl.cst_232 kernelRun0_A.sl.v1441 kernelRun0_A.sl.v1258 kernelRun0_A.sl.v1257 kernelRun0_A.sl.v1439 kernelRun0_A.sl.v1266 kernelRun0_A.sl.cst_63 kernelRun0_A.sl.v1733 kernelRun0_A.sl.v1730 give att
  rw [A_v264, A_v273, A_v277, A_v268, A_v1446, A_v1696]
  rfl

/-- A head's state after a chunk. -/
theorem A_v1737 : kernelRun0_A.sl.v1737 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 2 2 := by
  show _ = move (raw_ m c t) 2 2 (by omega) (by omega) (st (raw_ m c t) fresh 2 1)
  delta kernelRun0_A.sl.v1737 kernelRun0_A.sl.v1736 kernelRun0_A.sl.v1735 kernelRun0_A.sl.v348 kernelRun0_A.sl.v347 kernelRun0_A.sl.v346 kernelRun0_A.sl.v345 kernelRun0_A.sl.v344 kernelRun0_A.sl.v331 kernelRun0_A.sl.v1447 kernelRun0_A.sl.v1444 kernelRun0_A.sl.cst_232 move dec upd
  rw [A_v202, A_v208, A_v282, A_v1446, A_v1696]

/-- What a chunk gives for a head. -/
theorem A_v1744 : kernelRun0_A.sl.v1744 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 2 3 (by omega) (by omega) (st (raw_ m c t) fresh 3 1) := by
  delta kernelRun0_A.sl.v1744 kernelRun0_A.sl.v1739 kernelRun0_A.sl.v1738 kernelRun0_A.sl.v1458 kernelRun0_A.sl.v1457 kernelRun0_A.sl.v1256 kernelRun0_A.sl.v1253 kernelRun0_A.sl.v379 kernelRun0_A.sl.v1249 kernelRun0_A.sl.v380 kernelRun0_A.sl.cst_230 kernelRun0_A.sl.v1453 kernelRun0_A.sl.v1452 kernelRun0_A.sl.v1448 kernelRun0_A.sl.v1451 kernelRun0_A.sl.v1449 kernelRun0_A.sl.v1450 kernelRun0_A.sl.cst_232 kernelRun0_A.sl.v1456 kernelRun0_A.sl.v1258 kernelRun0_A.sl.v1257 kernelRun0_A.sl.v1454 kernelRun0_A.sl.v1266 kernelRun0_A.sl.cst_63 kernelRun0_A.sl.v1743 kernelRun0_A.sl.v1740 give att
  rw [A_v264, A_v273, A_v277, A_v268, A_v1461, A_v1706]
  rfl

/-- A head's state after a chunk. -/
theorem A_v1747 : kernelRun0_A.sl.v1747 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 3 2 := by
  show _ = move (raw_ m c t) 2 3 (by omega) (by omega) (st (raw_ m c t) fresh 3 1)
  delta kernelRun0_A.sl.v1747 kernelRun0_A.sl.v1746 kernelRun0_A.sl.v1745 kernelRun0_A.sl.v354 kernelRun0_A.sl.v353 kernelRun0_A.sl.v352 kernelRun0_A.sl.v351 kernelRun0_A.sl.v350 kernelRun0_A.sl.v331 kernelRun0_A.sl.v1462 kernelRun0_A.sl.v1459 kernelRun0_A.sl.cst_232 move dec upd
  rw [A_v202, A_v208, A_v282, A_v1461, A_v1706]

/-- A chunk's row. -/
theorem A_v1748 : kernelRun0_A.sl.v1748 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = row (raw_ m c t) fresh 2 (by omega) := by
  delta kernelRun0_A.sl.v1748 row
  rw [A_v1714, A_v1724, A_v1734, A_v1744]

/-- What a chunk gives for a head. -/
theorem A_v1755 : kernelRun0_A.sl.v1755 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 1 0 (by omega) (by omega) (st (raw_ m c t) fresh 0 2) := by
  delta kernelRun0_A.sl.v1755 kernelRun0_A.sl.v1750 kernelRun0_A.sl.v1749 kernelRun0_A.sl.v1341 kernelRun0_A.sl.v1340 kernelRun0_A.sl.v1256 kernelRun0_A.sl.v1253 kernelRun0_A.sl.v379 kernelRun0_A.sl.v1249 kernelRun0_A.sl.v380 kernelRun0_A.sl.cst_230 kernelRun0_A.sl.v1336 kernelRun0_A.sl.v1335 kernelRun0_A.sl.v1331 kernelRun0_A.sl.v1334 kernelRun0_A.sl.v1332 kernelRun0_A.sl.v1333 kernelRun0_A.sl.cst_232 kernelRun0_A.sl.v1339 kernelRun0_A.sl.v1258 kernelRun0_A.sl.v1257 kernelRun0_A.sl.v1337 kernelRun0_A.sl.v1266 kernelRun0_A.sl.cst_63 kernelRun0_A.sl.v1754 kernelRun0_A.sl.v1751 give att
  rw [A_v264, A_v273, A_v277, A_v268, A_v1344, A_v1717]
  rfl

/-- A head's state after a chunk. -/
theorem A_v1758 : kernelRun0_A.sl.v1758 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 0 3 := by
  show _ = move (raw_ m c t) 1 0 (by omega) (by omega) (st (raw_ m c t) fresh 0 2)
  delta kernelRun0_A.sl.v1758 kernelRun0_A.sl.v1757 kernelRun0_A.sl.v1756 kernelRun0_A.sl.v312 kernelRun0_A.sl.v311 kernelRun0_A.sl.v310 kernelRun0_A.sl.v309 kernelRun0_A.sl.v308 kernelRun0_A.sl.v307 kernelRun0_A.sl.v1345 kernelRun0_A.sl.v1342 kernelRun0_A.sl.cst_232 move dec upd
  rw [A_v190, A_v196, A_v282, A_v1344, A_v1717]

/-- What a chunk gives for a head. -/
theorem A_v1765 : kernelRun0_A.sl.v1765 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 1 1 (by omega) (by omega) (st (raw_ m c t) fresh 1 2) := by
  delta kernelRun0_A.sl.v1765 kernelRun0_A.sl.v1760 kernelRun0_A.sl.v1759 kernelRun0_A.sl.v1356 kernelRun0_A.sl.v1355 kernelRun0_A.sl.v1256 kernelRun0_A.sl.v1253 kernelRun0_A.sl.v379 kernelRun0_A.sl.v1249 kernelRun0_A.sl.v380 kernelRun0_A.sl.cst_230 kernelRun0_A.sl.v1351 kernelRun0_A.sl.v1350 kernelRun0_A.sl.v1346 kernelRun0_A.sl.v1349 kernelRun0_A.sl.v1347 kernelRun0_A.sl.v1348 kernelRun0_A.sl.cst_232 kernelRun0_A.sl.v1354 kernelRun0_A.sl.v1258 kernelRun0_A.sl.v1257 kernelRun0_A.sl.v1352 kernelRun0_A.sl.v1266 kernelRun0_A.sl.cst_63 kernelRun0_A.sl.v1764 kernelRun0_A.sl.v1761 give att
  rw [A_v264, A_v273, A_v277, A_v268, A_v1359, A_v1727]
  rfl

/-- A head's state after a chunk. -/
theorem A_v1768 : kernelRun0_A.sl.v1768 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 1 3 := by
  show _ = move (raw_ m c t) 1 1 (by omega) (by omega) (st (raw_ m c t) fresh 1 2)
  delta kernelRun0_A.sl.v1768 kernelRun0_A.sl.v1767 kernelRun0_A.sl.v1766 kernelRun0_A.sl.v318 kernelRun0_A.sl.v317 kernelRun0_A.sl.v316 kernelRun0_A.sl.v315 kernelRun0_A.sl.v314 kernelRun0_A.sl.v307 kernelRun0_A.sl.v1360 kernelRun0_A.sl.v1357 kernelRun0_A.sl.cst_232 move dec upd
  rw [A_v190, A_v196, A_v282, A_v1359, A_v1727]

/-- What a chunk gives for a head. -/
theorem A_v1775 : kernelRun0_A.sl.v1775 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 1 2 (by omega) (by omega) (st (raw_ m c t) fresh 2 2) := by
  delta kernelRun0_A.sl.v1775 kernelRun0_A.sl.v1770 kernelRun0_A.sl.v1769 kernelRun0_A.sl.v1371 kernelRun0_A.sl.v1370 kernelRun0_A.sl.v1256 kernelRun0_A.sl.v1253 kernelRun0_A.sl.v379 kernelRun0_A.sl.v1249 kernelRun0_A.sl.v380 kernelRun0_A.sl.cst_230 kernelRun0_A.sl.v1366 kernelRun0_A.sl.v1365 kernelRun0_A.sl.v1361 kernelRun0_A.sl.v1364 kernelRun0_A.sl.v1362 kernelRun0_A.sl.v1363 kernelRun0_A.sl.cst_232 kernelRun0_A.sl.v1369 kernelRun0_A.sl.v1258 kernelRun0_A.sl.v1257 kernelRun0_A.sl.v1367 kernelRun0_A.sl.v1266 kernelRun0_A.sl.cst_63 kernelRun0_A.sl.v1774 kernelRun0_A.sl.v1771 give att
  rw [A_v264, A_v273, A_v277, A_v268, A_v1374, A_v1737]
  rfl

/-- A head's state after a chunk. -/
theorem A_v1778 : kernelRun0_A.sl.v1778 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 2 3 := by
  show _ = move (raw_ m c t) 1 2 (by omega) (by omega) (st (raw_ m c t) fresh 2 2)
  delta kernelRun0_A.sl.v1778 kernelRun0_A.sl.v1777 kernelRun0_A.sl.v1776 kernelRun0_A.sl.v324 kernelRun0_A.sl.v323 kernelRun0_A.sl.v322 kernelRun0_A.sl.v321 kernelRun0_A.sl.v320 kernelRun0_A.sl.v307 kernelRun0_A.sl.v1375 kernelRun0_A.sl.v1372 kernelRun0_A.sl.cst_232 move dec upd
  rw [A_v190, A_v196, A_v282, A_v1374, A_v1737]

/-- What a chunk gives for a head. -/
theorem A_v1785 : kernelRun0_A.sl.v1785 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 1 3 (by omega) (by omega) (st (raw_ m c t) fresh 3 2) := by
  delta kernelRun0_A.sl.v1785 kernelRun0_A.sl.v1780 kernelRun0_A.sl.v1779 kernelRun0_A.sl.v1386 kernelRun0_A.sl.v1385 kernelRun0_A.sl.v1256 kernelRun0_A.sl.v1253 kernelRun0_A.sl.v379 kernelRun0_A.sl.v1249 kernelRun0_A.sl.v380 kernelRun0_A.sl.cst_230 kernelRun0_A.sl.v1381 kernelRun0_A.sl.v1380 kernelRun0_A.sl.v1376 kernelRun0_A.sl.v1379 kernelRun0_A.sl.v1377 kernelRun0_A.sl.v1378 kernelRun0_A.sl.cst_232 kernelRun0_A.sl.v1384 kernelRun0_A.sl.v1258 kernelRun0_A.sl.v1257 kernelRun0_A.sl.v1382 kernelRun0_A.sl.v1266 kernelRun0_A.sl.cst_63 kernelRun0_A.sl.v1784 kernelRun0_A.sl.v1781 give att
  rw [A_v264, A_v273, A_v277, A_v268, A_v1389, A_v1747]
  rfl

/-- A head's state after a chunk. -/
theorem A_v1788 : kernelRun0_A.sl.v1788 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 3 3 := by
  show _ = move (raw_ m c t) 1 3 (by omega) (by omega) (st (raw_ m c t) fresh 3 2)
  delta kernelRun0_A.sl.v1788 kernelRun0_A.sl.v1787 kernelRun0_A.sl.v1786 kernelRun0_A.sl.v330 kernelRun0_A.sl.v329 kernelRun0_A.sl.v328 kernelRun0_A.sl.v327 kernelRun0_A.sl.v326 kernelRun0_A.sl.v307 kernelRun0_A.sl.v1390 kernelRun0_A.sl.v1387 kernelRun0_A.sl.cst_232 move dec upd
  rw [A_v190, A_v196, A_v282, A_v1389, A_v1747]

/-- A chunk's row. -/
theorem A_v1789 : kernelRun0_A.sl.v1789 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = row (raw_ m c t) fresh 1 (by omega) := by
  delta kernelRun0_A.sl.v1789 row
  rw [A_v1755, A_v1765, A_v1775, A_v1785]

/-- What a chunk gives for a head. -/
theorem A_v1796 : kernelRun0_A.sl.v1796 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 0 0 (by omega) (by omega) (st (raw_ m c t) fresh 0 3) := by
  delta kernelRun0_A.sl.v1796 kernelRun0_A.sl.v1791 kernelRun0_A.sl.v1790 kernelRun0_A.sl.v1269 kernelRun0_A.sl.v1268 kernelRun0_A.sl.v1256 kernelRun0_A.sl.v1253 kernelRun0_A.sl.v379 kernelRun0_A.sl.v1249 kernelRun0_A.sl.v380 kernelRun0_A.sl.cst_230 kernelRun0_A.sl.v1264 kernelRun0_A.sl.v1263 kernelRun0_A.sl.v1259 kernelRun0_A.sl.v1262 kernelRun0_A.sl.v1260 kernelRun0_A.sl.v1261 kernelRun0_A.sl.cst_232 kernelRun0_A.sl.v1267 kernelRun0_A.sl.v1258 kernelRun0_A.sl.v1257 kernelRun0_A.sl.v1265 kernelRun0_A.sl.v1266 kernelRun0_A.sl.cst_63 kernelRun0_A.sl.v1795 kernelRun0_A.sl.v1792 give att
  rw [A_v264, A_v273, A_v277, A_v268, A_v1272, A_v1758]
  rfl

/-- A head's state after a chunk. -/
theorem A_v1799 : kernelRun0_A.sl.v1799 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 0 4 := by
  show _ = move (raw_ m c t) 0 0 (by omega) (by omega) (st (raw_ m c t) fresh 0 3)
  delta kernelRun0_A.sl.v1799 kernelRun0_A.sl.v1798 kernelRun0_A.sl.v1797 kernelRun0_A.sl.v288 kernelRun0_A.sl.v287 kernelRun0_A.sl.v286 kernelRun0_A.sl.v285 kernelRun0_A.sl.v284 kernelRun0_A.sl.v283 kernelRun0_A.sl.v1273 kernelRun0_A.sl.v1270 kernelRun0_A.sl.cst_232 move dec upd
  rw [A_v178, A_v184, A_v282, A_v1272, A_v1758]

/-- What a chunk gives for a head. -/
theorem A_v1806 : kernelRun0_A.sl.v1806 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 0 1 (by omega) (by omega) (st (raw_ m c t) fresh 1 3) := by
  delta kernelRun0_A.sl.v1806 kernelRun0_A.sl.v1801 kernelRun0_A.sl.v1800 kernelRun0_A.sl.v1284 kernelRun0_A.sl.v1283 kernelRun0_A.sl.v1256 kernelRun0_A.sl.v1253 kernelRun0_A.sl.v379 kernelRun0_A.sl.v1249 kernelRun0_A.sl.v380 kernelRun0_A.sl.cst_230 kernelRun0_A.sl.v1279 kernelRun0_A.sl.v1278 kernelRun0_A.sl.v1274 kernelRun0_A.sl.v1277 kernelRun0_A.sl.v1275 kernelRun0_A.sl.v1276 kernelRun0_A.sl.cst_232 kernelRun0_A.sl.v1282 kernelRun0_A.sl.v1258 kernelRun0_A.sl.v1257 kernelRun0_A.sl.v1280 kernelRun0_A.sl.v1266 kernelRun0_A.sl.cst_63 kernelRun0_A.sl.v1805 kernelRun0_A.sl.v1802 give att
  rw [A_v264, A_v273, A_v277, A_v268, A_v1287, A_v1768]
  rfl

/-- A head's state after a chunk. -/
theorem A_v1809 : kernelRun0_A.sl.v1809 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 1 4 := by
  show _ = move (raw_ m c t) 0 1 (by omega) (by omega) (st (raw_ m c t) fresh 1 3)
  delta kernelRun0_A.sl.v1809 kernelRun0_A.sl.v1808 kernelRun0_A.sl.v1807 kernelRun0_A.sl.v294 kernelRun0_A.sl.v293 kernelRun0_A.sl.v292 kernelRun0_A.sl.v291 kernelRun0_A.sl.v290 kernelRun0_A.sl.v283 kernelRun0_A.sl.v1288 kernelRun0_A.sl.v1285 kernelRun0_A.sl.cst_232 move dec upd
  rw [A_v178, A_v184, A_v282, A_v1287, A_v1768]

/-- What a chunk gives for a head. -/
theorem A_v1816 : kernelRun0_A.sl.v1816 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 0 2 (by omega) (by omega) (st (raw_ m c t) fresh 2 3) := by
  delta kernelRun0_A.sl.v1816 kernelRun0_A.sl.v1811 kernelRun0_A.sl.v1810 kernelRun0_A.sl.v1299 kernelRun0_A.sl.v1298 kernelRun0_A.sl.v1256 kernelRun0_A.sl.v1253 kernelRun0_A.sl.v379 kernelRun0_A.sl.v1249 kernelRun0_A.sl.v380 kernelRun0_A.sl.cst_230 kernelRun0_A.sl.v1294 kernelRun0_A.sl.v1293 kernelRun0_A.sl.v1289 kernelRun0_A.sl.v1292 kernelRun0_A.sl.v1290 kernelRun0_A.sl.v1291 kernelRun0_A.sl.cst_232 kernelRun0_A.sl.v1297 kernelRun0_A.sl.v1258 kernelRun0_A.sl.v1257 kernelRun0_A.sl.v1295 kernelRun0_A.sl.v1266 kernelRun0_A.sl.cst_63 kernelRun0_A.sl.v1815 kernelRun0_A.sl.v1812 give att
  rw [A_v264, A_v273, A_v277, A_v268, A_v1302, A_v1778]
  rfl

/-- A head's state after a chunk. -/
theorem A_v1819 : kernelRun0_A.sl.v1819 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 2 4 := by
  show _ = move (raw_ m c t) 0 2 (by omega) (by omega) (st (raw_ m c t) fresh 2 3)
  delta kernelRun0_A.sl.v1819 kernelRun0_A.sl.v1818 kernelRun0_A.sl.v1817 kernelRun0_A.sl.v300 kernelRun0_A.sl.v299 kernelRun0_A.sl.v298 kernelRun0_A.sl.v297 kernelRun0_A.sl.v296 kernelRun0_A.sl.v283 kernelRun0_A.sl.v1303 kernelRun0_A.sl.v1300 kernelRun0_A.sl.cst_232 move dec upd
  rw [A_v178, A_v184, A_v282, A_v1302, A_v1778]

/-- What a chunk gives for a head. -/
theorem A_v1826 : kernelRun0_A.sl.v1826 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = give (raw_ m c t) 0 3 (by omega) (by omega) (st (raw_ m c t) fresh 3 3) := by
  delta kernelRun0_A.sl.v1826 kernelRun0_A.sl.v1821 kernelRun0_A.sl.v1820 kernelRun0_A.sl.v1314 kernelRun0_A.sl.v1313 kernelRun0_A.sl.v1256 kernelRun0_A.sl.v1253 kernelRun0_A.sl.v379 kernelRun0_A.sl.v1249 kernelRun0_A.sl.v380 kernelRun0_A.sl.cst_230 kernelRun0_A.sl.v1309 kernelRun0_A.sl.v1308 kernelRun0_A.sl.v1304 kernelRun0_A.sl.v1307 kernelRun0_A.sl.v1305 kernelRun0_A.sl.v1306 kernelRun0_A.sl.cst_232 kernelRun0_A.sl.v1312 kernelRun0_A.sl.v1258 kernelRun0_A.sl.v1257 kernelRun0_A.sl.v1310 kernelRun0_A.sl.v1266 kernelRun0_A.sl.cst_63 kernelRun0_A.sl.v1825 kernelRun0_A.sl.v1822 give att
  rw [A_v264, A_v273, A_v277, A_v268, A_v1317, A_v1788]
  rfl

/-- A head's state after a chunk. -/
theorem A_v1829 : kernelRun0_A.sl.v1829 c (ms0_0 t) (hs0_0 t) (ms0_4 t) (hs0_4 t) (ms0_5 t) (hs0_5 t) (ms0_7 t) (hs0_7 t) (ms0_8 t) (hs0_8 t) (ms0_10 t) (hs0_10 t) scM0_1 (iblk m c 0 t) (iblk m c 4 t) (iblk m c 5 t) (iblk m c 7 t) (iblk m c 8 t) (iblk m c 10 t) = st (raw_ m c t) fresh 3 4 := by
  show _ = move (raw_ m c t) 0 3 (by omega) (by omega) (st (raw_ m c t) fresh 3 3)
  delta kernelRun0_A.sl.v1829 kernelRun0_A.sl.v1828 kernelRun0_A.sl.v1827 kernelRun0_A.sl.v306 kernelRun0_A.sl.v305 kernelRun0_A.sl.v304 kernelRun0_A.sl.v303 kernelRun0_A.sl.v302 kernelRun0_A.sl.v283 kernelRun0_A.sl.v1318 kernelRun0_A.sl.v1315 kernelRun0_A.sl.cst_232 move dec upd
  rw [A_v178, A_v184, A_v282, A_v1317, A_v1788]

/-- A chunk's row. -/
theorem A_v1830 : kernelRun0_A.sl.v1830 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = row (raw_ m c t) fresh 0 (by omega) := by
  delta kernelRun0_A.sl.v1830 row
  rw [A_v1796, A_v1806, A_v1816, A_v1826]

/-- The block. -/
theorem A_v1840 : kernelRun0_A.sl.v1840 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (iblk m c 0 t) (iblk m c 3 t) (iblk m c 4 t) (iblk m c 5 t) (iblk m c 7 t) (iblk m c 8 t) (iblk m c 10 t) = block (raw_ m c t) fresh := by
  delta kernelRun0_A.sl.v1840 kernelRun0_A.sl.v1837 kernelRun0_A.sl.v1832 block
  rw [A_v1830, A_v1789, A_v1748, A_v1707]

end Cert.Kernel1Ideal.Stage

end
-- ==== Proof.ScanStepB.lean ====
/- The values of a later step of a run, one after the other, are the stages. -/
module

public import proofs.«01_k».proof.Proof.ScanParts
public import proofs.«01_k».proof.Proof.Gen.Kernel1Ideal.Value
public import Idealize.ShloMosaic.Lib.Pointwise
public import Idealize.ShloMosaic.Lib.Pipeline.ValueKit

@[expose] public section

set_option maxRecDepth 16384

noncomputable section

namespace Cert.Kernel1Ideal.Stage

open Cert.Kernel1Ideal Cert.Kernel1Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- A piece of the gates. -/
theorem B_r_13 : kernelRun0_B.sl.r_13 c (ms0_0 t) (hs0_0 t) (ms0_7 t) (hs0_7 t) (ms0_8 t) (hs0_8 t) (iblk m c 0 t) (iblk m c 7 t) (iblk m c 8 t) = k0_pay63 (raw_ m c t).sm (raw_ m c t).w (raw_ m c t).b := by
  delta kernelRun0_B.sl.r_13
  rfl

/-- A piece of the gates. -/
theorem B_r_14 : kernelRun0_B.sl.r_14 c (ms0_0 t) (hs0_0 t) (ms0_7 t) (hs0_7 t) (ms0_8 t) (hs0_8 t) (iblk m c 0 t) (iblk m c 7 t) (iblk m c 8 t) = k0_pay65 (raw_ m c t).sm (raw_ m c t).w (raw_ m c t).b := by
  delta kernelRun0_B.sl.r_14
  rfl

/-- A piece of the gates. -/
theorem B_r_15 : kernelRun0_B.sl.r_15 c (ms0_0 t) (hs0_0 t) (ms0_7 t) (hs0_7 t) (ms0_8 t) (hs0_8 t) (iblk m c 0 t) (iblk m c 7 t) (iblk m c 8 t) = k0_pay66 (raw_ m c t).sm (raw_ m c t).w (raw_ m c t).b := by
  delta kernelRun0_B.sl.r_15
  rfl

/-- The triangle. -/
theorem B_r_16 : kernelRun0_B.sl.r_16 c (ms0_10 t) (hs0_10 t) (iblk m c 10 t) = k0_pay67 (raw_ m c t).tri := by
  delta kernelRun0_B.sl.r_16
  rfl

/-- The first rows of the first piece. -/
theorem B_r_17 : kernelRun0_B.sl.r_17 c (ms0_0 t) (hs0_0 t) (ms0_7 t) (hs0_7 t) (ms0_8 t) (hs0_8 t) (iblk m c 0 t) (iblk m c 7 t) (iblk m c 8 t) = extractStridedSlice S64x512 ![64 * 0, 0] (k0_pay63 (raw_ m c t).sm (raw_ m c t).w (raw_ m c t).b) (half_slices 0 (by omega)) := rfl

/-- A half's later-sums. -/
theorem B_v177 : kernelRun0_B.sl.v177 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 0 (by omega) := by
  delta kernelRun0_B.sl.v177 kernelRun0_B.sl.v176 kernelRun0_B.sl.v174 kernelRun0_B.sl.v175 kernelRun0_B.sl.cst_55 gh half
  rw [B_r_17, B_r_14, B_r_15, B_r_16]

/-- A half's later-sums. -/
theorem B_v183 : kernelRun0_B.sl.v183 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 1 (by omega) := by
  delta kernelRun0_B.sl.v183 kernelRun0_B.sl.v182 kernelRun0_B.sl.v179 kernelRun0_B.sl.v180 kernelRun0_B.sl.v181 kernelRun0_B.sl.cst_55 gh half
  rw [B_r_13, B_r_14, B_r_15, B_r_16]

/-- A half's later-sums. -/
theorem B_v189 : kernelRun0_B.sl.v189 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 2 (by omega) := by
  delta kernelRun0_B.sl.v189 kernelRun0_B.sl.v188 kernelRun0_B.sl.v185 kernelRun0_B.sl.v186 kernelRun0_B.sl.v187 kernelRun0_B.sl.cst_55 gh half
  rw [B_r_13, B_r_14, B_r_15, B_r_16]

/-- A half's later-sums. -/
theorem B_v195 : kernelRun0_B.sl.v195 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 3 (by omega) := by
  delta kernelRun0_B.sl.v195 kernelRun0_B.sl.v194 kernelRun0_B.sl.v191 kernelRun0_B.sl.v192 kernelRun0_B.sl.v193 kernelRun0_B.sl.cst_55 gh half
  rw [B_r_13, B_r_14, B_r_15, B_r_16]

/-- A half's later-sums. -/
theorem B_v201 : kernelRun0_B.sl.v201 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 4 (by omega) := by
  delta kernelRun0_B.sl.v201 kernelRun0_B.sl.v200 kernelRun0_B.sl.v197 kernelRun0_B.sl.v198 kernelRun0_B.sl.v199 kernelRun0_B.sl.cst_55 gh half
  rw [B_r_13, B_r_14, B_r_15, B_r_16]

/-- A half's later-sums. -/
theorem B_v207 : kernelRun0_B.sl.v207 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 5 (by omega) := by
  delta kernelRun0_B.sl.v207 kernelRun0_B.sl.v206 kernelRun0_B.sl.v203 kernelRun0_B.sl.v204 kernelRun0_B.sl.v205 kernelRun0_B.sl.cst_55 gh half
  rw [B_r_13, B_r_14, B_r_15, B_r_16]

/-- A half's later-sums. -/
theorem B_v213 : kernelRun0_B.sl.v213 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 6 (by omega) := by
  delta kernelRun0_B.sl.v213 kernelRun0_B.sl.v212 kernelRun0_B.sl.v209 kernelRun0_B.sl.v210 kernelRun0_B.sl.v211 kernelRun0_B.sl.cst_55 gh half
  rw [B_r_13, B_r_14, B_r_15, B_r_16]

/-- A half's later-sums. -/
theorem B_v219 : kernelRun0_B.sl.v219 c (ms0_0 t) (hs0_0 t) (ms0_7 t) (hs0_7 t) (ms0_8 t) (hs0_8 t) (ms0_10 t) (hs0_10 t) (iblk m c 0 t) (iblk m c 7 t) (iblk m c 8 t) (iblk m c 10 t) = gh (raw_ m c t) 7 (by omega) := by
  delta kernelRun0_B.sl.v219 kernelRun0_B.sl.v218 kernelRun0_B.sl.v215 kernelRun0_B.sl.v216 kernelRun0_B.sl.v217 kernelRun0_B.sl.cst_55 gh half
  rw [B_r_13, B_r_14, B_r_15, B_r_16]

/-- A half's sum. -/
theorem B_v178 : kernelRun0_B.sl.v178 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 0 (by omega) := by
  delta kernelRun0_B.sl.v178 tot first
  rw [B_v177]

/-- A half's sum. -/
theorem B_v184 : kernelRun0_B.sl.v184 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 1 (by omega) := by
  delta kernelRun0_B.sl.v184 tot first
  rw [B_v183]

/-- A half's sum. -/
theorem B_v190 : kernelRun0_B.sl.v190 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 2 (by omega) := by
  delta kernelRun0_B.sl.v190 tot first
  rw [B_v189]

/-- A half's sum. -/
theorem B_v196 : kernelRun0_B.sl.v196 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 3 (by omega) := by
  delta kernelRun0_B.sl.v196 tot first
  rw [B_v195]

/-- A half's sum. -/
theorem B_v202 : kernelRun0_B.sl.v202 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 4 (by omega) := by
  delta kernelRun0_B.sl.v202 tot first
  rw [B_v201]

/-- A half's sum. -/
theorem B_v208 : kernelRun0_B.sl.v208 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 5 (by omega) := by
  delta kernelRun0_B.sl.v208 tot first
  rw [B_v207]

/-- A half's sum. -/
theorem B_v214 : kernelRun0_B.sl.v214 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 6 (by omega) := by
  delta kernelRun0_B.sl.v214 tot first
  rw [B_v213]

/-- A half's sum. -/
theorem B_v220 : kernelRun0_B.sl.v220 c (ms0_0 t) (hs0_0 t) (ms0_7 t) (hs0_7 t) (ms0_8 t) (hs0_8 t) (ms0_10 t) (hs0_10 t) (iblk m c 0 t) (iblk m c 7 t) (iblk m c 8 t) (iblk m c 10 t) = tot (raw_ m c t) 7 (by omega) := by
  delta kernelRun0_B.sl.v220 tot first
  rw [B_v219]

/-- All the halves. -/
theorem B_v222 : kernelRun0_B.sl.v222 c (ms0_0 t) (hs0_0 t) (ms0_7 t) (hs0_7 t) (ms0_8 t) (hs0_8 t) (ms0_10 t) (hs0_10 t) (iblk m c 0 t) (iblk m c 7 t) (iblk m c 8 t) (iblk m c 10 t) = later (raw_ m c t) := by
  delta kernelRun0_B.sl.v222 later
  rw [B_v177, B_v183, B_v189, B_v195, B_v201, B_v207, B_v213, B_v219]

/-- The queries from their half. -/
theorem B_v264 : kernelRun0_B.sl.v264 c (ms0_0 t) (hs0_0 t) (ms0_3 t) (hs0_3 t) (ms0_7 t) (hs0_7 t) (ms0_8 t) (hs0_8 t) (ms0_10 t) (hs0_10 t) (iblk m c 0 t) (iblk m c 3 t) (iblk m c 7 t) (iblk m c 8 t) (iblk m c 10 t) = qt (raw_ m c t) := by
  delta kernelRun0_B.sl.v264 kernelRun0_B.sl.v263 kernelRun0_B.sl.v261 kernelRun0_B.sl.v262 qt
  rw [B_v222]
  rfl

/-- The queries from their chunk. -/
theorem B_v268 : kernelRun0_B.sl.v268 c (ms0_0 t) (hs0_0 t) (ms0_3 t) (hs0_3 t) (ms0_7 t) (hs0_7 t) (ms0_8 t) (hs0_8 t) (ms0_10 t) (hs0_10 t) (iblk m c 0 t) (iblk m c 3 t) (iblk m c 7 t) (iblk m c 8 t) (iblk m c 10 t) = qs (raw_ m c t) := by
  delta kernelRun0_B.sl.v268 kernelRun0_B.sl.v267 kernelRun0_B.sl.v261 kernelRun0_B.sl.v266 kernelRun0_B.sl.v265 kernelRun0_B.sl.v248 kernelRun0_B.sl.v226 kernelRun0_B.sl.v225 kernelRun0_B.sl.v221 kernelRun0_B.sl.cst_63 kernelRun0_B.sl.v230 kernelRun0_B.sl.v229 kernelRun0_B.sl.v234 kernelRun0_B.sl.v233 kernelRun0_B.sl.v238 kernelRun0_B.sl.v237 qs
  rw [B_v184, B_v196, B_v208, B_v220, B_v222]
  rfl

/-- The keys to their half. -/
theorem B_v273 : kernelRun0_B.sl.v273 c (ms0_0 t) (hs0_0 t) (ms0_4 t) (hs0_4 t) (ms0_7 t) (hs0_7 t) (ms0_8 t) (hs0_8 t) (ms0_10 t) (hs0_10 t) (iblk m c 0 t) (iblk m c 4 t) (iblk m c 7 t) (iblk m c 8 t) (iblk m c 10 t) = ke (raw_ m c t) := by
  delta kernelRun0_B.sl.v273 kernelRun0_B.sl.v272 kernelRun0_B.sl.v259 kernelRun0_B.sl.v271 kernelRun0_B.sl.v270 kernelRun0_B.sl.v269 kernelRun0_B.sl.cst_63 ke
  rw [B_v222]
  rfl

/-- The keys to their half's start. -/
theorem B_v277 : kernelRun0_B.sl.v277 c (ms0_0 t) (hs0_0 t) (ms0_4 t) (hs0_4 t) (ms0_7 t) (hs0_7 t) (ms0_8 t) (hs0_8 t) (ms0_10 t) (hs0_10 t) (iblk m c 0 t) (iblk m c 4 t) (iblk m c 7 t) (iblk m c 8 t) (iblk m c 10 t) = ks (raw_ m c t) := by
  delta kernelRun0_B.sl.v277 kernelRun0_B.sl.v276 kernelRun0_B.sl.v259 kernelRun0_B.sl.v275 kernelRun0_B.sl.v274 kernelRun0_B.sl.v239 kernelRun0_B.sl.v224 kernelRun0_B.sl.v223 kernelRun0_B.sl.v226 kernelRun0_B.sl.v225 kernelRun0_B.sl.v228 kernelRun0_B.sl.v227 kernelRun0_B.sl.v230 kernelRun0_B.sl.v229 kernelRun0_B.sl.v232 kernelRun0_B.sl.v231 kernelRun0_B.sl.v234 kernelRun0_B.sl.v233 kernelRun0_B.sl.v236 kernelRun0_B.sl.v235 kernelRun0_B.sl.v238 kernelRun0_B.sl.v237 ks b0
  rw [B_v178, B_v184, B_v190, B_v196, B_v202, B_v208, B_v214, B_v220, B_v222]
  rfl

/-- The keys to their chunk's start. -/
theorem B_v282 : kernelRun0_B.sl.v282 c (ms0_0 t) (hs0_0 t) (ms0_4 t) (hs0_4 t) (ms0_7 t) (hs0_7 t) (ms0_8 t) (hs0_8 t) (ms0_10 t) (hs0_10 t) (iblk m c 0 t) (iblk m c 4 t) (iblk m c 7 t) (iblk m c 8 t) (iblk m c 10 t) = kS (raw_ m c t) := by
  delta kernelRun0_B.sl.v282 kernelRun0_B.sl.v281 kernelRun0_B.sl.v259 kernelRun0_B.sl.v280 kernelRun0_B.sl.v279 kernelRun0_B.sl.v274 kernelRun0_B.sl.v239 kernelRun0_B.sl.v224 kernelRun0_B.sl.v223 kernelRun0_B.sl.v226 kernelRun0_B.sl.v225 kernelRun0_B.sl.v228 kernelRun0_B.sl.v227 kernelRun0_B.sl.v230 kernelRun0_B.sl.v229 kernelRun0_B.sl.v232 kernelRun0_B.sl.v231 kernelRun0_B.sl.v234 kernelRun0_B.sl.v233 kernelRun0_B.sl.v236 kernelRun0_B.sl.v235 kernelRun0_B.sl.v238 kernelRun0_B.sl.v237 kernelRun0_B.sl.v257 kernelRun0_B.sl.v221 kernelRun0_B.sl.cst_63 kS b0
  rw [B_v178, B_v184, B_v190, B_v196, B_v202, B_v208, B_v214, B_v220, B_v222]
  rfl

/-- A head's state as it is loaded. -/
theorem B_r_2 (Z : Vec Ideal S4x128x256 .f32) : kernelRun0_B.sl.r_2 c scM0_1 (Memref.isWhole_whole _) Z = (back Z) 0 := by
  delta kernelRun0_B.sl.r_2
  rfl

/-- A head's state as it is loaded. -/
theorem B_r_3 (Z : Vec Ideal S4x128x256 .f32) : kernelRun0_B.sl.r_3 c scM0_1 (Memref.isWhole_whole _) Z = (back Z) 1 := by
  delta kernelRun0_B.sl.r_3
  rfl

/-- A head's state as it is loaded. -/
theorem B_r_4 (Z : Vec Ideal S4x128x256 .f32) : kernelRun0_B.sl.r_4 c scM0_1 (Memref.isWhole_whole _) Z = (back Z) 2 := by
  delta kernelRun0_B.sl.r_4
  rfl

/-- A head's state as it is loaded. -/
theorem B_r_5 (Z : Vec Ideal S4x128x256 .f32) : kernelRun0_B.sl.r_5 c scM0_1 (Memref.isWhole_whole _) Z = (back Z) 3 := by
  delta kernelRun0_B.sl.r_5
  rfl

/-- A chunk's values of a head. -/
theorem B_v1272 : kernelRun0_B.sl.v1272 c (ms0_5 t) (hs0_5 t) (iblk m c 5 t) = vals (raw_ m c t) 0 0 (by omega) (by omega) := by
  delta kernelRun0_B.sl.v1272
  rfl

/-- A chunk's values of a head. -/
theorem B_v1287 : kernelRun0_B.sl.v1287 c (ms0_5 t) (hs0_5 t) (iblk m c 5 t) = vals (raw_ m c t) 0 1 (by omega) (by omega) := by
  delta kernelRun0_B.sl.v1287
  rfl

/-- A chunk's values of a head. -/
theorem B_v1302 : kernelRun0_B.sl.v1302 c (ms0_5 t) (hs0_5 t) (iblk m c 5 t) = vals (raw_ m c t) 0 2 (by omega) (by omega) := by
  delta kernelRun0_B.sl.v1302
  rfl

/-- A chunk's values of a head. -/
theorem B_v1317 : kernelRun0_B.sl.v1317 c (ms0_5 t) (hs0_5 t) (iblk m c 5 t) = vals (raw_ m c t) 0 3 (by omega) (by omega) := by
  delta kernelRun0_B.sl.v1317
  rfl

/-- A chunk's values of a head. -/
theorem B_v1344 : kernelRun0_B.sl.v1344 c (ms0_5 t) (hs0_5 t) (iblk m c 5 t) = vals (raw_ m c t) 1 0 (by omega) (by omega) := by
  delta kernelRun0_B.sl.v1344
  rfl

/-- A chunk's values of a head. -/
theorem B_v1359 : kernelRun0_B.sl.v1359 c (ms0_5 t) (hs0_5 t) (iblk m c 5 t) = vals (raw_ m c t) 1 1 (by omega) (by omega) := by
  delta kernelRun0_B.sl.v1359
  rfl

/-- A chunk's values of a head. -/
theorem B_v1374 : kernelRun0_B.sl.v1374 c (ms0_5 t) (hs0_5 t) (iblk m c 5 t) = vals (raw_ m c t) 1 2 (by omega) (by omega) := by
  delta kernelRun0_B.sl.v1374
  rfl

/-- A chunk's values of a head. -/
theorem B_v1389 : kernelRun0_B.sl.v1389 c (ms0_5 t) (hs0_5 t) (iblk m c 5 t) = vals (raw_ m c t) 1 3 (by omega) (by omega) := by
  delta kernelRun0_B.sl.v1389
  rfl

/-- A chunk's values of a head. -/
theorem B_v1416 : kernelRun0_B.sl.v1416 c (ms0_5 t) (hs0_5 t) (iblk m c 5 t) = vals (raw_ m c t) 2 0 (by omega) (by omega) := by
  delta kernelRun0_B.sl.v1416
  rfl

/-- A chunk's values of a head. -/
theorem B_v1431 : kernelRun0_B.sl.v1431 c (ms0_5 t) (hs0_5 t) (iblk m c 5 t) = vals (raw_ m c t) 2 1 (by omega) (by omega) := by
  delta kernelRun0_B.sl.v1431
  rfl

/-- A chunk's values of a head. -/
theorem B_v1446 : kernelRun0_B.sl.v1446 c (ms0_5 t) (hs0_5 t) (iblk m c 5 t) = vals (raw_ m c t) 2 2 (by omega) (by omega) := by
  delta kernelRun0_B.sl.v1446
  rfl

/-- A chunk's values of a head. -/
theorem B_v1461 : kernelRun0_B.sl.v1461 c (ms0_5 t) (hs0_5 t) (iblk m c 5 t) = vals (raw_ m c t) 2 3 (by omega) (by omega) := by
  delta kernelRun0_B.sl.v1461
  rfl

/-- A chunk's values of a head. -/
theorem B_v1488 : kernelRun0_B.sl.v1488 c (ms0_5 t) (hs0_5 t) (iblk m c 5 t) = vals (raw_ m c t) 3 0 (by omega) (by omega) := by
  delta kernelRun0_B.sl.v1488
  rfl

/-- A chunk's values of a head. -/
theorem B_v1503 : kernelRun0_B.sl.v1503 c (ms0_5 t) (hs0_5 t) (iblk m c 5 t) = vals (raw_ m c t) 3 1 (by omega) (by omega) := by
  delta kernelRun0_B.sl.v1503
  rfl

/-- A chunk's values of a head. -/
theorem B_v1518 : kernelRun0_B.sl.v1518 c (ms0_5 t) (hs0_5 t) (iblk m c 5 t) = vals (raw_ m c t) 3 2 (by omega) (by omega) := by
  delta kernelRun0_B.sl.v1518
  rfl

/-- A chunk's values of a head. -/
theorem B_v1533 : kernelRun0_B.sl.v1533 c (ms0_5 t) (hs0_5 t) (iblk m c 5 t) = vals (raw_ m c t) 3 3 (by omega) (by omega) := by
  delta kernelRun0_B.sl.v1533
  rfl

/-- What a chunk gives for a head. -/
theorem B_v1673 (Z : Vec Ideal S4x128x256 .f32) : kernelRun0_B.sl.v1673 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 3 0 (by omega) (by omega) (st (raw_ m c t) (back Z) 0 0) := by
  delta kernelRun0_B.sl.v1673 kernelRun0_B.sl.v1668 kernelRun0_B.sl.v1667 kernelRun0_B.sl.v1485 kernelRun0_B.sl.v1484 kernelRun0_B.sl.v1256 kernelRun0_B.sl.v1253 kernelRun0_B.sl.v379 kernelRun0_B.sl.v1249 kernelRun0_B.sl.v380 kernelRun0_B.sl.cst_230 kernelRun0_B.sl.v1480 kernelRun0_B.sl.v1479 kernelRun0_B.sl.v1475 kernelRun0_B.sl.v1478 kernelRun0_B.sl.v1476 kernelRun0_B.sl.v1477 kernelRun0_B.sl.cst_232 kernelRun0_B.sl.v1483 kernelRun0_B.sl.v1258 kernelRun0_B.sl.v1257 kernelRun0_B.sl.v1481 kernelRun0_B.sl.v1266 kernelRun0_B.sl.cst_63 kernelRun0_B.sl.v1672 kernelRun0_B.sl.v1669 give att
  rw [B_v264, B_v273, B_v277, B_v268, B_v1488, B_r_2]
  rfl

/-- A head's state after a chunk. -/
theorem B_v1676 (Z : Vec Ideal S4x128x256 .f32) : kernelRun0_B.sl.v1676 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 0 1 := by
  show _ = move (raw_ m c t) 3 0 (by omega) (by omega) (st (raw_ m c t) (back Z) 0 0)
  delta kernelRun0_B.sl.v1676 kernelRun0_B.sl.v1675 kernelRun0_B.sl.v1674 kernelRun0_B.sl.v360 kernelRun0_B.sl.v359 kernelRun0_B.sl.v358 kernelRun0_B.sl.v357 kernelRun0_B.sl.v356 kernelRun0_B.sl.v355 kernelRun0_B.sl.v1489 kernelRun0_B.sl.v1486 kernelRun0_B.sl.cst_232 move dec upd
  rw [B_v214, B_v220, B_v282, B_v1488, B_r_2]
  rfl

/-- What a chunk gives for a head. -/
theorem B_v1683 (Z : Vec Ideal S4x128x256 .f32) : kernelRun0_B.sl.v1683 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 3 1 (by omega) (by omega) (st (raw_ m c t) (back Z) 1 0) := by
  delta kernelRun0_B.sl.v1683 kernelRun0_B.sl.v1678 kernelRun0_B.sl.v1677 kernelRun0_B.sl.v1500 kernelRun0_B.sl.v1499 kernelRun0_B.sl.v1256 kernelRun0_B.sl.v1253 kernelRun0_B.sl.v379 kernelRun0_B.sl.v1249 kernelRun0_B.sl.v380 kernelRun0_B.sl.cst_230 kernelRun0_B.sl.v1495 kernelRun0_B.sl.v1494 kernelRun0_B.sl.v1490 kernelRun0_B.sl.v1493 kernelRun0_B.sl.v1491 kernelRun0_B.sl.v1492 kernelRun0_B.sl.cst_232 kernelRun0_B.sl.v1498 kernelRun0_B.sl.v1258 kernelRun0_B.sl.v1257 kernelRun0_B.sl.v1496 kernelRun0_B.sl.v1266 kernelRun0_B.sl.cst_63 kernelRun0_B.sl.v1682 kernelRun0_B.sl.v1679 give att
  rw [B_v264, B_v273, B_v277, B_v268, B_v1503, B_r_3]
  rfl

/-- A head's state after a chunk. -/
theorem B_v1686 (Z : Vec Ideal S4x128x256 .f32) : kernelRun0_B.sl.v1686 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 1 1 := by
  show _ = move (raw_ m c t) 3 1 (by omega) (by omega) (st (raw_ m c t) (back Z) 1 0)
  delta kernelRun0_B.sl.v1686 kernelRun0_B.sl.v1685 kernelRun0_B.sl.v1684 kernelRun0_B.sl.v366 kernelRun0_B.sl.v365 kernelRun0_B.sl.v364 kernelRun0_B.sl.v363 kernelRun0_B.sl.v362 kernelRun0_B.sl.v355 kernelRun0_B.sl.v1504 kernelRun0_B.sl.v1501 kernelRun0_B.sl.cst_232 move dec upd
  rw [B_v214, B_v220, B_v282, B_v1503, B_r_3]
  rfl

/-- What a chunk gives for a head. -/
theorem B_v1693 (Z : Vec Ideal S4x128x256 .f32) : kernelRun0_B.sl.v1693 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 3 2 (by omega) (by omega) (st (raw_ m c t) (back Z) 2 0) := by
  delta kernelRun0_B.sl.v1693 kernelRun0_B.sl.v1688 kernelRun0_B.sl.v1687 kernelRun0_B.sl.v1515 kernelRun0_B.sl.v1514 kernelRun0_B.sl.v1256 kernelRun0_B.sl.v1253 kernelRun0_B.sl.v379 kernelRun0_B.sl.v1249 kernelRun0_B.sl.v380 kernelRun0_B.sl.cst_230 kernelRun0_B.sl.v1510 kernelRun0_B.sl.v1509 kernelRun0_B.sl.v1505 kernelRun0_B.sl.v1508 kernelRun0_B.sl.v1506 kernelRun0_B.sl.v1507 kernelRun0_B.sl.cst_232 kernelRun0_B.sl.v1513 kernelRun0_B.sl.v1258 kernelRun0_B.sl.v1257 kernelRun0_B.sl.v1511 kernelRun0_B.sl.v1266 kernelRun0_B.sl.cst_63 kernelRun0_B.sl.v1692 kernelRun0_B.sl.v1689 give att
  rw [B_v264, B_v273, B_v277, B_v268, B_v1518, B_r_4]
  rfl

/-- A head's state after a chunk. -/
theorem B_v1696 (Z : Vec Ideal S4x128x256 .f32) : kernelRun0_B.sl.v1696 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 2 1 := by
  show _ = move (raw_ m c t) 3 2 (by omega) (by omega) (st (raw_ m c t) (back Z) 2 0)
  delta kernelRun0_B.sl.v1696 kernelRun0_B.sl.v1695 kernelRun0_B.sl.v1694 kernelRun0_B.sl.v372 kernelRun0_B.sl.v371 kernelRun0_B.sl.v370 kernelRun0_B.sl.v369 kernelRun0_B.sl.v368 kernelRun0_B.sl.v355 kernelRun0_B.sl.v1519 kernelRun0_B.sl.v1516 kernelRun0_B.sl.cst_232 move dec upd
  rw [B_v214, B_v220, B_v282, B_v1518, B_r_4]
  rfl

/-- What a chunk gives for a head. -/
theorem B_v1703 (Z : Vec Ideal S4x128x256 .f32) : kernelRun0_B.sl.v1703 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 3 3 (by omega) (by omega) (st (raw_ m c t) (back Z) 3 0) := by
  delta kernelRun0_B.sl.v1703 kernelRun0_B.sl.v1698 kernelRun0_B.sl.v1697 kernelRun0_B.sl.v1530 kernelRun0_B.sl.v1529 kernelRun0_B.sl.v1256 kernelRun0_B.sl.v1253 kernelRun0_B.sl.v379 kernelRun0_B.sl.v1249 kernelRun0_B.sl.v380 kernelRun0_B.sl.cst_230 kernelRun0_B.sl.v1525 kernelRun0_B.sl.v1524 kernelRun0_B.sl.v1520 kernelRun0_B.sl.v1523 kernelRun0_B.sl.v1521 kernelRun0_B.sl.v1522 kernelRun0_B.sl.cst_232 kernelRun0_B.sl.v1528 kernelRun0_B.sl.v1258 kernelRun0_B.sl.v1257 kernelRun0_B.sl.v1526 kernelRun0_B.sl.v1266 kernelRun0_B.sl.cst_63 kernelRun0_B.sl.v1702 kernelRun0_B.sl.v1699 give att
  rw [B_v264, B_v273, B_v277, B_v268, B_v1533, B_r_5]
  rfl

/-- A head's state after a chunk. -/
theorem B_v1706 (Z : Vec Ideal S4x128x256 .f32) : kernelRun0_B.sl.v1706 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 3 1 := by
  show _ = move (raw_ m c t) 3 3 (by omega) (by omega) (st (raw_ m c t) (back Z) 3 0)
  delta kernelRun0_B.sl.v1706 kernelRun0_B.sl.v1705 kernelRun0_B.sl.v1704 kernelRun0_B.sl.v378 kernelRun0_B.sl.v377 kernelRun0_B.sl.v376 kernelRun0_B.sl.v375 kernelRun0_B.sl.v374 kernelRun0_B.sl.v355 kernelRun0_B.sl.v1534 kernelRun0_B.sl.v1531 kernelRun0_B.sl.cst_232 move dec upd
  rw [B_v214, B_v220, B_v282, B_v1533, B_r_5]
  rfl

/-- A chunk's row. -/
theorem B_v1707 (Z : Vec Ideal S4x128x256 .f32) : kernelRun0_B.sl.v1707 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = row (raw_ m c t) (back Z) 3 (by omega) := by
  delta kernelRun0_B.sl.v1707 row
  rw [B_v1673, B_v1683, B_v1693, B_v1703]

/-- What a chunk gives for a head. -/
theorem B_v1714 (Z : Vec Ideal S4x128x256 .f32) : kernelRun0_B.sl.v1714 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 2 0 (by omega) (by omega) (st (raw_ m c t) (back Z) 0 1) := by
  delta kernelRun0_B.sl.v1714 kernelRun0_B.sl.v1709 kernelRun0_B.sl.v1708 kernelRun0_B.sl.v1413 kernelRun0_B.sl.v1412 kernelRun0_B.sl.v1256 kernelRun0_B.sl.v1253 kernelRun0_B.sl.v379 kernelRun0_B.sl.v1249 kernelRun0_B.sl.v380 kernelRun0_B.sl.cst_230 kernelRun0_B.sl.v1408 kernelRun0_B.sl.v1407 kernelRun0_B.sl.v1403 kernelRun0_B.sl.v1406 kernelRun0_B.sl.v1404 kernelRun0_B.sl.v1405 kernelRun0_B.sl.cst_232 kernelRun0_B.sl.v1411 kernelRun0_B.sl.v1258 kernelRun0_B.sl.v1257 kernelRun0_B.sl.v1409 kernelRun0_B.sl.v1266 kernelRun0_B.sl.cst_63 kernelRun0_B.sl.v1713 kernelRun0_B.sl.v1710 give att
  rw [B_v264, B_v273, B_v277, B_v268, B_v1416, B_v1676]
  rfl

/-- A head's state after a chunk. -/
theorem B_v1717 (Z : Vec Ideal S4x128x256 .f32) : kernelRun0_B.sl.v1717 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 0 2 := by
  show _ = move (raw_ m c t) 2 0 (by omega) (by omega) (st (raw_ m c t) (back Z) 0 1)
  delta kernelRun0_B.sl.v1717 kernelRun0_B.sl.v1716 kernelRun0_B.sl.v1715 kernelRun0_B.sl.v336 kernelRun0_B.sl.v335 kernelRun0_B.sl.v334 kernelRun0_B.sl.v333 kernelRun0_B.sl.v332 kernelRun0_B.sl.v331 kernelRun0_B.sl.v1417 kernelRun0_B.sl.v1414 kernelRun0_B.sl.cst_232 move dec upd
  rw [B_v202, B_v208, B_v282, B_v1416, B_v1676]

/-- What a chunk gives for a head. -/
theorem B_v1724 (Z : Vec Ideal S4x128x256 .f32) : kernelRun0_B.sl.v1724 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 2 1 (by omega) (by omega) (st (raw_ m c t) (back Z) 1 1) := by
  delta kernelRun0_B.sl.v1724 kernelRun0_B.sl.v1719 kernelRun0_B.sl.v1718 kernelRun0_B.sl.v1428 kernelRun0_B.sl.v1427 kernelRun0_B.sl.v1256 kernelRun0_B.sl.v1253 kernelRun0_B.sl.v379 kernelRun0_B.sl.v1249 kernelRun0_B.sl.v380 kernelRun0_B.sl.cst_230 kernelRun0_B.sl.v1423 kernelRun0_B.sl.v1422 kernelRun0_B.sl.v1418 kernelRun0_B.sl.v1421 kernelRun0_B.sl.v1419 kernelRun0_B.sl.v1420 kernelRun0_B.sl.cst_232 kernelRun0_B.sl.v1426 kernelRun0_B.sl.v1258 kernelRun0_B.sl.v1257 kernelRun0_B.sl.v1424 kernelRun0_B.sl.v1266 kernelRun0_B.sl.cst_63 kernelRun0_B.sl.v1723 kernelRun0_B.sl.v1720 give att
  rw [B_v264, B_v273, B_v277, B_v268, B_v1431, B_v1686]
  rfl

/-- A head's state after a chunk. -/
theorem B_v1727 (Z : Vec Ideal S4x128x256 .f32) : kernelRun0_B.sl.v1727 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 1 2 := by
  show _ = move (raw_ m c t) 2 1 (by omega) (by omega) (st (raw_ m c t) (back Z) 1 1)
  delta kernelRun0_B.sl.v1727 kernelRun0_B.sl.v1726 kernelRun0_B.sl.v1725 kernelRun0_B.sl.v342 kernelRun0_B.sl.v341 kernelRun0_B.sl.v340 kernelRun0_B.sl.v339 kernelRun0_B.sl.v338 kernelRun0_B.sl.v331 kernelRun0_B.sl.v1432 kernelRun0_B.sl.v1429 kernelRun0_B.sl.cst_232 move dec upd
  rw [B_v202, B_v208, B_v282, B_v1431, B_v1686]

/-- What a chunk gives for a head. -/
theorem B_v1734 (Z : Vec Ideal S4x128x256 .f32) : kernelRun0_B.sl.v1734 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 2 2 (by omega) (by omega) (st (raw_ m c t) (back Z) 2 1) := by
  delta kernelRun0_B.sl.v1734 kernelRun0_B.sl.v1729 kernelRun0_B.sl.v1728 kernelRun0_B.sl.v1443 kernelRun0_B.sl.v1442 kernelRun0_B.sl.v1256 kernelRun0_B.sl.v1253 kernelRun0_B.sl.v379 kernelRun0_B.sl.v1249 kernelRun0_B.sl.v380 kernelRun0_B.sl.cst_230 kernelRun0_B.sl.v1438 kernelRun0_B.sl.v1437 kernelRun0_B.sl.v1433 kernelRun0_B.sl.v1436 kernelRun0_B.sl.v1434 kernelRun0_B.sl.v1435 kernelRun0_B.sl.cst_232 kernelRun0_B.sl.v1441 kernelRun0_B.sl.v1258 kernelRun0_B.sl.v1257 kernelRun0_B.sl.v1439 kernelRun0_B.sl.v1266 kernelRun0_B.sl.cst_63 kernelRun0_B.sl.v1733 kernelRun0_B.sl.v1730 give att
  rw [B_v264, B_v273, B_v277, B_v268, B_v1446, B_v1696]
  rfl

/-- A head's state after a chunk. -/
theorem B_v1737 (Z : Vec Ideal S4x128x256 .f32) : kernelRun0_B.sl.v1737 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 2 2 := by
  show _ = move (raw_ m c t) 2 2 (by omega) (by omega) (st (raw_ m c t) (back Z) 2 1)
  delta kernelRun0_B.sl.v1737 kernelRun0_B.sl.v1736 kernelRun0_B.sl.v1735 kernelRun0_B.sl.v348 kernelRun0_B.sl.v347 kernelRun0_B.sl.v346 kernelRun0_B.sl.v345 kernelRun0_B.sl.v344 kernelRun0_B.sl.v331 kernelRun0_B.sl.v1447 kernelRun0_B.sl.v1444 kernelRun0_B.sl.cst_232 move dec upd
  rw [B_v202, B_v208, B_v282, B_v1446, B_v1696]

/-- What a chunk gives for a head. -/
theorem B_v1744 (Z : Vec Ideal S4x128x256 .f32) : kernelRun0_B.sl.v1744 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 2 3 (by omega) (by omega) (st (raw_ m c t) (back Z) 3 1) := by
  delta kernelRun0_B.sl.v1744 kernelRun0_B.sl.v1739 kernelRun0_B.sl.v1738 kernelRun0_B.sl.v1458 kernelRun0_B.sl.v1457 kernelRun0_B.sl.v1256 kernelRun0_B.sl.v1253 kernelRun0_B.sl.v379 kernelRun0_B.sl.v1249 kernelRun0_B.sl.v380 kernelRun0_B.sl.cst_230 kernelRun0_B.sl.v1453 kernelRun0_B.sl.v1452 kernelRun0_B.sl.v1448 kernelRun0_B.sl.v1451 kernelRun0_B.sl.v1449 kernelRun0_B.sl.v1450 kernelRun0_B.sl.cst_232 kernelRun0_B.sl.v1456 kernelRun0_B.sl.v1258 kernelRun0_B.sl.v1257 kernelRun0_B.sl.v1454 kernelRun0_B.sl.v1266 kernelRun0_B.sl.cst_63 kernelRun0_B.sl.v1743 kernelRun0_B.sl.v1740 give att
  rw [B_v264, B_v273, B_v277, B_v268, B_v1461, B_v1706]
  rfl

/-- A head's state after a chunk. -/
theorem B_v1747 (Z : Vec Ideal S4x128x256 .f32) : kernelRun0_B.sl.v1747 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 3 2 := by
  show _ = move (raw_ m c t) 2 3 (by omega) (by omega) (st (raw_ m c t) (back Z) 3 1)
  delta kernelRun0_B.sl.v1747 kernelRun0_B.sl.v1746 kernelRun0_B.sl.v1745 kernelRun0_B.sl.v354 kernelRun0_B.sl.v353 kernelRun0_B.sl.v352 kernelRun0_B.sl.v351 kernelRun0_B.sl.v350 kernelRun0_B.sl.v331 kernelRun0_B.sl.v1462 kernelRun0_B.sl.v1459 kernelRun0_B.sl.cst_232 move dec upd
  rw [B_v202, B_v208, B_v282, B_v1461, B_v1706]

/-- A chunk's row. -/
theorem B_v1748 (Z : Vec Ideal S4x128x256 .f32) : kernelRun0_B.sl.v1748 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = row (raw_ m c t) (back Z) 2 (by omega) := by
  delta kernelRun0_B.sl.v1748 row
  rw [B_v1714, B_v1724, B_v1734, B_v1744]

/-- What a chunk gives for a head. -/
theorem B_v1755 (Z : Vec Ideal S4x128x256 .f32) : kernelRun0_B.sl.v1755 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 1 0 (by omega) (by omega) (st (raw_ m c t) (back Z) 0 2) := by
  delta kernelRun0_B.sl.v1755 kernelRun0_B.sl.v1750 kernelRun0_B.sl.v1749 kernelRun0_B.sl.v1341 kernelRun0_B.sl.v1340 kernelRun0_B.sl.v1256 kernelRun0_B.sl.v1253 kernelRun0_B.sl.v379 kernelRun0_B.sl.v1249 kernelRun0_B.sl.v380 kernelRun0_B.sl.cst_230 kernelRun0_B.sl.v1336 kernelRun0_B.sl.v1335 kernelRun0_B.sl.v1331 kernelRun0_B.sl.v1334 kernelRun0_B.sl.v1332 kernelRun0_B.sl.v1333 kernelRun0_B.sl.cst_232 kernelRun0_B.sl.v1339 kernelRun0_B.sl.v1258 kernelRun0_B.sl.v1257 kernelRun0_B.sl.v1337 kernelRun0_B.sl.v1266 kernelRun0_B.sl.cst_63 kernelRun0_B.sl.v1754 kernelRun0_B.sl.v1751 give att
  rw [B_v264, B_v273, B_v277, B_v268, B_v1344, B_v1717]
  rfl

/-- A head's state after a chunk. -/
theorem B_v1758 (Z : Vec Ideal S4x128x256 .f32) : kernelRun0_B.sl.v1758 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 0 3 := by
  show _ = move (raw_ m c t) 1 0 (by omega) (by omega) (st (raw_ m c t) (back Z) 0 2)
  delta kernelRun0_B.sl.v1758 kernelRun0_B.sl.v1757 kernelRun0_B.sl.v1756 kernelRun0_B.sl.v312 kernelRun0_B.sl.v311 kernelRun0_B.sl.v310 kernelRun0_B.sl.v309 kernelRun0_B.sl.v308 kernelRun0_B.sl.v307 kernelRun0_B.sl.v1345 kernelRun0_B.sl.v1342 kernelRun0_B.sl.cst_232 move dec upd
  rw [B_v190, B_v196, B_v282, B_v1344, B_v1717]

/-- What a chunk gives for a head. -/
theorem B_v1765 (Z : Vec Ideal S4x128x256 .f32) : kernelRun0_B.sl.v1765 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 1 1 (by omega) (by omega) (st (raw_ m c t) (back Z) 1 2) := by
  delta kernelRun0_B.sl.v1765 kernelRun0_B.sl.v1760 kernelRun0_B.sl.v1759 kernelRun0_B.sl.v1356 kernelRun0_B.sl.v1355 kernelRun0_B.sl.v1256 kernelRun0_B.sl.v1253 kernelRun0_B.sl.v379 kernelRun0_B.sl.v1249 kernelRun0_B.sl.v380 kernelRun0_B.sl.cst_230 kernelRun0_B.sl.v1351 kernelRun0_B.sl.v1350 kernelRun0_B.sl.v1346 kernelRun0_B.sl.v1349 kernelRun0_B.sl.v1347 kernelRun0_B.sl.v1348 kernelRun0_B.sl.cst_232 kernelRun0_B.sl.v1354 kernelRun0_B.sl.v1258 kernelRun0_B.sl.v1257 kernelRun0_B.sl.v1352 kernelRun0_B.sl.v1266 kernelRun0_B.sl.cst_63 kernelRun0_B.sl.v1764 kernelRun0_B.sl.v1761 give att
  rw [B_v264, B_v273, B_v277, B_v268, B_v1359, B_v1727]
  rfl

/-- A head's state after a chunk. -/
theorem B_v1768 (Z : Vec Ideal S4x128x256 .f32) : kernelRun0_B.sl.v1768 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 1 3 := by
  show _ = move (raw_ m c t) 1 1 (by omega) (by omega) (st (raw_ m c t) (back Z) 1 2)
  delta kernelRun0_B.sl.v1768 kernelRun0_B.sl.v1767 kernelRun0_B.sl.v1766 kernelRun0_B.sl.v318 kernelRun0_B.sl.v317 kernelRun0_B.sl.v316 kernelRun0_B.sl.v315 kernelRun0_B.sl.v314 kernelRun0_B.sl.v307 kernelRun0_B.sl.v1360 kernelRun0_B.sl.v1357 kernelRun0_B.sl.cst_232 move dec upd
  rw [B_v190, B_v196, B_v282, B_v1359, B_v1727]

/-- What a chunk gives for a head. -/
theorem B_v1775 (Z : Vec Ideal S4x128x256 .f32) : kernelRun0_B.sl.v1775 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 1 2 (by omega) (by omega) (st (raw_ m c t) (back Z) 2 2) := by
  delta kernelRun0_B.sl.v1775 kernelRun0_B.sl.v1770 kernelRun0_B.sl.v1769 kernelRun0_B.sl.v1371 kernelRun0_B.sl.v1370 kernelRun0_B.sl.v1256 kernelRun0_B.sl.v1253 kernelRun0_B.sl.v379 kernelRun0_B.sl.v1249 kernelRun0_B.sl.v380 kernelRun0_B.sl.cst_230 kernelRun0_B.sl.v1366 kernelRun0_B.sl.v1365 kernelRun0_B.sl.v1361 kernelRun0_B.sl.v1364 kernelRun0_B.sl.v1362 kernelRun0_B.sl.v1363 kernelRun0_B.sl.cst_232 kernelRun0_B.sl.v1369 kernelRun0_B.sl.v1258 kernelRun0_B.sl.v1257 kernelRun0_B.sl.v1367 kernelRun0_B.sl.v1266 kernelRun0_B.sl.cst_63 kernelRun0_B.sl.v1774 kernelRun0_B.sl.v1771 give att
  rw [B_v264, B_v273, B_v277, B_v268, B_v1374, B_v1737]
  rfl

/-- A head's state after a chunk. -/
theorem B_v1778 (Z : Vec Ideal S4x128x256 .f32) : kernelRun0_B.sl.v1778 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 2 3 := by
  show _ = move (raw_ m c t) 1 2 (by omega) (by omega) (st (raw_ m c t) (back Z) 2 2)
  delta kernelRun0_B.sl.v1778 kernelRun0_B.sl.v1777 kernelRun0_B.sl.v1776 kernelRun0_B.sl.v324 kernelRun0_B.sl.v323 kernelRun0_B.sl.v322 kernelRun0_B.sl.v321 kernelRun0_B.sl.v320 kernelRun0_B.sl.v307 kernelRun0_B.sl.v1375 kernelRun0_B.sl.v1372 kernelRun0_B.sl.cst_232 move dec upd
  rw [B_v190, B_v196, B_v282, B_v1374, B_v1737]

/-- What a chunk gives for a head. -/
theorem B_v1785 (Z : Vec Ideal S4x128x256 .f32) : kernelRun0_B.sl.v1785 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 1 3 (by omega) (by omega) (st (raw_ m c t) (back Z) 3 2) := by
  delta kernelRun0_B.sl.v1785 kernelRun0_B.sl.v1780 kernelRun0_B.sl.v1779 kernelRun0_B.sl.v1386 kernelRun0_B.sl.v1385 kernelRun0_B.sl.v1256 kernelRun0_B.sl.v1253 kernelRun0_B.sl.v379 kernelRun0_B.sl.v1249 kernelRun0_B.sl.v380 kernelRun0_B.sl.cst_230 kernelRun0_B.sl.v1381 kernelRun0_B.sl.v1380 kernelRun0_B.sl.v1376 kernelRun0_B.sl.v1379 kernelRun0_B.sl.v1377 kernelRun0_B.sl.v1378 kernelRun0_B.sl.cst_232 kernelRun0_B.sl.v1384 kernelRun0_B.sl.v1258 kernelRun0_B.sl.v1257 kernelRun0_B.sl.v1382 kernelRun0_B.sl.v1266 kernelRun0_B.sl.cst_63 kernelRun0_B.sl.v1784 kernelRun0_B.sl.v1781 give att
  rw [B_v264, B_v273, B_v277, B_v268, B_v1389, B_v1747]
  rfl

/-- A head's state after a chunk. -/
theorem B_v1788 (Z : Vec Ideal S4x128x256 .f32) : kernelRun0_B.sl.v1788 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 3 3 := by
  show _ = move (raw_ m c t) 1 3 (by omega) (by omega) (st (raw_ m c t) (back Z) 3 2)
  delta kernelRun0_B.sl.v1788 kernelRun0_B.sl.v1787 kernelRun0_B.sl.v1786 kernelRun0_B.sl.v330 kernelRun0_B.sl.v329 kernelRun0_B.sl.v328 kernelRun0_B.sl.v327 kernelRun0_B.sl.v326 kernelRun0_B.sl.v307 kernelRun0_B.sl.v1390 kernelRun0_B.sl.v1387 kernelRun0_B.sl.cst_232 move dec upd
  rw [B_v190, B_v196, B_v282, B_v1389, B_v1747]

/-- A chunk's row. -/
theorem B_v1789 (Z : Vec Ideal S4x128x256 .f32) : kernelRun0_B.sl.v1789 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = row (raw_ m c t) (back Z) 1 (by omega) := by
  delta kernelRun0_B.sl.v1789 row
  rw [B_v1755, B_v1765, B_v1775, B_v1785]

/-- What a chunk gives for a head. -/
theorem B_v1796 (Z : Vec Ideal S4x128x256 .f32) : kernelRun0_B.sl.v1796 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 0 0 (by omega) (by omega) (st (raw_ m c t) (back Z) 0 3) := by
  delta kernelRun0_B.sl.v1796 kernelRun0_B.sl.v1791 kernelRun0_B.sl.v1790 kernelRun0_B.sl.v1269 kernelRun0_B.sl.v1268 kernelRun0_B.sl.v1256 kernelRun0_B.sl.v1253 kernelRun0_B.sl.v379 kernelRun0_B.sl.v1249 kernelRun0_B.sl.v380 kernelRun0_B.sl.cst_230 kernelRun0_B.sl.v1264 kernelRun0_B.sl.v1263 kernelRun0_B.sl.v1259 kernelRun0_B.sl.v1262 kernelRun0_B.sl.v1260 kernelRun0_B.sl.v1261 kernelRun0_B.sl.cst_232 kernelRun0_B.sl.v1267 kernelRun0_B.sl.v1258 kernelRun0_B.sl.v1257 kernelRun0_B.sl.v1265 kernelRun0_B.sl.v1266 kernelRun0_B.sl.cst_63 kernelRun0_B.sl.v1795 kernelRun0_B.sl.v1792 give att
  rw [B_v264, B_v273, B_v277, B_v268, B_v1272, B_v1758]
  rfl

/-- A head's state after a chunk. -/
theorem B_v1799 (Z : Vec Ideal S4x128x256 .f32) : kernelRun0_B.sl.v1799 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 0 4 := by
  show _ = move (raw_ m c t) 0 0 (by omega) (by omega) (st (raw_ m c t) (back Z) 0 3)
  delta kernelRun0_B.sl.v1799 kernelRun0_B.sl.v1798 kernelRun0_B.sl.v1797 kernelRun0_B.sl.v288 kernelRun0_B.sl.v287 kernelRun0_B.sl.v286 kernelRun0_B.sl.v285 kernelRun0_B.sl.v284 kernelRun0_B.sl.v283 kernelRun0_B.sl.v1273 kernelRun0_B.sl.v1270 kernelRun0_B.sl.cst_232 move dec upd
  rw [B_v178, B_v184, B_v282, B_v1272, B_v1758]

/-- What a chunk gives for a head. -/
theorem B_v1806 (Z : Vec Ideal S4x128x256 .f32) : kernelRun0_B.sl.v1806 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 0 1 (by omega) (by omega) (st (raw_ m c t) (back Z) 1 3) := by
  delta kernelRun0_B.sl.v1806 kernelRun0_B.sl.v1801 kernelRun0_B.sl.v1800 kernelRun0_B.sl.v1284 kernelRun0_B.sl.v1283 kernelRun0_B.sl.v1256 kernelRun0_B.sl.v1253 kernelRun0_B.sl.v379 kernelRun0_B.sl.v1249 kernelRun0_B.sl.v380 kernelRun0_B.sl.cst_230 kernelRun0_B.sl.v1279 kernelRun0_B.sl.v1278 kernelRun0_B.sl.v1274 kernelRun0_B.sl.v1277 kernelRun0_B.sl.v1275 kernelRun0_B.sl.v1276 kernelRun0_B.sl.cst_232 kernelRun0_B.sl.v1282 kernelRun0_B.sl.v1258 kernelRun0_B.sl.v1257 kernelRun0_B.sl.v1280 kernelRun0_B.sl.v1266 kernelRun0_B.sl.cst_63 kernelRun0_B.sl.v1805 kernelRun0_B.sl.v1802 give att
  rw [B_v264, B_v273, B_v277, B_v268, B_v1287, B_v1768]
  rfl

/-- A head's state after a chunk. -/
theorem B_v1809 (Z : Vec Ideal S4x128x256 .f32) : kernelRun0_B.sl.v1809 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 1 4 := by
  show _ = move (raw_ m c t) 0 1 (by omega) (by omega) (st (raw_ m c t) (back Z) 1 3)
  delta kernelRun0_B.sl.v1809 kernelRun0_B.sl.v1808 kernelRun0_B.sl.v1807 kernelRun0_B.sl.v294 kernelRun0_B.sl.v293 kernelRun0_B.sl.v292 kernelRun0_B.sl.v291 kernelRun0_B.sl.v290 kernelRun0_B.sl.v283 kernelRun0_B.sl.v1288 kernelRun0_B.sl.v1285 kernelRun0_B.sl.cst_232 move dec upd
  rw [B_v178, B_v184, B_v282, B_v1287, B_v1768]

/-- What a chunk gives for a head. -/
theorem B_v1816 (Z : Vec Ideal S4x128x256 .f32) : kernelRun0_B.sl.v1816 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 0 2 (by omega) (by omega) (st (raw_ m c t) (back Z) 2 3) := by
  delta kernelRun0_B.sl.v1816 kernelRun0_B.sl.v1811 kernelRun0_B.sl.v1810 kernelRun0_B.sl.v1299 kernelRun0_B.sl.v1298 kernelRun0_B.sl.v1256 kernelRun0_B.sl.v1253 kernelRun0_B.sl.v379 kernelRun0_B.sl.v1249 kernelRun0_B.sl.v380 kernelRun0_B.sl.cst_230 kernelRun0_B.sl.v1294 kernelRun0_B.sl.v1293 kernelRun0_B.sl.v1289 kernelRun0_B.sl.v1292 kernelRun0_B.sl.v1290 kernelRun0_B.sl.v1291 kernelRun0_B.sl.cst_232 kernelRun0_B.sl.v1297 kernelRun0_B.sl.v1258 kernelRun0_B.sl.v1257 kernelRun0_B.sl.v1295 kernelRun0_B.sl.v1266 kernelRun0_B.sl.cst_63 kernelRun0_B.sl.v1815 kernelRun0_B.sl.v1812 give att
  rw [B_v264, B_v273, B_v277, B_v268, B_v1302, B_v1778]
  rfl

/-- A head's state after a chunk. -/
theorem B_v1819 (Z : Vec Ideal S4x128x256 .f32) : kernelRun0_B.sl.v1819 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 2 4 := by
  show _ = move (raw_ m c t) 0 2 (by omega) (by omega) (st (raw_ m c t) (back Z) 2 3)
  delta kernelRun0_B.sl.v1819 kernelRun0_B.sl.v1818 kernelRun0_B.sl.v1817 kernelRun0_B.sl.v300 kernelRun0_B.sl.v299 kernelRun0_B.sl.v298 kernelRun0_B.sl.v297 kernelRun0_B.sl.v296 kernelRun0_B.sl.v283 kernelRun0_B.sl.v1303 kernelRun0_B.sl.v1300 kernelRun0_B.sl.cst_232 move dec upd
  rw [B_v178, B_v184, B_v282, B_v1302, B_v1778]

/-- What a chunk gives for a head. -/
theorem B_v1826 (Z : Vec Ideal S4x128x256 .f32) : kernelRun0_B.sl.v1826 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = give (raw_ m c t) 0 3 (by omega) (by omega) (st (raw_ m c t) (back Z) 3 3) := by
  delta kernelRun0_B.sl.v1826 kernelRun0_B.sl.v1821 kernelRun0_B.sl.v1820 kernelRun0_B.sl.v1314 kernelRun0_B.sl.v1313 kernelRun0_B.sl.v1256 kernelRun0_B.sl.v1253 kernelRun0_B.sl.v379 kernelRun0_B.sl.v1249 kernelRun0_B.sl.v380 kernelRun0_B.sl.cst_230 kernelRun0_B.sl.v1309 kernelRun0_B.sl.v1308 kernelRun0_B.sl.v1304 kernelRun0_B.sl.v1307 kernelRun0_B.sl.v1305 kernelRun0_B.sl.v1306 kernelRun0_B.sl.cst_232 kernelRun0_B.sl.v1312 kernelRun0_B.sl.v1258 kernelRun0_B.sl.v1257 kernelRun0_B.sl.v1310 kernelRun0_B.sl.v1266 kernelRun0_B.sl.cst_63 kernelRun0_B.sl.v1825 kernelRun0_B.sl.v1822 give att
  rw [B_v264, B_v273, B_v277, B_v268, B_v1317, B_v1788]
  rfl

/-- A head's state after a chunk. -/
theorem B_v1829 (Z : Vec Ideal S4x128x256 .f32) : kernelRun0_B.sl.v1829 c (ms0_0 t) (hs0_0 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 4 t) (iblk m c 5 t) (iblk m c 7 t) (iblk m c 8 t) (iblk m c 10 t) Z = st (raw_ m c t) (back Z) 3 4 := by
  show _ = move (raw_ m c t) 0 3 (by omega) (by omega) (st (raw_ m c t) (back Z) 3 3)
  delta kernelRun0_B.sl.v1829 kernelRun0_B.sl.v1828 kernelRun0_B.sl.v1827 kernelRun0_B.sl.v306 kernelRun0_B.sl.v305 kernelRun0_B.sl.v304 kernelRun0_B.sl.v303 kernelRun0_B.sl.v302 kernelRun0_B.sl.v283 kernelRun0_B.sl.v1318 kernelRun0_B.sl.v1315 kernelRun0_B.sl.cst_232 move dec upd
  rw [B_v178, B_v184, B_v282, B_v1317, B_v1788]

/-- A chunk's row. -/
theorem B_v1830 (Z : Vec Ideal S4x128x256 .f32) : kernelRun0_B.sl.v1830 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = row (raw_ m c t) (back Z) 0 (by omega) := by
  delta kernelRun0_B.sl.v1830 row
  rw [B_v1796, B_v1806, B_v1816, B_v1826]

/-- The block. -/
theorem B_v1840 (Z : Vec Ideal S4x128x256 .f32) : kernelRun0_B.sl.v1840 c (ms0_0 t) (hs0_0 t) (ms0_3 t) (hs0_3 t) (ms0_4 t) (hs0_4 t) (ms0_5 t) (hs0_5 t) (ms0_7 t) (hs0_7 t) (ms0_8 t) (hs0_8 t) (ms0_10 t) (hs0_10 t) scM0_1 (Memref.isWhole_whole _) (iblk m c 0 t) (iblk m c 3 t) (iblk m c 4 t) (iblk m c 5 t) (iblk m c 7 t) (iblk m c 8 t) (iblk m c 10 t) Z = block (raw_ m c t) (back Z) := by
  delta kernelRun0_B.sl.v1840 kernelRun0_B.sl.v1837 kernelRun0_B.sl.v1832 block
  rw [B_v1830, B_v1789, B_v1748, B_v1707]

end Cert.Kernel1Ideal.Stage

end
-- ==== Proof.ScanRun.lean ====
/- What a grid step of the backward scan leaves in its second result and in the carried state. -/
module

public import proofs.«01_k».proof.Proof.ScanStepA
public import proofs.«01_k».proof.Proof.ScanStepB
public import proofs.«01_k».proof.Proof.Gen.Kernel1Ideal.Value
public import Idealize.ShloMosaic.Lib.Pointwise
public import Idealize.ShloMosaic.Lib.Pipeline.ValueKit

@[expose] public section

set_option maxRecDepth 16384

noncomputable section

namespace Cert.Kernel1Ideal.Stage

open Cert.Kernel1Ideal Cert.Kernel1Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- A piece of another head is passed over. -/
theorem skip (k h : Fin 4) (hk : k ≠ h) (inb : ∀ a, ![k.val, 0, 0] a + (![1, 128, 256] : Fin 3 → ℕ) a ≤ S4x128x256.size a) (w : Vec Ideal S1x128x256 .f32)
    (L : List (View.Piece (Elt Ideal) S4x128x256 .f32)) (x : Fin 128) (e : Fin 256) :
    View.canon ((⟨Rect.unit ![k.val, 0, 0] ![1, 128, 256] inb, w⟩ : View.Piece (Elt Ideal) S4x128x256 .f32) :: L) (ix3 h x e) = View.canon L (ix3 h x e) := by
  refine View.canon_cons_of_not_mem _ _ fun hm => ?_
  rw [Rect.mem_set_unit] at hm
  have h' : k.val ≤ h.val ∧ h.val < k.val + 1 := hm 0
  exact hk (Fin.ext (by omega))

/-- A piece of the head is read. -/
theorem hit (h : Fin 4) (inb : ∀ a, ![h.val, 0, 0] a + (![1, 128, 256] : Fin 3 → ℕ) a ≤ S4x128x256.size a) (w : Vec Ideal S1x128x256 .f32)
    (L : List (View.Piece (Elt Ideal) S4x128x256 .f32)) (x : Fin 128) (e : Fin 256) :
    View.canon ((⟨Rect.unit ![h.val, 0, 0] ![1, 128, 256] inb, w⟩ : View.Piece (Elt Ideal) S4x128x256 .f32) :: L) (ix3 h x e) = w (ix3 0 x e) := by
  have on : (ix3 h x e : S4x128x256.Idx) = (Rect.unit (s := S4x128x256) ![h.val, 0, 0] ![1, 128, 256] inb).emb (ix3 0 x e) := by
    funext a
    apply Fin.ext
    rw [Rect.emb_apply]
    fin_cases a
    · rfl
    · simp [Rect.unit, ix3]
    · simp [Rect.unit, ix3]
  rw [on]
  exact View.canon_cons_emb _ _ _ _

/-- There are four heads. -/
theorem four : ∀ h : Fin 4, h = 0 ∨ h = 1 ∨ h = 2 ∨ h = 3 := by decide

/-- A piece of a list of four, one for each head. -/
theorem stored (w0 w1 w2 w3 : Vec Ideal S1x128x256 .f32) (L : List (View.Piece (Elt Ideal) S4x128x256 .f32)) (w : Fin 4 → Vec Ideal S1x128x256 .f32)
    (h0 : w0 = w 0) (h1 : w1 = w 1) (h2 : w2 = w 2) (h3 : w3 = w 3) (h : Fin 4) (x : Fin 128) (e : Fin 256) :
    View.canon ((⟨Rect.unit ![3, 0, 0] ![1, 128, 256] inb_S4x128x256_S1x128x256_3_0_0, w3⟩ : View.Piece (Elt Ideal) S4x128x256 .f32) ::
      (⟨Rect.unit ![2, 0, 0] ![1, 128, 256] inb_S4x128x256_S1x128x256_2_0_0, w2⟩ : View.Piece (Elt Ideal) S4x128x256 .f32) ::
      (⟨Rect.unit ![1, 0, 0] ![1, 128, 256] inb_S4x128x256_S1x128x256_1_0_0, w1⟩ : View.Piece (Elt Ideal) S4x128x256 .f32) ::
      (⟨Rect.unit ![0, 0, 0] ![1, 128, 256] inb_S4x128x256_S1x128x256_0_0_0, w0⟩ : View.Piece (Elt Ideal) S4x128x256 .f32) :: L) (ix3 h x e) = w h (ix3 0 x e) := by
  subst h0 h1 h2 h3
  have c3 := fun hk => skip 3 h hk inb_S4x128x256_S1x128x256_3_0_0 (w 3)
  have c2 := fun hk => skip 2 h hk inb_S4x128x256_S1x128x256_2_0_0 (w 2)
  have c1 := fun hk => skip 1 h hk inb_S4x128x256_S1x128x256_1_0_0 (w 1)
  rcases four h with rfl | rfl | rfl | rfl
  · exact (c3 (by decide) _ x e).trans ((c2 (by decide) _ x e).trans ((c1 (by decide) _ x e).trans (hit 0 inb_S4x128x256_S1x128x256_0_0_0 (w 0) L x e)))
  · exact (c3 (by decide) _ x e).trans ((c2 (by decide) _ x e).trans (hit 1 inb_S4x128x256_S1x128x256_1_0_0 (w 1) _ x e))
  · exact (c3 (by decide) _ x e).trans (hit 2 inb_S4x128x256_S1x128x256_2_0_0 (w 2) _ x e)
  · exact hit 3 inb_S4x128x256_S1x128x256_3_0_0 (w 3) _ x e

/-- The three-axis form of a head. -/
theorem drop (Y : FVec Ideal S1x128x256 .f32) (x : Fin 128) (e : Fin 256) : shapeCast S128x256 Y shapeCasts_S1x128x256_S128x256 (ix2 x e) = Y (ix3 0 x e) := by
  pointwise

/-- The stored zeros. -/
theorem zeros_eq : View.canon zeros = k0_pay4 (F := Ideal) :=
  View.canon_cons_unit_lit' (Val := Elt Ideal) (S := S4x128x256) (e := .f32) inb_S4x128x256_S4x128x256_0_0_0 (k0_pay4 (F := Ideal)) [] (by decide)

/-- The stored zeros are everywhere. -/
theorem zeros_all (y : S4x128x256.Idx) : ∃ p ∈ zeros, y ∈ p.1.set := by
  refine ⟨_, List.mem_singleton_self _, ?_⟩
  rw [Rect.mem_set_unit]
  intro a
  refine ⟨?_, ?_⟩
  · fin_cases a <;> exact Nat.zero_le _
  · have := (y a).isLt
    fin_cases a <;> simpa using this

/-- A run's first step starts from zero. -/
theorem fresh_at (h : Fin 4) (x : Fin 128) (e : Fin 256) : fresh h (ix2 x e) = 0 := by
  refine (drop _ x e).trans ?_
  rw [View.readCov_eq_canon_ld _ _ _ zeros_all, zeros_eq]
  exact Ideal.ofBits_zero_f32

/-- A stored state's head, read at an index. -/
theorem load_at (Z : Vec Ideal S4x128x256 .f32) (h : Fin 4) (x : Fin 128) (e : Fin 256) : load Z h (ix2 x e) = Z (ix3 h x e) := by
  refine (drop _ x e).trans (congrArg Z (funext fun a => Fin.ext ?_))
  fin_cases a
  · rfl
  · simp [Rect.unit, ix3]
  · simp [Rect.unit, ix3]

/-- A run's first step: the result's block. -/
theorem block_A (h0 : t.val % 4 = 0) : (outsAt0 m c t.val t.isLt).2.1 = block (at_ m c t) fresh := by
  rw [outsAt0_A m c t h0]
  dsimp only
  unfold out0_A_13
  rw [View.read_writes_junk_eq_canon]
  unfold kernelRun0_A
  dsimp only
  rw [A_v1840, raw_eq]
  exact View.canon_cons_unit_lit' (S := S1x512x1024) inb_S1x512x1024_S1x512x1024_0_0_0 _ [] (by decide)

/-- A later step: the result's block. -/
theorem block_B (h0 : ¬t.val % 4 = 0) (hp : t.val - 1 < cfg0.N) :
    (outsAt0 m c t.val t.isLt).2.1 = block (at_ m c t) (load (outsAt0 m c (t.val - 1) hp).2.2.2) := by
  rw [outsAt0_B m c t h0]
  dsimp only
  unfold out0_B_13
  rw [View.read_writes_junk_eq_canon]
  unfold kernelRun0_B
  dsimp only
  rw [B_v1840, raw_eq, back_eq]
  exact View.canon_cons_unit_lit' (S := S1x512x1024) inb_S1x512x1024_S1x512x1024_0_0_0 _ [] (by decide)

/-- A run's first step: the state. -/
theorem keep_A (h0 : t.val % 4 = 0) (h : Fin 4) (x : Fin 128) (e : Fin 256) :
    (outsAt0 m c t.val t.isLt).2.2.2 (ix3 h x e) = keep (at_ m c t) fresh h (ix3 0 x e) := by
  rw [outsAt0_A m c t h0]
  dsimp only
  unfold sout0_A_1
  rw [View.read_writes_junk_eq_canon]
  unfold kernelRun0_A
  dsimp only
  delta kernelRun0_A.sl.r_19
  rw [A_v1799, A_v1809, A_v1819, A_v1829, raw_eq]
  exact stored _ _ _ _ _ (keep (at_ m c t) fresh) rfl rfl rfl rfl h x e

/-- A later step: the state. -/
theorem keep_B (h0 : ¬t.val % 4 = 0) (hp : t.val - 1 < cfg0.N) (h : Fin 4) (x : Fin 128) (e : Fin 256) :
    (outsAt0 m c t.val t.isLt).2.2.2 (ix3 h x e) = keep (at_ m c t) (load (outsAt0 m c (t.val - 1) hp).2.2.2) h (ix3 0 x e) := by
  rw [outsAt0_B m c t h0]
  dsimp only
  unfold sout0_B_1
  rw [View.read_writes_junk_eq_canon]
  unfold kernelRun0_B
  dsimp only
  delta kernelRun0_B.sl.r_19
  rw [B_v1799, B_v1809, B_v1819, B_v1829, raw_eq, back_eq]
  exact stored _ _ _ _ _ (keep (at_ m c t) (load (outsAt0 m c (t.val - 1) hp).2.2.2)) rfl rfl rfl rfl h x e

end Cert.Kernel1Ideal.Stage

end
-- ==== Proof.ScanRow.lean ====
/- The mathematics of one value column of the backward gated linear attention over the reals: the state before a chunk, what
   a chunk adds to it, and the result of a row as the weights inside its chunk and the state after it. -/
module

public import Mathlib.Analysis.SpecialFunctions.Pow.Real
public import Mathlib.Algebra.BigOperators.Intervals
public import Mathlib.Algebra.BigOperators.Fin
public import Mathlib.Data.EReal.Operations

@[expose] public section

noncomputable section

namespace ScanRow

open Finset

/-- The sum of the gates from a row on. -/
def B (g : ℕ → ℝ) (L l : ℕ) : ℝ := ∑ j ∈ Ico l L, g j

/-- The gates between two rows. -/
theorem B_sub (g : ℕ → ℝ) (L l e : ℕ) (h : l ≤ e) (h' : e ≤ L) : ∑ j ∈ Ico l e, g j = B g L l - B g L e := by
  unfold B; rw [← sum_Ico_consecutive g h h']; ring

variable (K : Type) [Fintype K] (L : ℕ) (g q k : ℕ → K → ℝ) (v : ℕ → ℝ)

/-- The sum of a key column's gates from a row on. -/
abbrev A (l : ℕ) (x : K) : ℝ := B (fun j => g j x) L l

/-- The plain weight of row `s` for row `l`. -/
def wt (l s : ℕ) : ℝ := ∑ x, (q l x * Real.exp (A K L g l x)) * (k s x * Real.exp (-A K L g s x))

/-- The plain result of a row. -/
def res (l : ℕ) : ℝ := ∑ s ∈ Ico l L, wt K L g q k l s * v s

/-- The state at a row: what the rows from it on keep. -/
def state (p : ℕ) (x : K) : ℝ := ∑ s ∈ Ico p L, k s x * Real.exp (A K L g p x - A K L g s x) * v s

/-- The end of the half of row `r` of chunk `p`. -/
def hend (p r : ℕ) : ℕ := p + 64 * (r / 64) + 64

/-- The query of row `r` of chunk `p`, from its half's end. -/
def qt (p r : ℕ) (x : K) : ℝ := q (p + r) x * Real.exp (A K L g (p + r) x - A K L g (hend p r) x)
/-- The query from its chunk's end. -/
def qs (p r : ℕ) (x : K) : ℝ := q (p + r) x * Real.exp (A K L g (p + r) x - A K L g (p + 128) x)
/-- The key to its half's end. -/
def ke (p s : ℕ) (x : K) : ℝ := k (p + s) x * Real.exp (-(A K L g (p + s) x - A K L g (hend p s) x))
/-- The key to its half's start. -/
def ks (p s : ℕ) (x : K) : ℝ := k (p + s) x * Real.exp (A K L g (p + 64 * (s / 64)) x - A K L g (p + s) x)
/-- The key to its chunk's start. -/
def kc (p s : ℕ) (x : K) : ℝ := k (p + s) x * Real.exp (A K L g p x - A K L g (p + s) x)
/-- A chunk's decay. -/
def dec (p : ℕ) (x : K) : ℝ := Real.exp (A K L g p x - A K L g (p + 128) x)

/-- The weight inside a chunk, as it is computed by halves. -/
def att (p r s : ℕ) : ℝ :=
  if r / 64 = s / 64 ∧ r ≤ s then ∑ x, qt K L g q p r x * ke K L g k p s x
  else if r < 64 ∧ 64 ≤ s then ∑ x, qt K L g q p r x * ks K L g k p s x else 0

/-- It is the plain weight. -/
theorem att_eq (p r s : ℕ) (hr : r < 128) (hs : s < 128) : att K L g q k p r s = if r ≤ s then wt K L g q k (p + r) (p + s) else 0 := by
  unfold att wt
  by_cases h1 : r / 64 = s / 64 ∧ r ≤ s
  · rw [if_pos h1, if_pos h1.2]
    refine sum_congr rfl fun x _ => ?_
    have he : hend p r = hend p s := by unfold hend; rw [h1.1]
    unfold qt ke
    rw [he]
    rw [show ∀ a b c d : ℝ, a * b * (c * d) = a * c * (b * d) from fun a b c d => by ring, ← Real.exp_add]
    rw [show ∀ a b c d : ℝ, a * b * (c * d) = a * c * (b * d) from fun a b c d => by ring, ← Real.exp_add]
    congr 2; ring
  · rw [if_neg h1]
    by_cases h2 : r < 64 ∧ 64 ≤ s
    · rw [if_pos h2, if_pos (by omega)]
      refine sum_congr rfl fun x _ => ?_
      have e1 : hend p r = p + 64 := by unfold hend; omega
      have e2 : p + 64 * (s / 64) = p + 64 := by omega
      unfold qt ks
      rw [e1, e2]
      rw [show ∀ a b c d : ℝ, a * b * (c * d) = a * c * (b * d) from fun a b c d => by ring, ← Real.exp_add]
      rw [show ∀ a b c d : ℝ, a * b * (c * d) = a * c * (b * d) from fun a b c d => by ring, ← Real.exp_add]
      congr 2; ring
    · rw [if_neg h2, if_neg (by omega)]

/-- What a chunk does to the state. -/
theorem state_step (p : ℕ) (h : p + 128 ≤ L) (x : K) :
    state K L g k v p x = state K L g k v (p + 128) x * dec K L g p x + ∑ s : Fin 128, kc K L g k p s.val x * v (p + s.val) := by
  unfold state
  rw [← sum_Ico_consecutive _ (show p ≤ p + 128 by omega) h, add_comm]
  congr 1
  · rw [sum_mul]
    refine sum_congr rfl fun s _ => ?_
    unfold dec
    rw [show ∀ a b c d : ℝ, a * b * c * d = a * (b * d) * c from fun a b c d => by ring, ← Real.exp_add]
    congr 3; ring
  · rw [Finset.sum_Ico_eq_sum_range, Nat.add_sub_cancel_left, Finset.sum_range]
    rfl

/-- The result of a row from its chunk's weights and the state after the chunk. -/
theorem res_eq (p r : ℕ) (hr : r < 128) (h : p + 128 ≤ L) :
    ∑ x, qs K L g q p r x * state K L g k v (p + 128) x + ∑ s : Fin 128, att K L g q k p r s.val * v (p + s.val) = res K L g q k v (p + r) := by
  unfold res
  rw [← sum_Ico_consecutive _ (show p + r ≤ p + 128 by omega) h, add_comm]
  congr 1
  · have e : ∑ s : Fin 128, att K L g q k p r s.val * v (p + s.val)
        = ∑ s ∈ Ico p (p + 128), (if p + r ≤ s then wt K L g q k (p + r) s else 0) * v s := by
      rw [Finset.sum_Ico_eq_sum_range, Nat.add_sub_cancel_left, Finset.sum_range]
      refine sum_congr rfl fun s _ => ?_
      rw [att_eq K L g q k p r s.val hr s.isLt]
      congr 1
      refine if_congr (by omega) rfl rfl
    rw [e, ← sum_Ico_consecutive _ (show p ≤ p + r by omega) (show p + r ≤ p + 128 by omega)]
    rw [sum_eq_zero (fun s hs => by rw [if_neg (by have := mem_Ico.mp hs; omega), zero_mul]), zero_add]
    exact sum_congr rfl fun s hs => by rw [if_pos (mem_Ico.mp hs).1]
  · simp only [state, mul_sum]
    rw [sum_comm]
    refine sum_congr rfl fun s _ => ?_
    unfold wt
    rw [sum_mul]
    refine sum_congr rfl fun x _ => ?_
    unfold qs
    rw [show ∀ a b c d e : ℝ, a * b * (c * d * e) = a * c * (b * d) * e from fun a b c d e => by ring, ← Real.exp_add]
    rw [show ∀ a b c d e : ℝ, a * b * (c * d) * e = a * c * (b * d) * e from fun a b c d e => by ring, ← Real.exp_add]
    congr 3; ring

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over 256 is two sums over 128. -/
theorem sum_halves {M : Type} [AddCommMonoid M] (f : Fin 256 → M) : ∑ i, f i = ∑ i : Fin 128, f ⟨i.val, by omega⟩ + ∑ i : Fin 128, f ⟨128 + i.val, by omega⟩ :=
  Fin.sum_univ_add (a := 128) (b := 128) f

/-- A sum over 192 is three sums over 64. -/
theorem sum_thirds {M : Type} [AddCommMonoid M] (f : Fin 192 → M) :
    ∑ i, f i = ∑ i : Fin 64, f ⟨i.val, by omega⟩ + ∑ i : Fin 64, f ⟨64 + i.val, by omega⟩ + ∑ i : Fin 64, f ⟨128 + i.val, by omega⟩ := by
  refine (Fin.sum_univ_add (a := 128) (b := 64) f).trans ?_
  congr 1
  exact Fin.sum_univ_add (a := 64) (b := 64) fun i : Fin 128 => f ⟨i.val, by omega⟩

/-- The sum of the terms from one on. -/
theorem sum_from (f : ℕ → ℝ) (n i a : ℕ) (hi : i ≤ n) : ∑ s : Fin n, (if i ≤ s.val then f (a + s.val) else 0) = ∑ s ∈ Ico (a + i) (a + n), f s := by
  rw [← Finset.sum_range (fun s => if i ≤ s then f (a + s) else 0), ← Finset.sum_filter]
  rw [Finset.sum_Ico_eq_sum_range, show a + n - (a + i) = n - i by omega]
  have e : (range n).filter (fun s => i ≤ s) = Ico i n := by
    ext s; simp only [mem_filter, mem_range, mem_Ico]; omega
  rw [e, Finset.sum_Ico_eq_sum_range]
  exact sum_congr rfl fun s _ => by rw [add_assoc]

/-- A power of two is an exponential. -/
theorem two_pow (x : ℝ) : Real.rpow 2 x = Real.exp (x * Real.log 2) := by
  rw [mul_comm]; exact Real.rpow_def_of_pos (by norm_num) x

/-- The logarithm of the gate's sigmoid. -/
def lsig (x : ℝ) : ℝ := min x 0 - Real.log (1 + Real.exp (-|x|))

end ScanRow

end
-- ==== Proof.ScanKernel.lean ====
/- The stages of the backward scan's second result read at an index, when the step's blocks hold real numbers. -/
module

public import proofs.«01_k».proof.Proof.ScanStages
public import proofs.«01_k».proof.Proof.ScanRow

@[expose] public section

set_option maxRecDepth 16384

noncomputable section

namespace Cert.Kernel1Ideal.Stage

open Cert.Kernel1Ideal Cert.Kernel1Ideal.Gen Idealize.ShloMosaic Idealize.ShloMosaic.TcCoe Idealize.SL.Sem

/-- The blocks hold real numbers: the gates in units of the logarithm of two, the queries, keys and values from row `P` on. -/
structure Good (X : Blocks) (P : ℕ) (g q k : ℕ → Fin 512 → ℝ) (v : ℕ → Fin 1024 → ℝ) : Prop where
  le : P + 512 ≤ 2048
  gate : ∀ (r : Fin 512) (j : Fin 512), k0_pay62 X.sm X.w X.b (ix2 r j) = ((g (P + r.val) j / Real.log 2 : ℝ) : EReal)
  q : ∀ (r : Fin 512) (j : Fin 512), X.q (ix3 0 r j) = ((q (P + r.val) j : ℝ) : EReal)
  k : ∀ (r : Fin 512) (j : Fin 512), X.k (ix3 0 r j) = ((k (P + r.val) j : ℝ) : EReal)
  v : ∀ (r : Fin 512) (j : Fin 1024), X.v (ix3 0 r j) = ((v (P + r.val) j : ℝ) : EReal)
  tri : ∀ (i : Fin 64) (j : Fin 192), X.tri (ix2 i j) = if i.val ≤ j.val % 64 then 1 else 0

/-- The exponential with base two of a real in units of the logarithm of two. -/
theorem exp2_log (x : ℝ) : Ideal.exp2 ((x / Real.log 2 : ℝ) : EReal) = ((Real.exp x : ℝ) : EReal) := by
  rw [Ideal.exp2_coe, ScanRow.two_pow, div_mul_cancel₀ _ (Real.log_pos one_lt_two).ne']

variable {X : Blocks} {P : ℕ} {g q k : ℕ → Fin 512 → ℝ} {v : ℕ → Fin 1024 → ℝ} (G : Good X P g q k v)

/-- The sum of a column's gates from a row on. -/
abbrev S (g : ℕ → Fin 512 → ℝ) (l : ℕ) (j : Fin 512) : ℝ := ScanRow.B (fun n => g n j) 2048 l

/-- The zero word. -/
theorem zero_word : (Scalar.ofBits (F := Ideal) .f32 0x00000000#32 : EReal) = 0 := by
  exact Ideal.ofBits_zero_f32

include G

/-- The first piece of a gate is the gate. -/
theorem piece0_at (r : Fin 512) (j : Fin 512) : k0_pay63 X.sm X.w X.b (ix2 r j) = ((g (P + r.val) j / Real.log 2 : ℝ) : EReal) := by
  pointwise [k0_pay63]
  exact G.gate r j

/-- Nothing is left after the first piece. -/
theorem left_at (r : Fin 512) (j : Fin 512) : k0_pay64 X.sm X.w X.b (ix2 r j) = 0 := by
  pointwise [k0_pay64]
  rw [piece0_at G, G.gate r j, ← EReal.coe_sub, sub_self, EReal.coe_zero]

/-- The second piece is zero. -/
theorem piece1_at (r : Fin 512) (j : Fin 512) : k0_pay65 X.sm X.w X.b (ix2 r j) = 0 := by
  pointwise [k0_pay65]
  exact left_at G r j

/-- The third piece is zero. -/
theorem piece2_at (r : Fin 512) (j : Fin 512) : k0_pay66 X.sm X.w X.b (ix2 r j) = 0 := by
  pointwise [k0_pay66]
  rw [piece1_at G, left_at G, sub_zero]

/-- A half's later-sums. -/
theorem gh_at (h : ℕ) (hh : h < 8) (i : Fin 64) (j : Fin 512) : gh X h hh (ix2 i j)
    = (((S g (P + 64 * h + i.val) j - S g (P + 64 * h + 64) j) / Real.log 2 : ℝ) : EReal) := by
  have hP := G.le
  pointwise [gh, half, k0_pay67]
  rw [ScanRow.sum_thirds]
  have e0 : ∀ s : Fin 64, (X.tri (ix2 i ⟨s.val, by omega⟩) : EReal) *
      (if h_1 : s.val < 64 then k0_pay63 X.sm X.w X.b (ix2 ⟨64 * h + s.val, by omega⟩ j)
        else if h_2 : s.val - 64 < 64 then k0_pay65 X.sm X.w X.b (ix2 ⟨64 * h + (s.val - 64), by omega⟩ j)
        else k0_pay66 X.sm X.w X.b (ix2 ⟨64 * h + (s.val - 64 - 64), by omega⟩ j))
      = ((if i.val ≤ s.val then g (P + 64 * h + s.val) j / Real.log 2 else 0 : ℝ) : EReal) := by
    intro s
    rw [dif_pos s.isLt, piece0_at G, G.tri]
    have e : s.val % 64 = s.val := Nat.mod_eq_of_lt s.isLt
    simp only [e]
    by_cases hs : i.val ≤ s.val
    · rw [if_pos hs, if_pos hs, one_mul, add_assoc]
    · rw [if_neg hs, if_neg hs, zero_mul, EReal.coe_zero]
  have e1 : ∀ s : Fin 64, (X.tri (ix2 i ⟨64 + s.val, by omega⟩) : EReal) *
      (if h_1 : 64 + s.val < 64 then k0_pay63 X.sm X.w X.b (ix2 ⟨64 * h + (64 + s.val), by omega⟩ j)
        else if h_2 : 64 + s.val - 64 < 64 then k0_pay65 X.sm X.w X.b (ix2 ⟨64 * h + (64 + s.val - 64), by omega⟩ j)
        else k0_pay66 X.sm X.w X.b (ix2 ⟨64 * h + (64 + s.val - 64 - 64), by omega⟩ j)) = 0 := by
    intro s
    rw [dif_neg (by omega), dif_pos (by omega), piece1_at G, mul_zero]
  have e2 : ∀ s : Fin 64, (X.tri (ix2 i ⟨128 + s.val, by omega⟩) : EReal) *
      (if h_1 : 128 + s.val < 64 then k0_pay63 X.sm X.w X.b (ix2 ⟨64 * h + (128 + s.val), by omega⟩ j)
        else if h_2 : 128 + s.val - 64 < 64 then k0_pay65 X.sm X.w X.b (ix2 ⟨64 * h + (128 + s.val - 64), by omega⟩ j)
        else k0_pay66 X.sm X.w X.b (ix2 ⟨64 * h + (128 + s.val - 64 - 64), by omega⟩ j)) = 0 := by
    intro s
    rw [dif_neg (by omega), dif_neg (by omega), piece2_at G, mul_zero]
  refine (congrArg₂ (· + ·) (congrArg₂ (· + ·) (Finset.sum_congr rfl fun s _ => e0 s) (Finset.sum_congr rfl fun s _ => e1 s))
    (Finset.sum_congr rfl fun s _ => e2 s)).trans ?_
  simp only [Finset.sum_const_zero, add_zero]
  rw [← ScanRow.coe_sum]
  congr 1
  rw [ScanRow.sum_from (fun n => g n j / Real.log 2) 64 i.val (P + 64 * h) (by omega), ← Finset.sum_div,
    ScanRow.B_sub (fun n => g n j) 2048 _ _ (by omega) (by omega)]

/-- A half's sum. -/
theorem tot_at (h : ℕ) (hh : h < 8) (j : Fin 512) : tot X h hh (ix2 0 j)
    = (((S g (P + 64 * h) j - S g (P + 64 * h + 64) j) / Real.log 2 : ℝ) : EReal) := by
  pointwise [tot, first]
  exact gh_at G h hh 0 j

omit G in
/-- A difference of later-sums at equal rows. -/
theorem diff_congr (j : Fin 512) {a b a' b' : ℕ} (ha : a = a') (hb : b = b') :
    (((S g a j - S g b j) / Real.log 2 : ℝ) : EReal) = (((S g a' j - S g b' j) / Real.log 2 : ℝ) : EReal) := by
  rw [ha, hb]

omit G in
/-- Nothing lies between a row and itself. -/
theorem diff_zero (j : Fin 512) {a b : ℕ} (h : a = b) : ((0 : ℝ) : EReal) = (((S g a j - S g b j) / Real.log 2 : ℝ) : EReal) := by
  rw [h, sub_self, zero_div]

/-- The later-sums of a row's half. -/
theorem later_at (r : Fin 512) (j : Fin 512) : later X (ix2 r j)
    = (((S g (P + r.val) j - S g (P + 64 * (r.val / 64) + 64) j) / Real.log 2 : ℝ) : EReal) := by
  pointwise [later]
  simp only [gh_at G]
  split_ifs <;> exact diff_congr j (by omega) (by omega)

omit G in
/-- A block of zeros. -/
theorem zero_at (i : Fin 64) (j : Fin 512) : (k0_pay85 (F := Ideal)) (ix2 i j) = ((0 : ℝ) : EReal) := by
  pointwise [k0_pay85]
  exact EReal.coe_zero.symm

omit G in
/-- The query block as it is read. -/
theorem q_at (x : Vec Ideal S1x512x512 .f32) (r j : Fin 512) : k0_pay91 x (ix2 r j) = x (ix3 0 r j) := by
  pointwise [k0_pay91]

omit G in
/-- The key block as it is read. -/
theorem k_at (x : Vec Ideal S1x512x512 .f32) (r j : Fin 512) : k0_pay90 x (ix2 r j) = x (ix3 0 r j) := by
  pointwise [k0_pay90]

/-- Queries from their half's end. -/
theorem qt_at (r : Fin 512) (j : Fin 512) : qt X (ix2 r j)
    = ((q (P + r.val) j * Real.exp (S g (P + r.val) j - S g (P + 64 * (r.val / 64) + 64) j) : ℝ) : EReal) := by
  pointwise [qt, k0_pay92]
  rw [later_at G, q_at, G.q]
  refine (congrArg _ (exp2_log _)).trans ?_
  rw [← EReal.coe_mul]

/-- Keys to their half's end. -/
theorem ke_at (r : Fin 512) (j : Fin 512) : ke X (ix2 r j)
    = ((k (P + r.val) j * Real.exp (-(S g (P + r.val) j - S g (P + 64 * (r.val / 64) + 64) j)) : ℝ) : EReal) := by
  pointwise [ke, k0_pay94]
  rw [later_at G, k_at, G.k, zero_sub, ← EReal.coe_neg, ← neg_div]
  refine (congrArg _ (exp2_log _)).trans ?_
  rw [← EReal.coe_mul]

/-- Queries from their chunk's end. -/
theorem qs_at (r : Fin 512) (j : Fin 512) : qs X (ix2 r j)
    = ((q (P + r.val) j * Real.exp (S g (P + r.val) j - S g (P + 128 * (r.val / 128) + 128) j) : ℝ) : EReal) := by
  pointwise [qs, k0_pay93]
  simp only [tot_at G, zero_at]
  have e : ∀ x : EReal, x = (((S g (P + 64 * (r.val / 64) + 64) j - S g (P + 128 * (r.val / 128) + 128) j) / Real.log 2 : ℝ) : EReal) →
      (k0_pay91 X.q (ix2 r j) : EReal) * Ideal.exp2 (later X (ix2 r j) + x)
        = ((q (P + r.val) j * Real.exp (S g (P + r.val) j - S g (P + 128 * (r.val / 128) + 128) j) : ℝ) : EReal) := by
    intro x hx
    rw [hx, later_at G, q_at, G.q, ← EReal.coe_add, ← add_div, exp2_log, ← EReal.coe_mul, sub_add_sub_cancel]
  refine e _ ?_
  split_ifs <;> first | exact diff_congr j (by omega) (by omega) | exact diff_zero j (by omega)

/-- Keys' half sums. -/
theorem bs_at (r : Fin 512) (j : Fin 512) : k0_pay88 (tot X 1 (by omega)) (tot X 2 (by omega)) (tot X 3 (by omega)) (tot X 4 (by omega)) (tot X 5 (by omega)) (tot X 6 (by omega)) (tot X 7 (by omega)) (b0 X) (ix2 r j)
    = (((S g (P + 64 * (r.val / 64)) j - S g (P + 64 * (r.val / 64) + 64) j) / Real.log 2 : ℝ) : EReal) := by
  pointwise [k0_pay88, b0]
  simp only [tot_at G]
  split_ifs <;> exact diff_congr j (by omega) (by omega)

/-- Keys to their half's start. -/
theorem ks_at (r : Fin 512) (j : Fin 512) : ks X (ix2 r j)
    = ((k (P + r.val) j * Real.exp (S g (P + 64 * (r.val / 64)) j - S g (P + r.val) j) : ℝ) : EReal) := by
  pointwise [ks, k0_pay95]
  rw [bs_at G, later_at G, k_at, G.k, ← EReal.coe_sub, ← sub_div]
  refine (congrArg _ (exp2_log _)).trans ?_
  rw [← EReal.coe_mul, sub_sub_sub_cancel_right]

/-- Keys to their chunk's start. -/
theorem kS_at (r : Fin 512) (j : Fin 512) : kS X (ix2 r j)
    = ((k (P + r.val) j * Real.exp (S g (P + 128 * (r.val / 128)) j - S g (P + r.val) j) : ℝ) : EReal) := by
  have e : k0_pay89 (tot X 0 (by omega)) (tot X 2 (by omega)) (tot X 4 (by omega)) (tot X 6 (by omega)) k0_pay85 (ix2 r j)
      = (((S g (P + 128 * (r.val / 128)) j - S g (P + 64 * (r.val / 64)) j) / Real.log 2 : ℝ) : EReal) := by
    pointwise [k0_pay89]
    simp only [tot_at G, zero_at]
    split_ifs <;> first | exact diff_congr j (by omega) (by omega) | exact diff_zero j (by omega)
  pointwise [kS, k0_pay96]
  rw [bs_at G, later_at G, e, k_at, G.k, ← EReal.coe_sub, ← EReal.coe_add, ← sub_div, ← add_div, sub_sub_sub_cancel_right,
    show ∀ a b c : ℝ, a - b + (c - a) = c - b from fun a b c => by ring]
  refine (congrArg _ (exp2_log _)).trans ?_
  rw [← EReal.coe_mul]

/-- A chunk's decay. -/
theorem dec_at (p h : ℕ) (hp : p < 4) (hh : h < 4) (x y : Fin 128) : dec X p h hp hh (ix2 x y)
    = ((Real.exp (S g (P + 128 * p) ⟨128 * h + x.val, by omega⟩ - S g (P + 128 * p + 128) ⟨128 * h + x.val, by omega⟩) : ℝ) : EReal) := by
  pointwise [dec]
  rw [tot_at G, tot_at G, ← EReal.coe_add, ← add_div]
  refine (exp2_log _).trans ?_
  rw [show P + 64 * (2 * p) = P + 128 * p by omega, show P + 64 * (2 * p + 1) = P + 128 * p + 64 by omega, show P + 128 * p + 64 + 64 = P + 128 * p + 128 by omega,
    sub_add_sub_cancel]

/-- A chunk's values of a head. -/
theorem vals_at (p h : ℕ) (hp : p < 4) (hh : h < 4) (s : Fin 128) (e : Fin 256) : vals X p h hp hh (ix2 s e)
    = ((v (P + 128 * p + s.val) ⟨256 * h + e.val, by omega⟩ : ℝ) : EReal) := by
  have e1 : ∀ Y : FVec Ideal S1x128x256 .bf16, shapeCast S128x256 Y shapeCasts_S1x128x256_S128x256 (ix2 s e) = Y (ix3 0 s e) := by
    intro Y; pointwise
  refine (e1 _).trans ?_
  rw [add_assoc]
  refine Eq.trans ?_ (G.v ⟨128 * p + s.val, by omega⟩ ⟨256 * h + e.val, by omega⟩)
  refine congrArg X.v (funext fun a => Fin.ext ?_)
  fin_cases a
  · rfl
  · simp [Rect.unit, ix3]
  · simp [Rect.unit, ix3]

omit G in
/-- The first mask: a later row of the same half. -/
theorem mask_half : ∀ r s : Fin 128, IntOp.andi
        (IntOp.xori (IntOp.xori (IntOp.cmpi CmpIPredicate.sge (BitVec.ofNat 32 r.val) 64#32) (IntOp.cmpi CmpIPredicate.sge (BitVec.ofNat 32 s.val) 64#32)) 1#1)
        (IntOp.cmpi CmpIPredicate.sge (BitVec.ofNat 32 s.val) (BitVec.ofNat 32 r.val))
      = if r.val / 64 = s.val / 64 ∧ r.val ≤ s.val then 1#1 else 0#1 := by decide +kernel

omit G in
/-- The second mask: a row of the second half for a row of the first. -/
theorem mask_cross : ∀ r s : Fin 128, IntOp.andi (IntOp.xori (IntOp.cmpi CmpIPredicate.sge (BitVec.ofNat 32 r.val) 64#32) 1#1)
        (IntOp.cmpi CmpIPredicate.sge (BitVec.ofNat 32 s.val) 64#32)
      = if r.val < 64 ∧ 64 ≤ s.val then 1#1 else 0#1 := by decide +kernel

omit G in
/-- A choice by a decided bit. -/
theorem pick (c : Prop) [Decidable c] (a b : EReal) : Scalar.select (if c then 1#1 else 0#1) a b = if c then a else b := by
  by_cases h : c
  · rw [if_pos h, if_pos h]; rfl
  · rw [if_neg h, if_neg h]; rfl

omit G in
/-- A head's key columns. -/
abbrev keyH (g : ℕ → Fin 512 → ℝ) (h : ℕ) (hh : h < 4) : ℕ → Fin 128 → ℝ := fun n x => g n ⟨128 * h + x.val, by omega⟩

omit G in
/-- One of a head's value columns. -/
abbrev valH (v : ℕ → Fin 1024 → ℝ) (h : ℕ) (hh : h < 4) (e : Fin 256) : ℕ → ℝ := fun n => v n ⟨256 * h + e.val, by omega⟩

/-- The weights inside a chunk. -/
theorem att_at (p h : ℕ) (hp : p < 4) (hh : h < 4) (r s : Fin 128) : att X p h hp hh (ix2 r s)
    = ((ScanRow.att (Fin 128) 2048 (keyH g h hh) (keyH q h hh) (keyH k h hh) (P + 128 * p) r.val s.val : ℝ) : EReal) := by
  pointwise [att, k0_pay213, k0_pay214, k0_pay212, k0_pay211, k0_pay210]
  rw [mask_half r s, mask_cross r s, pick, pick]
  simp only [qt_at G, ke_at G, ks_at G, ← EReal.coe_mul, ← ScanRow.coe_sum]
  unfold ScanRow.att
  have a1 : P + (128 * p + r.val) = P + 128 * p + r.val := by omega
  have a2 : P + (128 * p + s.val) = P + 128 * p + s.val := by omega
  have a3 : P + 64 * ((128 * p + r.val) / 64) + 64 = ScanRow.hend (P + 128 * p) r.val := by unfold ScanRow.hend; omega
  have a4 : P + 64 * ((128 * p + s.val) / 64) + 64 = ScanRow.hend (P + 128 * p) s.val := by unfold ScanRow.hend; omega
  have a5 : P + 64 * ((128 * p + s.val) / 64) = P + 128 * p + 64 * (s.val / 64) := by omega
  simp only [a3, a4]
  simp only [a1, a2, a5]
  by_cases c1 : r.val / 64 = s.val / 64 ∧ r.val ≤ s.val
  · rw [if_pos c1, if_pos c1]
    rfl
  · rw [if_neg c1, if_neg c1]
    by_cases c2 : r.val < 64 ∧ 64 ≤ s.val
    · rw [if_pos c2, if_pos c2]
      rfl
    · rw [if_neg c2, if_neg c2, EReal.coe_zero]

/-- What a chunk adds to a head's state. -/
theorem upd_at (p h : ℕ) (hp : p < 4) (hh : h < 4) (x : Fin 128) (e : Fin 256) : upd X p h hp hh (ix2 x e)
    = ((∑ s : Fin 128, ScanRow.kc (Fin 128) 2048 (keyH g h hh) (keyH k h hh) (P + 128 * p) s.val x * valH v h hh e (P + 128 * p + s.val) : ℝ) : EReal) := by
  pointwise [upd]
  simp only [kS_at G, vals_at G, ← EReal.coe_mul, ← ScanRow.coe_sum]
  congr 1
  refine Finset.sum_congr rfl fun s _ => ?_
  have a2 : P + (128 * p + s.val) = P + 128 * p + s.val := by omega
  have a3 : P + 128 * ((128 * p + s.val) / 128) = P + 128 * p := by omega
  simp only [a2, a3]
  rfl

/-- A head's state after a chunk. -/
theorem move_at (p h : ℕ) (hp : p < 4) (hh : h < 4) (Z : FVec Ideal S128x256 .f32) (x : Fin 128) (e : Fin 256)
    (hZ : Z (ix2 x e) = ((ScanRow.state (Fin 128) 2048 (keyH g h hh) (keyH k h hh) (valH v h hh e) (P + 128 * p + 128) x : ℝ) : EReal)) :
    move X p h hp hh Z (ix2 x e) = ((ScanRow.state (Fin 128) 2048 (keyH g h hh) (keyH k h hh) (valH v h hh e) (P + 128 * p) x : ℝ) : EReal) := by
  have hP := G.le
  pointwise [move]
  simp only [dec_at G, dite_eq_ite, ite_self]
  rw [upd_at G, hZ, ScanRow.state_step _ _ _ _ _ (P + 128 * p) (by omega) x, EReal.coe_add, EReal.coe_mul]
  rfl

/-- What a chunk gives for a head. -/
theorem give_at (p h : ℕ) (hp : p < 4) (hh : h < 4) (Z : FVec Ideal S128x256 .f32) (r : Fin 128) (e : Fin 256)
    (hZ : ∀ x, Z (ix2 x e) = ((ScanRow.state (Fin 128) 2048 (keyH g h hh) (keyH k h hh) (valH v h hh e) (P + 128 * p + 128) x : ℝ) : EReal)) :
    give X p h hp hh Z (ix2 r e)
      = ((ScanRow.res (Fin 128) 2048 (keyH g h hh) (keyH q h hh) (keyH k h hh) (valH v h hh e) (P + 128 * p + r.val) : ℝ) : EReal) := by
  have hP := G.le
  pointwise [give]
  have b1 : ∀ x : Fin 128, qs X (ix2 ⟨128 * p + r.val, by omega⟩ ⟨128 * h + x.val, by omega⟩) * Z (ix2 x e)
      = ((ScanRow.qs (Fin 128) 2048 (keyH g h hh) (keyH q h hh) (P + 128 * p) r.val x
        * ScanRow.state (Fin 128) 2048 (keyH g h hh) (keyH k h hh) (valH v h hh e) (P + 128 * p + 128) x : ℝ) : EReal) := by
    intro x
    have a2 : P + (128 * p + r.val) = P + 128 * p + r.val := by omega
    have a3 : P + 128 * ((128 * p + r.val) / 128) + 128 = P + 128 * p + 128 := by omega
    rw [qs_at G, hZ x, ← EReal.coe_mul]
    simp only [a2, a3]
    rfl
  have b2 : ∀ s : Fin 128, att X p h hp hh (ix2 r s) * vals X p h hp hh (ix2 s e)
      = ((ScanRow.att (Fin 128) 2048 (keyH g h hh) (keyH q h hh) (keyH k h hh) (P + 128 * p) r.val s.val * valH v h hh e (P + 128 * p + s.val) : ℝ) : EReal) := by
    intro s
    rw [att_at G, vals_at G, ← EReal.coe_mul]
  refine (congrArg₂ (· + ·) (Finset.sum_congr rfl fun x _ => b1 x) (Finset.sum_congr rfl fun s _ => b2 s)).trans ?_
  rw [← ScanRow.res_eq _ _ _ _ _ _ (P + 128 * p) r.val r.isLt (by omega), EReal.coe_add, ScanRow.coe_sum, ScanRow.coe_sum]

/-- The states before the chunks of a block. -/
theorem st_at (Z : Fin 4 → FVec Ideal S128x256 .f32) (hZ : ∀ (h : Fin 4) (x : Fin 128) (e : Fin 256), Z h (ix2 x e)
      = ((ScanRow.state (Fin 128) 2048 (keyH g h.val h.isLt) (keyH k h.val h.isLt) (valH v h.val h.isLt e) (P + 512) x : ℝ) : EReal))
    (h : Fin 4) (n : ℕ) (hn : n ≤ 4) (x : Fin 128) (e : Fin 256) : st X Z h n (ix2 x e)
      = ((ScanRow.state (Fin 128) 2048 (keyH g h.val h.isLt) (keyH k h.val h.isLt) (valH v h.val h.isLt e) (P + 128 * (4 - n)) x : ℝ) : EReal) := by
  induction n with
  | zero => exact hZ h x e
  | succ n ih =>
    have hn' : n < 4 := by omega
    unfold st
    rw [dif_pos hn', show 4 - (n + 1) = 3 - n by omega]
    refine move_at G (3 - n) h.val _ h.isLt _ x e ?_
    rw [ih (by omega), show P + 128 * (4 - n) = P + 128 * (3 - n) + 128 by omega]

/-- The stored states after a block. -/
theorem keep_at (Z : Fin 4 → FVec Ideal S128x256 .f32) (hZ : ∀ (h : Fin 4) (x : Fin 128) (e : Fin 256), Z h (ix2 x e)
      = ((ScanRow.state (Fin 128) 2048 (keyH g h.val h.isLt) (keyH k h.val h.isLt) (valH v h.val h.isLt e) (P + 512) x : ℝ) : EReal))
    (h : Fin 4) (x : Fin 128) (e : Fin 256) : keep X Z h (ix3 0 x e)
      = ((ScanRow.state (Fin 128) 2048 (keyH g h.val h.isLt) (keyH k h.val h.isLt) (valH v h.val h.isLt e) P x : ℝ) : EReal) := by
  pointwise [keep]
  exact st_at G Z hZ h 4 le_rfl x e

/-- A chunk's row of the result. -/
theorem row_at (Z : Fin 4 → FVec Ideal S128x256 .f32) (hZ : ∀ (h : Fin 4) (x : Fin 128) (e : Fin 256), Z h (ix2 x e)
      = ((ScanRow.state (Fin 128) 2048 (keyH g h.val h.isLt) (keyH k h.val h.isLt) (valH v h.val h.isLt e) (P + 512) x : ℝ) : EReal))
    (p : ℕ) (hp : p < 4) (r : Fin 128) (E : Fin 1024) : row X Z p hp (ix2 r E)
      = ((ScanRow.res (Fin 128) 2048 (keyH g (E.val / 256) (by omega)) (keyH q (E.val / 256) (by omega)) (keyH k (E.val / 256) (by omega)) (fun n => v n E) (P + 128 * p + r.val) : ℝ) : EReal) := by
  have key : ∀ (a : ℕ) (ha : a < 4) (e : Fin 256), a = E.val / 256 → E.val = 256 * a + e.val → give X p a hp ha (st X Z ⟨a, ha⟩ (3 - p)) (ix2 r e)
      = ((ScanRow.res (Fin 128) 2048 (keyH g (E.val / 256) (by omega)) (keyH q (E.val / 256) (by omega)) (keyH k (E.val / 256) (by omega)) (fun n => v n E) (P + 128 * p + r.val) : ℝ) : EReal) := by
    intro a ha e h1 hE
    subst h1
    rw [give_at G p _ hp ha _ r e fun x => by rw [st_at G Z hZ _ (3 - p) (by omega) x e, show P + 128 * (4 - (3 - p)) = P + 128 * p + 128 by omega]]
    have h2 : valH v (E.val / 256) ha e = fun n => v n E := funext fun n => congrArg (v n) (Fin.ext hE.symm)
    rw [h2]
  pointwise [row]
  by_cases c0 : E.val < 256
  · exact (dif_pos c0).trans (key 0 (by omega) ⟨E.val, c0⟩ (by omega) (by dsimp only; omega))
  refine (dif_neg c0).trans ?_
  by_cases c1 : E.val - 256 < 256
  · exact (dif_pos c1).trans (key 1 (by omega) ⟨E.val - 256, c1⟩ (by omega) (by dsimp only; omega))
  refine (dif_neg c1).trans ?_
  by_cases c2 : E.val - 256 - 256 < 256
  · exact (dif_pos c2).trans (key 2 (by omega) ⟨E.val - 256 - 256, c2⟩ (by omega) (by dsimp only; omega))
  refine (dif_neg c2).trans ?_
  exact key 3 (by omega) ⟨E.val - 256 - 256 - 256, by omega⟩ (by omega) (by dsimp only; omega)

/-- The result's block. -/
theorem block_at (Z : Fin 4 → FVec Ideal S128x256 .f32) (hZ : ∀ (h : Fin 4) (x : Fin 128) (e : Fin 256), Z h (ix2 x e)
      = ((ScanRow.state (Fin 128) 2048 (keyH g h.val h.isLt) (keyH k h.val h.isLt) (valH v h.val h.isLt e) (P + 512) x : ℝ) : EReal))
    (R : Fin 512) (E : Fin 1024) : block X Z (ix3 0 R E)
      = ((ScanRow.res (Fin 128) 2048 (keyH g (E.val / 256) (by omega)) (keyH q (E.val / 256) (by omega)) (keyH k (E.val / 256) (by omega)) (fun n => v n E) (P + R.val) : ℝ) : EReal) := by
  pointwise [block]
  simp only [row_at G Z hZ]
  have key : ∀ n n' : ℕ, n = n' → ((ScanRow.res (Fin 128) 2048 (keyH g (E.val / 256) (by omega)) (keyH q (E.val / 256) (by omega)) (keyH k (E.val / 256) (by omega)) (fun n => v n E) n : ℝ) : EReal)
      = ((ScanRow.res (Fin 128) 2048 (keyH g (E.val / 256) (by omega)) (keyH q (E.val / 256) (by omega)) (keyH k (E.val / 256) (by omega)) (fun n => v n E) n' : ℝ) : EReal) :=
    fun n n' h => by rw [h]
  split_ifs
  all_goals exact key _ _ (by omega)

end Cert.Kernel1Ideal.Stage

end
-- ==== Proof.ScanGoal.lean ====
/- The backward gated linear attention as a function of the arguments, over the reals: the gates, the queries, keys and values
   by batch and row, and the result. -/
module

public import proofs.«01_k».proof.Proof.ScanRow
public import proofs.«01_k».proof.Kernel1Ideal
public import Idealize.ShloMosaic.Lib.Pointwise

@[expose] public section

noncomputable section

namespace ScanGoal

open Cert.Kernel1Ideal Idealize.ShloMosaic

variable (SM : FVec Ideal S8x2048x128 .f32) (Q K : FVec Ideal S8x2048x512 .f32) (V : FVec Ideal S8x2048x1024 .bf16)
  (W : FVec Ideal S16x512 .f32) (B : FVec Ideal S512 .f32)

/-- Every element of an array is a real number. -/
def Reals {s : Shape} {e : FTy} (a : FVec Ideal s e) : Prop := ∀ i, (a i : EReal) = ((EReal.toReal (a i) : ℝ) : EReal)

/-- The gate before its sigmoid. -/
def lin (b : Fin 8) (l : Fin 2048) (j : Fin 512) : ℝ :=
  ∑ i : Fin 16, EReal.toReal (SM (ix3 b l ⟨32 + i.val, by omega⟩)) * EReal.toReal (W (ix2 i j)) + EReal.toReal (B (ix1 j))

/-- The gate. -/
def gate (b : Fin 8) (n : ℕ) (j : Fin 512) : ℝ := if h : n < 2048 then ScanRow.lsig (lin SM W B b ⟨n, h⟩ j) / 16 else 0

/-- A row of the queries or keys. -/
def row (Q : FVec Ideal S8x2048x512 .f32) (b : Fin 8) (n : ℕ) (j : Fin 512) : ℝ := if h : n < 2048 then EReal.toReal (Q (ix3 b ⟨n, h⟩ j)) else 0

/-- A row of the values. -/
def rowV (b : Fin 8) (n : ℕ) (j : Fin 1024) : ℝ := if h : n < 2048 then EReal.toReal (V (ix3 b ⟨n, h⟩ j)) else 0

/-- A head's columns. -/
abbrev head (g : ℕ → Fin 512 → ℝ) (h : ℕ) (hh : h < 4) : ℕ → Fin 128 → ℝ := fun n x => g n ⟨128 * h + x.val, by omega⟩

/-- A cell of the result. -/
def cell (b : Fin 8) (l : ℕ) (e : Fin 1024) : ℝ :=
  ScanRow.res (Fin 128) 2048 (head (gate SM W B b) (e.val / 256) (by omega)) (head (row Q b) (e.val / 256) (by omega)) (head (row K b) (e.val / 256) (by omega))
    (fun n => rowV V b n e) l

/-- The result. -/
def out : FVec Ideal S8x2048x1024 .bf16 := fun y => ((cell SM Q K V W B (y 0) (y 1).val (y 2) : ℝ) : EReal)

/-- The word of sixteen. -/
theorem sixteen : (Ideal.ofBits .f32 0x41800000#32 : EReal) = ((16 : ℝ) : EReal) := by
  simp [Ideal.ofBits, Ideal.ieee, -EReal.coe_mul]; norm_num

/-- The magnitude of a real. -/
theorem abs_real (x : ℝ) : max ((x : ℝ) : EReal) (-((x : ℝ) : EReal)) = ((|x| : ℝ) : EReal) := by
  rw [← EReal.coe_neg, abs_eq_max_neg]
  exact (EReal.coe_strictMono.monotone.map_max).symm

/-- A real divided by sixteen. -/
theorem over_sixteen (x : ℝ) : Ideal.div ((x : ℝ) : EReal) (Ideal.ofBits .f32 0x41800000#32) = ((x / 16 : ℝ) : EReal) := by
  rw [sixteen, Ideal.div_coe (by norm_num), ← EReal.coe_mul, mul_one_div]

/-- The logarithm of one and an exponential. -/
theorem log_one_exp (y : ℝ) : Ideal.log (1 + ((Real.exp y : ℝ) : EReal)) = ((Real.log (1 + Real.exp y) : ℝ) : EReal) := by
  rw [← EReal.coe_one, ← EReal.coe_add, Ideal.log_coe, if_neg (not_le.mpr (by positivity))]

/-- The reference's gate of a real. -/
theorem gate_reference (r : ℝ) : Ideal.div (-(max ((-r : ℝ) : EReal) 0 + Ideal.log1p (Ideal.exp (-(max ((-r : ℝ) : EReal) (-((-r : ℝ) : EReal)))))))
    (Ideal.ofBits .f32 0x41800000#32) = ((ScanRow.lsig r / 16 : ℝ) : EReal) := by
  have e : max ((-r : ℝ) : EReal) 0 = ((max (-r) 0 : ℝ) : EReal) := by
    rw [← EReal.coe_zero]; exact (EReal.coe_strictMono.monotone.map_max).symm
  unfold Ideal.log1p
  rw [abs_real, abs_neg, ← EReal.coe_neg, Ideal.exp_coe, log_one_exp, e, ← EReal.coe_add, ← EReal.coe_neg, over_sixteen]
  congr 2
  unfold ScanRow.lsig
  rcases le_total r 0 with h | h
  · rw [max_eq_left (by linarith), min_eq_left h]; ring
  · rw [max_eq_right (by linarith), min_eq_right h]; ring

/-- The kernel's gate of a real. -/
theorem gate_kernel (x : ℝ) : Ideal.div (min ((x : ℝ) : EReal) 0 * (((Real.log 2)⁻¹ : ℝ) : EReal)
      - Ideal.log (1 + Ideal.exp2 ((0 - max ((x : ℝ) : EReal) (-((x : ℝ) : EReal))) * (((Real.log 2)⁻¹ : ℝ) : EReal))) * (((Real.log 2)⁻¹ : ℝ) : EReal))
    (Ideal.ofBits .f32 0x41800000#32) = ((ScanRow.lsig x / 16 / Real.log 2 : ℝ) : EReal) := by
  have e : min ((x : ℝ) : EReal) 0 = ((min x 0 : ℝ) : EReal) := by
    rw [← EReal.coe_zero]; exact (EReal.coe_strictMono.monotone.map_min).symm
  rw [abs_real, zero_sub, ← EReal.coe_neg, ← EReal.coe_mul, Ideal.exp2_coe, ScanRow.two_pow, inv_mul_cancel_right₀ (Real.log_pos one_lt_two).ne',
    log_one_exp, e, ← EReal.coe_mul, ← EReal.coe_mul, ← EReal.coe_sub, over_sixteen]
  congr 1
  unfold ScanRow.lsig
  ring

end ScanGoal

end
-- ==== Proof.ScanBlocks.lean ====
/- The backward scan's input blocks at a grid point, read at an index. -/
module

public import proofs.«01_k».proof.Proof.ScanRun
public import proofs.«01_k».proof.Proof.ScanKernel
public import proofs.«01_k».proof.Proof.ScanGoal
public import Idealize.ShloMosaic.Lib.Routing.OpsSet

@[expose] public section

set_option maxRecDepth 16384

noncomputable section

namespace Cert.Kernel1Ideal.Stage

open Cert.Kernel1Ideal Cert.Kernel1Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The blocks' indices along the grid: the rows, from the last chunk on. -/
theorem idx_rows : ∀ t : Fin cfg0.N, win0_0.index t = ![t.val / 4, 3 - t.val % 4, 0] ∧ win0_3.index t = ![t.val / 4, 3 - t.val % 4, 0]
    ∧ win0_4.index t = ![t.val / 4, 3 - t.val % 4, 0] ∧ win0_5.index t = ![t.val / 4, 3 - t.val % 4, 0]
    ∧ win0_13.index t = ![t.val / 4, 3 - t.val % 4, 0] := (by decide +kernel : ∀ t : Fin grid0.N, _)

/-- The weights stay. -/
theorem idx_weights : ∀ t : Fin cfg0.N, win0_7.index t = ![0, 0] ∧ win0_8.index t = ![0, 0] ∧ win0_10.index t = ![0, 0] := (by decide +kernel : ∀ t : Fin grid0.N, _)

variable (t : Fin cfg0.N)

/-- There are 32 grid points. -/
theorem at_most : t.val < 32 := t.isLt

/-- A row of the small columns' block. -/
theorem b0_at (r : Fin 512) (k : Fin 128) : iblk m c 0 t (ix3 0 r k)
    = m ((c : Thread nD τ).loc main_arg0) (ix3 ⟨t.val / 4, by have := at_most t; omega⟩ ⟨512 * (3 - t.val % 4) + r.val, by omega⟩ k) := by
  blk_point [iblk, V, idx_rows t]

/-- A row of the queries' block. -/
theorem b3_at (r : Fin 512) (k : Fin 512) : iblk m c 3 t (ix3 0 r k)
    = m ((c : Thread nD τ).loc main_arg3) (ix3 ⟨t.val / 4, by have := at_most t; omega⟩ ⟨512 * (3 - t.val % 4) + r.val, by omega⟩ k) := by
  blk_point [iblk, V, idx_rows t]

/-- A row of the keys' block. -/
theorem b4_at (r : Fin 512) (k : Fin 512) : iblk m c 4 t (ix3 0 r k)
    = m ((c : Thread nD τ).loc main_arg4) (ix3 ⟨t.val / 4, by have := at_most t; omega⟩ ⟨512 * (3 - t.val % 4) + r.val, by omega⟩ k) := by
  blk_point [iblk, V, idx_rows t]

/-- A row of the values' block. -/
theorem b5_at (r : Fin 512) (k : Fin 1024) : iblk m c 5 t (ix3 0 r k)
    = m ((c : Thread nD τ).loc main_arg5) (ix3 ⟨t.val / 4, by have := at_most t; omega⟩ ⟨512 * (3 - t.val % 4) + r.val, by omega⟩ k) := by
  blk_point [iblk, V, idx_rows t]

attribute [local irreducible] Host.scatter

/-- The gate's weight, padded by zero rows. -/
def padW (W : FVec Ideal S16x512 .f32) : FVec Ideal S128x512 .bf16 :=
  truncf .bf16 (Host.scatter scatter_S128x512_S1_S16x512_01_n_0_0 (fun _ b => b) (broadcastInDim S128x512 ![] bcast_S_S128x512 (constant S_ .f32 0x00000000#32))
    (broadcastInDim S1 ![] bcast_S_S1 (constantI S_ 32 32#32)) W) bitsLt_bf16_f32

/-- The host code makes it. -/
theorem padW_eq : V m c main_v7 = padW (m ((c : Thread nD τ).loc main_arg8)) := rfl

/-- The gate's bias as a row. -/
theorem bias_eq : V m c main_v8 = (shapeCast S1x512 (m ((c : Thread nD τ).loc main_arg9) : FVec Ideal S512 .f32) shapeCasts_S512_S1x512 : FVec Ideal S1x512 .f32) := rfl

/-- The mask of the later rows, three times side by side. -/
def maskT : FVec Ideal S64x192 .bf16 :=
  shapeCast S64x192 (broadcastInDim S1x64x3x64 ![0, 1, 2, 3] bcast_S1x64x1x64_S1x64x3x64_0_1_2_3 (shapeCast S1x64x1x64 (uitofp .bf16 (cmpi .sge
    (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0))))) shapeCasts_S64x64_S1x64x1x64))
    shapeCasts_S1x64x3x64_S64x192

/-- The host code makes it. -/
theorem maskT_eq : V m c main_v30 = maskT := rfl

/-- The comparison of two rows. -/
theorem cmp_at : ∀ i j : Fin 64, IntOp.cmpi .sge (BitVec.ofNat 32 j.val) (BitVec.ofNat 32 i.val) = if i.val ≤ j.val then 1#1 else 0#1 := by decide +kernel

/-- A cell of the mask before its copies. -/
theorem mask_at (i j : Fin 64) : (uitofp .bf16 (cmpi .sge
    (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0)))) : FVec Ideal S64x64 .bf16) (ix2 i j)
      = if i.val ≤ j.val then (1 : EReal) else 0 := by
  pointwise []
  rw [cmp_at]
  by_cases h : i.val ≤ j.val
  · rw [if_pos h, if_pos h]
    show (((1#1 : BitVec 1).toNat : ℝ) : EReal) = 1
    norm_num
  · rw [if_neg h, if_neg h]
    show (((0#1 : BitVec 1).toNat : ℝ) : EReal) = 0
    norm_num

/-- The mask at an index. -/
theorem maskT_at (i : Fin 64) (j : Fin 192) : maskT (ix2 i j) = if i.val ≤ j.val % 64 then (1 : EReal) else 0 := by
  have e := mask_at i ⟨j.val % 64, Nat.mod_lt _ (by norm_num)⟩
  revert e
  pointwise [maskT]
  exact id

/-- The named constant. -/
theorem log2e_eq : (Named.named (F := Ideal) κ "log2e" (φ := .f32) 0x3FB8AA3B#32 : EReal) = (((Real.log 2)⁻¹ : ℝ) : EReal) := rfl

/-- An update of the padding lands at its row from 32 on. -/
theorem lands (idx : IVec S1 32) (hidx : idx = fun _ => 32#32) (j : S16x512.Idx) (r : Fin 128) (k : Fin 512) :
    scatter_S128x512_S1_S16x512_01_n_0_0.resultIdx? j idx = some (ix2 r k) ↔ 32 + (j 0).val = r.val ∧ (j 1).val = k.val := by
  subst hidx
  rw [Routing.resultIdx?_eq_some]
  have s0 : scatter_S128x512_S1_S16x512_01_n_0_0.start j (fun _ : S1.Idx => 32#32) 0 = 32 := rfl
  have s1 : scatter_S128x512_S1_S16x512_01_n_0_0.start j (fun _ : S1.Idx => 32#32) 1 = 0 := rfl
  have w0 : scatter_S128x512_S1_S16x512_01_n_0_0.window j 0 = (j 0).val := rfl
  have w1 : scatter_S128x512_S1_S16x512_01_n_0_0.window j 1 = (j 1).val := rfl
  constructor
  · intro h
    have h0 := h 0
    have h1 := h 1
    rw [s0, w0] at h0
    rw [s1, w1] at h1
    have e0 : ((ix2 r k : S128x512.Idx) 0).val = r.val := rfl
    have e1 : ((ix2 r k : S128x512.Idx) 1).val = k.val := rfl
    rw [e0] at h0
    rw [e1] at h1
    omega
  · intro h a
    fin_cases a
    · show scatter_S128x512_S1_S16x512_01_n_0_0.start j (fun _ : S1.Idx => 32#32) 0 + (scatter_S128x512_S1_S16x512_01_n_0_0.window j 0 : Int) = (r.val : Int)
      rw [s0, w0]; omega
    · show scatter_S128x512_S1_S16x512_01_n_0_0.start j (fun _ : S1.Idx => 32#32) 1 + (scatter_S128x512_S1_S16x512_01_n_0_0.window j 1 : Int) = (k.val : Int)
      rw [s1, w1]; omega

/-- The padded weight at an index. -/
theorem padW_at (W : FVec Ideal S16x512 .f32) (r : Fin 128) (k : Fin 512) : padW W (ix2 r k)
    = if h : 32 ≤ r.val ∧ r.val < 48 then (W (ix2 ⟨r.val - 32, by omega⟩ k) : EReal) else 0 := by
  have hidx : (broadcastInDim S1 ![] bcast_S_S1 (constantI S_ 32 32#32) : IVec S1 32) = fun _ => 32#32 := by
    funext i; rfl
  unfold padW
  change Host.scatter scatter_S128x512_S1_S16x512_01_n_0_0 (fun _ b => b) (broadcastInDim S128x512 ![] bcast_S_S128x512 (constant (F := Ideal) S_ .f32 0x00000000#32))
    (broadcastInDim S1 ![] bcast_S_S1 (constantI S_ 32 32#32)) W (ix2 r k) = _
  by_cases h : 32 ≤ r.val ∧ r.val < 48
  · rw [dif_pos h]
    refine Routing.scatter_set_hit scatter_S128x512_S1_S16x512_01_n_0_0 _ _ W (ix2 r k) _ (fun j hj => ?_) (ix2 ⟨r.val - 32, by omega⟩ k)
      ((lands _ hidx _ r k).mpr ⟨by show 32 + (r.val - 32) = r.val; omega, rfl⟩)
    obtain ⟨h0, h1⟩ := (lands _ hidx j r k).mp hj
    refine congrArg W ?_
    funext a
    apply Fin.ext
    fin_cases a
    · show (j 0).val = r.val - 32; omega
    · exact h1
  · rw [dif_neg h]
    refine (Routing.scatter_set_miss scatter_S128x512_S1_S16x512_01_n_0_0 _ _ W (ix2 r k) (fun j hj => ?_)).trans Ideal.ofBits_zero_f32
    obtain ⟨h0, h1⟩ := (lands _ hidx j r k).mp hj
    have : (j 0).val < 16 := (j 0).isLt
    omega

/-- The gates at an index. -/
theorem gate_of (sm : Vec Ideal S1x512x128 .f32) (w : Vec Ideal S128x512 .bf16) (b : Vec Ideal S1x512 .f32) (x : ℝ) (r j : Fin 512)
    (hx : (∑ i : Fin 128, (sm (ix3 0 r i) : EReal) * w (ix2 i j)) + b (ix2 0 j) = ((x : ℝ) : EReal)) :
    k0_pay62 sm w b (ix2 r j) = ((ScanRow.lsig x / 16 / Real.log 2 : ℝ) : EReal) := by
  pointwise [k0_pay62]
  rw [hx, log2e_eq]
  exact ScanGoal.gate_kernel x

end Cert.Kernel1Ideal.Stage

end
-- ==== Proof.ScanFinal.lean ====
/- The backward scan's second result after the run, as a function of the arguments. -/
module

public import proofs.«01_k».proof.Proof.ScanBlocks

@[expose] public section

set_option maxRecDepth 16384

noncomputable section

namespace Cert.Kernel1Ideal.Stage

open Cert.Kernel1Ideal Cert.Kernel1Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The small columns. -/
abbrev SM : FVec Ideal S8x2048x128 .f32 := m ((c : Thread nD τ).loc main_arg0)
/-- The queries. -/
abbrev Q : FVec Ideal S8x2048x512 .f32 := m ((c : Thread nD τ).loc main_arg3)
/-- The keys. -/
abbrev K : FVec Ideal S8x2048x512 .f32 := m ((c : Thread nD τ).loc main_arg4)
/-- The values. -/
abbrev VV : FVec Ideal S8x2048x1024 .bf16 := m ((c : Thread nD τ).loc main_arg5)
/-- The gate's weight. -/
abbrev W : FVec Ideal S16x512 .f32 := m ((c : Thread nD τ).loc main_arg8)
/-- The gate's bias. -/
abbrev BB : FVec Ideal S512 .f32 := m ((c : Thread nD τ).loc main_arg9)

/-- The arrays that the result reads hold real numbers. -/
structure Fine : Prop where
  sm : ScanGoal.Reals (SM m c)
  q : ScanGoal.Reals (Q m c)
  k : ScanGoal.Reals (K m c)
  v : ScanGoal.Reals (VV m c)
  w : ScanGoal.Reals (W m c)
  b : ScanGoal.Reals (BB m c)

/-- The gate's weight's block. -/
theorem b7_at (t : Fin cfg0.N) (r : Fin 128) (k : Fin 512) : @Eq EReal (iblk m c 7 t (ix2 r k))
    (if h : 32 ≤ r.val ∧ r.val < 48 then W m c (ix2 ⟨r.val - 32, by omega⟩ k) else 0) := by
  refine Eq.trans ?_ (padW_at (W m c) r k)
  rw [← padW_eq]
  blk_point [iblk, idx_weights t]

/-- The gate's bias's block. -/
theorem b8_at (t : Fin cfg0.N) (k : Fin 512) : @Eq EReal (iblk m c 8 t (ix2 0 k)) (BB m c (ix1 k)) := by
  have e : (shapeCast S1x512 (BB m c) shapeCasts_S512_S1x512 : FVec Ideal S1x512 .f32) (ix2 0 k) = BB m c (ix1 k) := by pointwise []
  rw [← e, ← bias_eq]
  blk_point [iblk, idx_weights t]

/-- The mask's block. -/
theorem b10_at (t : Fin cfg0.N) (i : Fin 64) (j : Fin 192) : @Eq EReal (iblk m c 10 t (ix2 i j)) (if i.val ≤ j.val % 64 then 1 else 0) := by
  refine Eq.trans ?_ (maskT_at i j)
  rw [← maskT_eq m c]
  blk_point [iblk, idx_weights t]

section
attribute [local irreducible] iblk

/-- The step's small columns, rows. -/
theorem sm_at (t : Fin cfg0.N) (r : Fin 512) (k : Fin 128) : @Eq EReal ((at_ m c t).sm (ix3 0 r k))
    (SM m c (ix3 ⟨t.val / 4, by have := at_most t; omega⟩ ⟨512 * (3 - t.val % 4) + r.val, by omega⟩ k)) := by
  delta at_; exact b0_at m c t r k

/-- The step's queries, rows. -/
theorem queries_at (t : Fin cfg0.N) (r : Fin 512) (k : Fin 512) : @Eq EReal ((at_ m c t).q (ix3 0 r k))
    (Q m c (ix3 ⟨t.val / 4, by have := at_most t; omega⟩ ⟨512 * (3 - t.val % 4) + r.val, by omega⟩ k)) := by
  delta at_; exact b3_at m c t r k

/-- The step's keys, rows. -/
theorem keys_at (t : Fin cfg0.N) (r : Fin 512) (k : Fin 512) : @Eq EReal ((at_ m c t).k (ix3 0 r k))
    (K m c (ix3 ⟨t.val / 4, by have := at_most t; omega⟩ ⟨512 * (3 - t.val % 4) + r.val, by omega⟩ k)) := by
  delta at_; exact b4_at m c t r k

/-- The step's values, rows. -/
theorem v_at (t : Fin cfg0.N) (r : Fin 512) (k : Fin 1024) : @Eq EReal ((at_ m c t).v (ix3 0 r k))
    (VV m c (ix3 ⟨t.val / 4, by have := at_most t; omega⟩ ⟨512 * (3 - t.val % 4) + r.val, by omega⟩ k)) := by
  delta at_; exact b5_at m c t r k

/-- The step's weight. -/
theorem w_at (t : Fin cfg0.N) (r : Fin 128) (k : Fin 512) : @Eq EReal ((at_ m c t).w (ix2 r k))
    (if h : 32 ≤ r.val ∧ r.val < 48 then W m c (ix2 ⟨r.val - 32, by omega⟩ k) else 0) := by
  delta at_; exact b7_at m c t r k

/-- The step's bias. -/
theorem bias_at (t : Fin cfg0.N) (k : Fin 512) : @Eq EReal ((at_ m c t).b (ix2 0 k)) (BB m c (ix1 k)) := by
  delta at_; exact b8_at m c t k

/-- The step's mask. -/
theorem tri_at (t : Fin cfg0.N) (i : Fin 64) (j : Fin 192) : @Eq EReal ((at_ m c t).tri (ix2 i j)) (if i.val ≤ j.val % 64 then 1 else 0) := by
  delta at_; exact b10_at m c t i j

end

/-- A sum over the padded rows is the sum over the gate's own. -/
theorem sum_pad (f : Fin 128 → EReal) (g : Fin 16 → EReal) (h0 : ∀ i : Fin 128, ¬(32 ≤ i.val ∧ i.val < 48) → f i = 0)
    (h1 : ∀ i : Fin 16, f ⟨32 + i.val, by omega⟩ = g i) : ∑ i, f i = ∑ i, g i := by
  have e1 : ∑ i : Fin 128, f i = ∑ i : Fin 32, f ⟨i.val, by omega⟩ + ∑ i : Fin 96, f ⟨32 + i.val, by omega⟩ := Fin.sum_univ_add (a := 32) (b := 96) f
  have e2 : ∑ i : Fin 96, f ⟨32 + i.val, by omega⟩ = ∑ i : Fin 16, f ⟨32 + i.val, by omega⟩ + ∑ i : Fin 80, f ⟨32 + (16 + i.val), by omega⟩ :=
    Fin.sum_univ_add (a := 16) (b := 80) fun i : Fin 96 => f ⟨32 + i.val, by omega⟩
  rw [e1, e2, Finset.sum_eq_zero fun i _ => h0 _ (by dsimp only; omega), Finset.sum_eq_zero (s := (Finset.univ : Finset (Fin 80))) fun i _ => h0 _ (by dsimp only; omega), zero_add, add_zero]
  exact Finset.sum_congr rfl fun i _ => h1 i

variable {m c} (F : Fine m c) (t : Fin cfg0.N)

/-- The batch of a grid point. -/
abbrev bat : Fin 8 := ⟨t.val / 4, by have := at_most t; omega⟩

include F

/-- The gate's linear part, from the step's blocks. -/
theorem lin_at (r : Fin 512) (j : Fin 512) (hl : 512 * (3 - t.val % 4) + r.val < 2048) :
    (∑ i : Fin 128, (at_ m c t).sm (ix3 0 r i) * (at_ m c t).w (ix2 i j)) + (at_ m c t).b (ix2 0 j)
    = ((ScanGoal.lin (SM m c) (W m c) (BB m c) (bat t) ⟨512 * (3 - t.val % 4) + r.val, hl⟩ j : ℝ) : EReal) := by
  have hs : ∀ i : Fin 128, (at_ m c t).sm (ix3 0 r i) = SM m c (ix3 (bat t) ⟨512 * (3 - t.val % 4) + r.val, hl⟩ i) := fun i => sm_at m c t r i
  have hw : ∀ i : Fin 128, (at_ m c t).w (ix2 i j) = if h : 32 ≤ i.val ∧ i.val < 48 then (W m c (ix2 ⟨i.val - 32, by omega⟩ j) : EReal) else 0 :=
    fun i => w_at m c t i j
  have hb : (at_ m c t).b (ix2 0 j) = BB m c (ix1 j) := bias_at m c t j
  unfold ScanGoal.lin
  rw [hb, EReal.coe_add, ScanRow.coe_sum, ← F.b]
  refine congrArg (· + _) ?_
  refine sum_pad _ _ (fun i hi => ?_) fun i => ?_
  · rw [hw, dif_neg hi, mul_zero]
  · have hi : 32 ≤ 32 + i.val ∧ 32 + i.val < 48 := by omega
    have ei : (⟨32 + i.val - 32, by omega⟩ : Fin 16) = i := Fin.ext (by show 32 + i.val - 32 = i.val; omega)
    rw [hw, hs, dif_pos hi, EReal.coe_mul, ← F.sm, ← F.w, ei]

/-- The gate of a row. -/
theorem gate_good (r : Fin 512) (j : Fin 512) : k0_pay62 (at_ m c t).sm (at_ m c t).w (at_ m c t).b (ix2 r j)
    = ((ScanGoal.gate (SM m c) (W m c) (BB m c) (bat t) (512 * (3 - t.val % 4) + r.val) j / Real.log 2 : ℝ) : EReal) := by
  have hl : 512 * (3 - t.val % 4) + r.val < 2048 := by omega
  have e : ScanGoal.gate (SM m c) (W m c) (BB m c) (bat t) (512 * (3 - t.val % 4) + r.val) j
      = ScanRow.lsig (ScanGoal.lin (SM m c) (W m c) (BB m c) (bat t) ⟨_, hl⟩ j) / 16 := by
    unfold ScanGoal.gate
    rw [dif_pos hl]
  rw [e]
  exact gate_of _ _ _ _ r j (lin_at F t r j hl)

omit F in
/-- A row's entry, read as a number. -/
theorem row_good (A : FVec Ideal S8x2048x512 .f32) (hA : ScanGoal.Reals A) (b : Fin 8) (n : ℕ) (hl : n < 2048) (j : Fin 512) :
    (A (ix3 b ⟨n, hl⟩ j) : EReal) = ((ScanGoal.row A b n j : ℝ) : EReal) := by
  unfold ScanGoal.row
  rw [dif_pos hl]
  exact hA _

omit F in
/-- A value row's entry, read as a number. -/
theorem rowV_good (A : FVec Ideal S8x2048x1024 .bf16) (hA : ScanGoal.Reals A) (b : Fin 8) (n : ℕ) (hl : n < 2048) (j : Fin 1024) :
    (A (ix3 b ⟨n, hl⟩ j) : EReal) = ((ScanGoal.rowV A b n j : ℝ) : EReal) := by
  unfold ScanGoal.rowV
  rw [dif_pos hl]
  exact hA _

/-- The step's blocks hold the batch's rows. -/
theorem good : Good (at_ m c t) (512 * (3 - t.val % 4)) (ScanGoal.gate (SM m c) (W m c) (BB m c) (bat t)) (ScanGoal.row (Q m c) (bat t)) (ScanGoal.row (K m c) (bat t))
    (ScanGoal.rowV (VV m c) (bat t)) where
  le := by omega
  gate r j := gate_good F t r j
  q r j := (queries_at m c t r j).trans (row_good (Q m c) F.q (bat t) _ (by omega) j)
  k r j := (keys_at m c t r j).trans (row_good (K m c) F.k (bat t) _ (by omega) j)
  v r j := (v_at m c t r j).trans (rowV_good (VV m c) F.v (bat t) _ (by omega) j)
  tri i j := tri_at m c t i j

/-- The state of a head at a row. -/
abbrev stateOf (b : Fin 8) (h : Fin 4) (x : Fin 128) (e : Fin 256) (p : ℕ) : ℝ :=
  ScanRow.state (Fin 128) 2048 (keyH (ScanGoal.gate (SM m c) (W m c) (BB m c) b) h.val h.isLt) (keyH (ScanGoal.row (K m c) b) h.val h.isLt)
    (valH (ScanGoal.rowV (VV m c) b) h.val h.isLt e) p x

omit F in
/-- At the end the state is empty. -/
theorem state_end (b : Fin 8) (h : Fin 4) (x : Fin 128) (e : Fin 256) : stateOf (m := m) (c := c) b h x e 2048 = 0 := by
  unfold stateOf ScanRow.state
  rw [Finset.Ico_self, Finset.sum_empty]

/-- A first step's carried state is empty. -/
theorem first_state (h0 : t.val % 4 = 0) (h : Fin 4) (x : Fin 128) (e : Fin 256) :
    fresh h (ix2 x e) = ((stateOf (m := m) (c := c) (bat t) h x e (512 * (3 - t.val % 4) + 512) : ℝ) : EReal) := by
  have e2 : 512 * (3 - t.val % 4) + 512 = 2048 := by omega
  rw [fresh_at, e2, state_end, EReal.coe_zero]

/-- What a step leaves in the carried state. -/
theorem carried : ∀ (n : ℕ) (hn : n < cfg0.N) (h : Fin 4) (x : Fin 128) (e : Fin 256),
    ((outsAt0 m c n hn).2.2.2 (ix3 h x e) : EReal) = ((stateOf (m := m) (c := c) (bat ⟨n, hn⟩) h x e (512 * (3 - n % 4)) : ℝ) : EReal) := by
  intro n
  induction n with
  | zero =>
    intro hn h x e
    exact (keep_A m c ⟨0, hn⟩ rfl h x e).trans (keep_at (good F ⟨0, hn⟩) fresh (first_state F ⟨0, hn⟩ rfl) h x e)
  | succ n ih =>
    intro hn h x e
    by_cases h0 : (n + 1) % 4 = 0
    · exact (keep_A m c ⟨n + 1, hn⟩ h0 h x e).trans (keep_at (good F ⟨n + 1, hn⟩) fresh (first_state F ⟨n + 1, hn⟩ h0) h x e)
    · have hp : n < cfg0.N := Nat.lt_of_succ_lt hn
      refine (keep_B m c ⟨n + 1, hn⟩ h0 hp h x e).trans (keep_at (good F ⟨n + 1, hn⟩) _ (fun h x e => ?_) h x e)
      refine (load_at _ h x e).trans ((ih hp h x e).trans ?_)
      have eb : bat ⟨n, hp⟩ = bat ⟨n + 1, hn⟩ := Fin.ext (by show n / 4 = (n + 1) / 4; omega)
      have ep : 512 * (3 - n % 4) = 512 * (3 - (n + 1) % 4) + 512 := by omega
      rw [eb, ep]

/-- What a step leaves in the result's block. -/
theorem stored_at (R : Fin 512) (E : Fin 1024) : ((outsAt0 m c t.val t.isLt).2.1 (ix3 0 R E) : EReal)
    = ((ScanGoal.cell (SM m c) (Q m c) (K m c) (VV m c) (W m c) (BB m c) (bat t) (512 * (3 - t.val % 4) + R.val) E : ℝ) : EReal) := by
  by_cases h0 : t.val % 4 = 0
  · rw [block_A m c t h0]
    exact block_at (good F t) fresh (first_state F t h0) R E
  · have hp : t.val - 1 < cfg0.N := lt_of_le_of_lt (Nat.sub_le _ _) t.isLt
    rw [block_B m c t h0 hp]
    refine block_at (good F t) _ (fun h x e => ?_) R E
    refine (load_at _ h x e).trans ((carried F (t.val - 1) hp h x e).trans ?_)
    have eb : bat ⟨t.val - 1, hp⟩ = bat t := Fin.ext (by show (t.val - 1) / 4 = t.val / 4; omega)
    have ep : 512 * (3 - (t.val - 1) % 4) = 512 * (3 - t.val % 4) + 512 := by omega
    rw [eb, ep]

/-- The result after the run. -/
theorem final : (dats m 0 c).arrAt 13 cfg0.N = ScanGoal.out (SM m c) (Q m c) (K m c) (VV m c) (W m c) (BB m c) := by
  refine (dats m 0 c).arrAt_eq_of_covers 13 _ (by decide +kernel) fun t _ y => ?_
  blk_simp
  rw [after0_13]
  obtain ⟨R, E, rfl⟩ : ∃ (R : Fin 512) (E : Fin 1024), y = ix3 0 R E := ⟨y 1, y 2, by
    funext a
    fin_cases a
    · exact Subsingleton.elim (α := Fin 1) _ _
    · rfl
    · rfl⟩
  refine (stored_at F t R E).trans ?_
  unfold ScanGoal.out
  congr 2
  · apply Fin.ext
    blk_simp [idx_rows t]
    exact (Nat.add_zero _).symm
  · blk_simp [idx_rows t]
    exact congrArg (· + _) (Nat.mul_comm _ _)
  · apply Fin.ext
    blk_simp [idx_rows t]

end Cert.Kernel1Ideal.Stage

end
-- ==== Proof.ScanFinite.lean ====
/- The precondition of the backward scan's claim, read: every element of the arrays it names is a real number. -/
module

public import proofs.«01_k».proof.Proof.ScanGoal
public import proofs.«01_k».proof.Pre_finite
public import Idealize.ShloMosaic.Lib.ReduceAll

@[expose] public section

set_option maxRecDepth 16384

noncomputable section

namespace ScanFinite

open Cert.Pre_finite Idealize.ShloMosaic

/-- The shape relations of the precondition hold. -/
theorem facts : Cert.Pre_finite.Facts := by
  constructor <;> decide

/-- An extended real below infinity in magnitude is a real. -/
theorem real_of_lt (x : EReal) (h : Ideal.cmp .olt (max x (-x)) ⊤ = 1#1) : x = ((x.toReal : ℝ) : EReal) := by
  induction x with
  | bot => simp [Ideal.cmp] at h
  | top => simp [Ideal.cmp] at h
  | coe r => rw [EReal.toReal_coe]

/-- The infinite word. -/
theorem inf_word : (Ideal.ofBits .f32 0x7F800000#32 : EReal) = ⊤ := by
  simp [Ideal.ofBits, Ideal.ieee]

variable [Cert.Pre_finite.Facts]

/-- The precondition. -/
theorem reals (a0 : FVec Ideal S8x2048x128 .f32) (a1 : FVec Ideal S8x2048x1024 .f32) (a2 : FVec Ideal S8x2048x512 .bf16) (a3 a4 : FVec Ideal S8x2048x512 .f32)
    (a5 : FVec Ideal S8x2048x1024 .bf16) (a6 a7 : FVec Ideal S16 .f32) (a8 : FVec Ideal S16x512 .f32) (a9 : FVec Ideal S512 .f32)
    (h : fn (F := Ideal) a0 a1 a2 a3 a4 a5 a6 a7 a8 a9 = fun _ => 1#1) :
    ScanGoal.Reals a0 ∧ ScanGoal.Reals a3 ∧ ScanGoal.Reals a4 ∧ ScanGoal.Reals a5 ∧ ScanGoal.Reals a8 ∧ ScanGoal.Reals a9 := by
  have h0 := congrFun h ix0
  unfold fn fn_part1 at h0
  dsimp only at h0
  have split : ∀ a b : IVec S_ 1, andi a b ix0 = 1#1 → a ix0 = 1#1 ∧ b ix0 = 1#1 := by
    intro a b e
    have e' : a ix0 &&& b ix0 = 1#1 := e
    revert e'
    generalize a ix0 = p; generalize b ix0 = q
    revert p q
    decide
  have one : ∀ {s : Shape} {e : FTy} (a : FVec Ideal s e) (i : s.Idx), Ideal.cmp .olt (max (a i : EReal) (-(a i : EReal))) (Ideal.ofBits .f32 0x7F800000#32) = 1#1
      → (a i : EReal) = ((EReal.toReal (a i) : ℝ) : EReal) := fun a i e => real_of_lt _ (by rw [← inf_word]; exact e)
  obtain ⟨h0, h9⟩ := split _ _ h0
  obtain ⟨h0, h8⟩ := split _ _ h0
  obtain ⟨h0, h5⟩ := split _ _ h0
  obtain ⟨h0, h4⟩ := split _ _ h0
  obtain ⟨h0, h3⟩ := split _ _ h0
  obtain ⟨_, h0⟩ := split _ _ h0
  haveI : Subsingleton S_.Idx := ⟨fun i j => funext fun a => a.elim0⟩
  exact ⟨fun i => one a0 i (Host.reduce_andi_all _ _ _ _ _ h0 i), fun i => one a3 i (Host.reduce_andi_all _ _ _ _ _ h3 i),
    fun i => one a4 i (Host.reduce_andi_all _ _ _ _ _ h4 i), fun i => one a5 i (Host.reduce_andi_all _ _ _ _ _ h5 i),
    fun i => one a8 i (Host.reduce_andi_all _ _ _ _ _ h8 i), fun i => one a9 i (Host.reduce_andi_all _ _ _ _ _ h9 i)⟩

end ScanFinite

end
-- ==== Proof.ScanReference.lean ====
/- The plain reference of the backward gated linear attention, read at an index. -/
module

public import proofs.«01_k».proof.Proof.ScanGoal
public import proofs.«01_k».proof.Proof.Gen.Reference1Ideal.Run
public import Idealize.ShloMosaic.Lib.Pointwise
public import Idealize.ShloMosaic.Lib.WordArith
public import Idealize.ShloMosaic.Lib.WordCmp

@[expose] public section

set_option maxRecDepth 16384

noncomputable section

namespace Cert.Reference1Ideal.Stage

open Cert.Reference1Ideal Cert.Reference1Ideal.Gen Idealize.ShloMosaic Idealize.ShloMosaic.TcCoe Idealize.SL.Sem
open Finset

variable (SM : FVec Ideal S8x2048x128 .f32) (Q K : FVec Ideal S8x2048x512 .f32) (V : FVec Ideal S8x2048x1024 .bf16)
  (W : FVec Ideal S16x512 .f32) (B : FVec Ideal S512 .f32)

/-- The negated gate before its sigmoid. -/
def negLin : FVec Ideal S8x2048x512 .f32 := Host.negf (addf (Host.dotGeneral dot_S8x2048x16_S16x512_S8x2048x512_2_0_01_1_n_n none (extractStridedSlice S8x2048x16 ![0, 0, 32] SM slices_S8x2048x128_S8x2048x16_0_0_32) W) (broadcastInDim S8x2048x512 ![0, 1, 2] bcast_S1x1x512_S8x2048x512_0_1_2 (broadcastInDim S1x1x512 ![2] bcast_S512_S1x1x512_2 B)))

/-- The gate from it. -/
def gateOf (z : FVec Ideal S8x2048x512 .f32) : FVec Ideal S8x2048x4x128 .f32 := shapeCast _ (Host.divf (Host.negf (select (cmpf .une (subf z (broadcastInDim S8x2048x512 ![] bcast_S_S8x2048x512 (constant S_ .f32 0x00000000#32))) (subf z (broadcastInDim S8x2048x512 ![] bcast_S_S8x2048x512 (constant S_ .f32 0x00000000#32)))) (addf z (broadcastInDim S8x2048x512 ![] bcast_S_S8x2048x512 (constant S_ .f32 0x00000000#32))) (addf (maximumf z (broadcastInDim S8x2048x512 ![] bcast_S_S8x2048x512 (constant S_ .f32 0x00000000#32))) (Host.log1p (Host.exp (Host.negf (Host.absf (subf z (broadcastInDim S8x2048x512 ![] bcast_S_S8x2048x512 (constant S_ .f32 0x00000000#32)))))))))) (broadcastInDim S8x2048x512 ![] bcast_S_S8x2048x512 (constant S_ .f32 0x41800000#32))) shapeCasts_S8x2048x512_S8x2048x4x128

/-- The sums of the gates from a row on. -/
def later (g : FVec Ideal S8x2048x4x128 .f32) : FVec Ideal S8x2048x4x128 .f32 := Host.reduceWindowAdd ![1, 2048, 1, 1] ![1, 1, 1, 1] ![0, 0, 0, 0] ![0, 2047, 0, 0] g (broadcastInDim S_ ![] bcast_S_S_ (constant S_ .f32 0x00000000#32)) reduceWindows_S8x2048x4x128_S8x2048x4x128_w1s1p0_0_w2048s1p0_2047_w1s1p0_0_w1s1p0_0 h_S_

/-- The result from those sums. -/
def core (A : FVec Ideal S8x2048x4x128 .f32) : FVec Ideal S8x2048x1024 .bf16 := truncf .bf16 (shapeCast _ (transpose S8x2048x4x256 [0, 3, 1, 2] (Host.dotGeneral dot_S8x2048x4x256_S8x4x2048x2048_S8x4x256x2048_1_3_3_2_02_01 none (shapeCast _ (extf .f32 V bitsLt_bf16_f32) shapeCasts_S8x2048x1024_S8x2048x4x256) (select (broadcastInDim S8x4x2048x2048 ![2, 3] bcast_S2048x2048_S8x4x2048x2048_2_3 (cmpi .sge (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (Host.dotGeneral dot_S8x2048x4x128_S8x2048x4x128_S8x4x2048x2048_3_3_1_1_02_02 none (mulf (shapeCast _ Q shapeCasts_S8x2048x512_S8x2048x4x128) (Host.exp A)) (mulf (shapeCast _ K shapeCasts_S8x2048x512_S8x2048x4x128) (Host.exp (Host.negf A)))) (broadcastInDim S8x4x2048x2048 ![] bcast_S_S8x4x2048x2048 (id (constant S_ .f32 0x00000000#32))))) transposes_S8x4x256x2048_S8x2048x4x256_0_3_1_2) shapeCasts_S8x2048x4x256_S8x2048x1024) bitsLt_bf16_f32

/-- The printed result is made of these. -/
theorem res_eq (m : (ℓ : Loc nD τ sig) → Buf (Elt Ideal) ℓ) (c : Dev nD) : Value.res_main_v31 m c
    = core (m ((c : Thread nD τ).loc main_arg3)) (m ((c : Thread nD τ).loc main_arg4)) (m ((c : Thread nD τ).loc main_arg5))
        (later (gateOf (negLin (m ((c : Thread nD τ).loc main_arg0)) (m ((c : Thread nD τ).loc main_arg8)) (m ((c : Thread nD τ).loc main_arg9))))) := by
  unfold Value.res_main_v31 core later gateOf negLin
  rfl

/-- A running sum over a list. -/
theorem fold_list {ι : Type} (F : ι → EReal) (l : List ι) (v : EReal) : l.foldl (fun r i => r + F i) v = v + (l.map F).sum := by
  induction l generalizing v with
  | nil => simp
  | cons a l ih => rw [List.foldl_cons, ih, List.map_cons, List.sum_cons, add_assoc]

/-- A window's sum as a finite sum over its indices. -/
theorem window_sum {s t u : Shape} (window strides lo hi : Fin s.rank → ℕ) (x : FVec Ideal s .f32) (v : EReal) (h : s.ReduceWindows window strides lo hi t)
    (hu : 0 < u.numel) (j : t.Idx) : (Host.reduceWindowAdd (F := Ideal) window strides lo hi x (fun _ : u.Idx => v) h hu j : EReal)
      = v + ∑ w : Shape.Idx ⟨s.rank, window⟩, (if hin : ∀ a, lo a ≤ (j (a.cast h.1.symm)).val * strides a + (w a).val
          ∧ (j (a.cast h.1.symm)).val * strides a + (w a).val - lo a < s.size a
        then (x (fun a => ⟨(j (a.cast h.1.symm)).val * strides a + (w a).val - lo a, (hin a).2⟩) : EReal) else v) := by
  rw [← Equiv.sum_comp (Shape.rowMajor ⟨s.rank, window⟩).symm, Fin.sum_univ_def, ← fold_list]
  unfold Host.reduceWindowAdd
  rw [Ideal.hostReduceWindowAdd_def]
  unfold Ideal.hostReduceWindowAdd Host.reduceWindow
  dsimp only
  refine congrArg (fun F => List.foldl F v _) (funext fun r => funext fun n => congrArg (r + ·) ?_)
  split_ifs <;> rfl

/-- The window's indices are the rows. -/
def rows : Shape.Idx ⟨4, ![1, 2048, 1, 1]⟩ ≃ Fin 2048 where
  toFun w := w 1
  invFun s := (ix4 (0 : Fin 1) s (0 : Fin 1) (0 : Fin 1) : Shape.Idx ⟨4, ![1, 2048, 1, 1]⟩)
  left_inv w := by
    funext a
    fin_cases a
    · exact Subsingleton.elim (α := Fin 1) _ _
    · rfl
    · exact Subsingleton.elim (α := Fin 1) _ _
    · exact Subsingleton.elim (α := Fin 1) _ _
  right_inv s := rfl

/-- The sum of the rows from one on, at an index. -/
theorem later_at (g : FVec Ideal S8x2048x4x128 .f32) (f : ℕ → ℝ) (b : Fin 8) (h : Fin 4) (x : Fin 128)
    (hg : ∀ n : Fin 2048, g (ix4 b n h x) = ((f n.val : ℝ) : EReal)) (l : Fin 2048) :
    later g (ix4 b l h x) = ((ScanRow.B f 2048 l.val : ℝ) : EReal) := by
  have step : ∀ w : Shape.Idx ⟨4, ![1, 2048, 1, 1]⟩, (if hin : ∀ a : Fin 4, ![0, 0, 0, 0] a ≤ ((ix4 b l h x : S8x2048x4x128.Idx) a).val * ![1, 1, 1, 1] a + (w a).val
        ∧ ((ix4 b l h x : S8x2048x4x128.Idx) a).val * ![1, 1, 1, 1] a + (w a).val - ![0, 0, 0, 0] a < S8x2048x4x128.size a
      then g (fun a => ⟨((ix4 b l h x : S8x2048x4x128.Idx) a).val * ![1, 1, 1, 1] a + (w a).val - ![0, 0, 0, 0] a, (hin a).2⟩) else (0 : EReal))
      = ((if l.val + (rows w).val < 2048 then f (l.val + (rows w).val) else 0 : ℝ) : EReal) := by
    intro w
    have w0 : (w 0).val = 0 := by have : (w 0).val < 1 := (w 0).isLt; omega
    have w2 : (w 2).val = 0 := by have : (w 2).val < 1 := (w 2).isLt; omega
    have w3 : (w 3).val = 0 := by have : (w 3).val < 1 := (w 3).isLt; omega
    by_cases hl : l.val + (w 1).val < 2048
    · have hin : ∀ a : Fin 4, ![0, 0, 0, 0] a ≤ ((ix4 b l h x : S8x2048x4x128.Idx) a).val * ![1, 1, 1, 1] a + (w a).val
          ∧ ((ix4 b l h x : S8x2048x4x128.Idx) a).val * ![1, 1, 1, 1] a + (w a).val - ![0, 0, 0, 0] a < S8x2048x4x128.size a := by
        intro a
        refine ⟨by fin_cases a <;> exact Nat.zero_le _, ?_⟩
        fin_cases a
        · show b.val * 1 + (w 0).val - 0 < 8; omega
        · show l.val * 1 + (w 1).val - 0 < 2048; omega
        · show h.val * 1 + (w 2).val - 0 < 4; omega
        · show x.val * 1 + (w 3).val - 0 < 128; omega
      rw [dif_pos hin, show (rows w).val = (w 1).val from rfl, if_pos hl, ← hg ⟨l.val + (w 1).val, hl⟩]
      refine congrArg g ?_
      funext a
      apply Fin.ext
      fin_cases a
      · show b.val * 1 + (w 0).val - 0 = b.val; omega
      · show l.val * 1 + (w 1).val - 0 = l.val + (w 1).val; omega
      · show h.val * 1 + (w 2).val - 0 = h.val; omega
      · show x.val * 1 + (w 3).val - 0 = x.val; omega
    · rw [dif_neg, show (rows w).val = (w 1).val from rfl, if_neg hl, EReal.coe_zero]
      intro hin
      have h1 : l.val * 1 + (w 1).val - 0 < 2048 := (hin 1).2
      omega
  have z : (broadcastInDim S_ ![] bcast_S_S_ (constant (F := Ideal) S_ .f32 0x00000000#32) : FVec Ideal S_ .f32) = fun _ => (0 : EReal) := by
    funext i
    exact Ideal.ofBits_zero_f32
  unfold later
  rw [z, window_sum, zero_add]
  refine (Finset.sum_congr rfl fun w _ => step w).trans ?_
  rw [Equiv.sum_comp rows fun s : Fin 2048 => ((if l.val + s.val < 2048 then f (l.val + s.val) else 0 : ℝ) : EReal), ← ScanRow.coe_sum]
  congr 1
  unfold ScanRow.B
  rw [← Finset.sum_range fun s => if l.val + s < 2048 then f (l.val + s) else 0, ← Finset.sum_filter, Finset.sum_Ico_eq_sum_range]
  refine Finset.sum_congr ?_ fun _ _ => rfl
  ext s
  simp only [mem_filter, mem_range]
  omega

/-- The negated gate before its sigmoid is real. -/
theorem negLin_at (hSM : ScanGoal.Reals SM) (hW : ScanGoal.Reals W) (hB : ScanGoal.Reals B) (b : Fin 8) (l : Fin 2048) (j : Fin 512) :
    negLin SM W B (ix3 b l j) = ((-ScanGoal.lin SM W B b l j : ℝ) : EReal) := by
  pointwise [negLin]
  unfold ScanGoal.lin
  rw [EReal.coe_neg, EReal.coe_add, ScanRow.coe_sum, ← hB]
  refine congrArg (- ·) (congrArg (· + _) (Finset.sum_congr rfl fun i _ => ?_))
  rw [EReal.coe_mul, ← hSM, ← hW]

/-- The gate of it. -/
theorem gateOf_at (z : FVec Ideal S8x2048x512 .f32) (b : Fin 8) (l : Fin 2048) (h : Fin 4) (x : Fin 128) (r : ℝ)
    (hz : z (ix3 b l ⟨128 * h.val + x.val, by omega⟩) = ((-r : ℝ) : EReal)) : gateOf z (ix4 b l h x) = ((ScanRow.lsig r / 16 : ℝ) : EReal) := by
  have e : (⟨h.val * 128 + x.val, by omega⟩ : Fin 512) = ⟨128 * h.val + x.val, by omega⟩ := Fin.ext (by simp only []; omega)
  pointwise [gateOf]
  rw [e, hz, if_neg (not_not.mpr rfl)]
  exact ScanGoal.gate_reference r

/-- The comparison of two rows. -/
theorem cmp_at (s l : Fin 2048) : IntOp.cmpi .sge (BitVec.ofNat 32 s.val) (BitVec.ofNat 32 l.val) = if l.val ≤ s.val then 1#1 else 0#1 := by
  have e : ∀ n : Fin 2048, (BitVec.ofNat 32 n.val).toInt = (n.val : Int) := fun n => WordArith.toInt_ofNat_small _ (by omega)
  rw [WordCmp.cmpi_sge_eq, e, e]
  by_cases h : l.val ≤ s.val
  · rw [if_pos h, decide_eq_true (by omega)]; rfl
  · rw [if_neg h, decide_eq_false (by omega)]; rfl

/-- The result at an index. -/
theorem core_at (A : FVec Ideal S8x2048x4x128 .f32) (g : ℕ → Fin 512 → ℝ) (hQ : ScanGoal.Reals Q) (hK : ScanGoal.Reals K) (hV : ScanGoal.Reals V) (b : Fin 8)
    (hA : ∀ (n : Fin 2048) (h : Fin 4) (x : Fin 128), A (ix4 b n h x) = ((ScanRow.B (fun i => g i ⟨128 * h.val + x.val, by omega⟩) 2048 n.val : ℝ) : EReal))
    (l : Fin 2048) (e : Fin 1024) : core Q K V A (ix3 b l e)
      = ((ScanRow.res (Fin 128) 2048 (ScanGoal.head g (e.val / 256) (by omega)) (ScanGoal.head (ScanGoal.row Q b) (e.val / 256) (by omega))
          (ScanGoal.head (ScanGoal.row K b) (e.val / 256) (by omega)) (fun n => ScanGoal.rowV V b n e) l.val : ℝ) : EReal) := by
  have ei : ∀ x : Fin 128, (⟨e.val / 256 * 128 + x.val, by omega⟩ : Fin 512) = ⟨128 * (e.val / 256) + x.val, by omega⟩ := fun x => Fin.ext (by simp only []; omega)
  have rq : ∀ (X : FVec Ideal S8x2048x512 .f32) (hX : ScanGoal.Reals X) (n : Fin 2048) (j : Fin 512), (X (ix3 b n j) : EReal) = ((ScanGoal.row X b n.val j : ℝ) : EReal) := by
    intro X hX n j
    unfold ScanGoal.row
    rw [dif_pos n.isLt]
    exact hX _
  have rv : ∀ (n : Fin 2048) (j : Fin 1024), (V (ix3 b n j) : EReal) = ((ScanGoal.rowV V b n.val j : ℝ) : EReal) := by
    intro n j
    unfold ScanGoal.rowV
    rw [dif_pos n.isLt]
    exact hV _
  have wt : ∀ s : Fin 2048, (∑ x : Fin 128, Q (ix3 b l ⟨e.val / 256 * 128 + x.val, by omega⟩) * Ideal.exp (A (ix4 b l ⟨e.val / 256, by omega⟩ x)) *
      (K (ix3 b s ⟨e.val / 256 * 128 + x.val, by omega⟩) * Ideal.exp (-A (ix4 b s ⟨e.val / 256, by omega⟩ x))) : EReal)
      = ((ScanRow.wt (Fin 128) 2048 (ScanGoal.head g (e.val / 256) (by omega)) (ScanGoal.head (ScanGoal.row Q b) (e.val / 256) (by omega))
          (ScanGoal.head (ScanGoal.row K b) (e.val / 256) (by omega)) l.val s.val : ℝ) : EReal) := by
    intro s
    unfold ScanRow.wt
    rw [ScanRow.coe_sum]
    refine Finset.sum_congr rfl fun x _ => ?_
    rw [ei, hA, hA, rq Q hQ, rq K hK, ← EReal.coe_neg, Ideal.exp_coe, Ideal.exp_coe, ← EReal.coe_mul, ← EReal.coe_mul, ← EReal.coe_mul]
  pointwise [core]
  have term : ∀ s : Fin 2048, (V (ix3 b s e) * Scalar.select (IntOp.cmpi CmpIPredicate.sge (BitVec.ofNat 32 s.val) (BitVec.ofNat 32 l.val))
      (∑ x : Fin 128, Q (ix3 b l ⟨e.val / 256 * 128 + x.val, by omega⟩) * Ideal.exp (A (ix4 b l ⟨e.val / 256, by omega⟩ x)) *
        (K (ix3 b s ⟨e.val / 256 * 128 + x.val, by omega⟩) * Ideal.exp (-A (ix4 b s ⟨e.val / 256, by omega⟩ x)))) (id (constant S_ FTy.f32 0#32) ix0) : EReal)
      = ((if l.val ≤ s.val then ScanRow.wt (Fin 128) 2048 (ScanGoal.head g (e.val / 256) (by omega)) (ScanGoal.head (ScanGoal.row Q b) (e.val / 256) (by omega))
          (ScanGoal.head (ScanGoal.row K b) (e.val / 256) (by omega)) l.val s.val * ScanGoal.rowV V b s.val e else 0 : ℝ) : EReal) := by
    intro s
    rw [wt s, rv, cmp_at]
    by_cases h : l.val ≤ s.val
    · rw [if_pos h, if_pos h, Scalar.select, if_pos (show (1#1 : BitVec 1) = 1 from rfl), ← EReal.coe_mul, mul_comm]
    · rw [if_neg h, if_neg h, Scalar.select, if_neg (show ¬(0#1 : BitVec 1) = 1 by decide), EReal.coe_zero]
      have z : (id (constant (F := Ideal) S_ FTy.f32 0#32) ix0 : EReal) = 0 := Ideal.ofBits_zero_f32
      rw [z, mul_zero]
  refine (Finset.sum_congr rfl fun s _ => term s).trans ?_
  rw [← ScanRow.coe_sum]
  congr 1
  unfold ScanRow.res
  rw [← Finset.sum_range fun s => if l.val ≤ s then ScanRow.wt (Fin 128) 2048 (ScanGoal.head g (e.val / 256) (by omega)) (ScanGoal.head (ScanGoal.row Q b) (e.val / 256) (by omega))
          (ScanGoal.head (ScanGoal.row K b) (e.val / 256) (by omega)) l.val s * ScanGoal.rowV V b s e else 0, ← Finset.sum_filter]
  refine Finset.sum_congr ?_ fun _ _ => rfl
  ext s
  simp only [mem_filter, mem_range, mem_Ico]
  omega

/-- The reference's result is the function of the arguments. -/
theorem reference_eq (hSM : ScanGoal.Reals SM) (hQ : ScanGoal.Reals Q) (hK : ScanGoal.Reals K) (hV : ScanGoal.Reals V) (hW : ScanGoal.Reals W) (hB : ScanGoal.Reals B) :
    core Q K V (later (gateOf (negLin SM W B))) = ScanGoal.out SM Q K V W B := by
  funext y
  obtain ⟨b, l, e, rfl⟩ : ∃ (b : Fin 8) (l : Fin 2048) (e : Fin 1024), y = ix3 b l e := ⟨y 0, y 1, y 2, by funext a; fin_cases a <;> rfl⟩
  refine core_at Q K V _ (ScanGoal.gate SM W B b) hQ hK hV b (fun n h x => ?_) l e
  refine later_at _ _ b h x (fun s => ?_) n
  refine (gateOf_at _ b s h x (ScanGoal.lin SM W B b s ⟨128 * h.val + x.val, by omega⟩) (negLin_at SM W B hSM hW hB b s _)).trans ?_
  unfold ScanGoal.gate
  rw [dif_pos s.isLt]

end Cert.Reference1Ideal.Stage

end
-- ==== Proof.ScanClaims.lean ====
/- The claims about the backward scan call's second result. -/
module

public import proofs.«01_k».proof.Defs
public import proofs.«01_k».proof.Proof.Gen.Kernel1.Frame
public import proofs.«01_k».proof.Proof.Gen.Kernel1Ideal.Value
public import proofs.«01_k».proof.Proof.Gen.Reference1Ideal.Run
public import proofs.«01_k».proof.Proof.ScanFinal
public import proofs.«01_k».proof.Proof.ScanFinite
public import proofs.«01_k».proof.Proof.ScanReference
public import Idealize.ShloMosaic.Lib.Quiescent

@[expose] public section

set_option maxRecDepth 16384

noncomputable section

namespace Cert.ScanClaims

open Idealize.ShloMosaic Idealize.ShloMosaic.TcCoe Idealize.SL.Sem

/-- The side conditions of the precondition. -/
local instance preFacts : Cert.Pre_finite.Facts := ScanFinite.facts

/-- The kernel ends, leaves its arguments and its counters as they were. -/
theorem frame_kernel : Cert.quiescent_Kernel1 := fun m ρ _ => Cert.Kernel1.Gen.frame m ρ
/-- So does its reading over the extended reals. -/
theorem frame_ideal : Cert.quiescent_Kernel1Ideal := fun m ρ _ => Cert.Kernel1Ideal.Gen.frame m ρ
/-- Also from finite arguments. -/
theorem frame_ideal_finite : Cert.quiescent_Kernel1Ideal_pre_finite := fun m ρ _ => Cert.Kernel1Ideal.Gen.frame m ρ
/-- And the reference, which has no counters. -/
theorem frame_reference : Cert.quiescent_Reference1Ideal := fun m ρ _ =>
  (θ_run Cert.Reference1Ideal.defs _ _).mono (fun r h => ⟨fun c => (h c).2, Idealize.ShloMosaic.sem_eq_zero_of_no_sems (by decide) r.2⟩)
    (Cert.Reference1Ideal.Value.run (F := Ideal) m ρ)
/-- The reference from finite arguments. -/
theorem frame_reference_finite : Cert.quiescent_Reference1Ideal_pre_finite := fun m ρ _ =>
  (θ_run Cert.Reference1Ideal.defs _ _).mono (fun r h => ⟨fun c => (h c).2, Idealize.ShloMosaic.sem_eq_zero_of_no_sems (by decide) r.2⟩)
    (Cert.Reference1Ideal.Value.run (F := Ideal) m ρ)

/-- The named constant is what the table says. -/
theorem preserves : Cert.preserves_Kernel1_Kernel1Ideal := IdealRules.named_const.statement _ _ _ _ _ rfl

/-- The precondition makes the arrays that the result reads hold real numbers. -/
theorem fine (m) (h : Cert.Pre_Kernel1Ideal_finite m) (c : Dev Cert.Kernel1Ideal.nD) : Cert.Kernel1Ideal.Stage.Fine m c := by
  obtain ⟨h0, h3, h4, h5, h8, h9⟩ := ScanFinite.reals _ _ _ _ _ _ _ _ _ _ (h c)
  exact ⟨h0, h3, h4, h5, h8, h9⟩

/-- From equal finite arguments the kernel's second result is the reference's, as extended reals. -/
theorem algebraic : Cert.algebraic_Kernel1Ideal_Reference1Ideal_pre_finite := by
  intro m ρ m' ρ' hpre hag
  refine ⟨fun c => ScanGoal.out (Cert.Kernel1Ideal.Stage.SM m c) (Cert.Kernel1Ideal.Stage.Q m c) (Cert.Kernel1Ideal.Stage.K m c) (Cert.Kernel1Ideal.Stage.VV m c)
    (Cert.Kernel1Ideal.Stage.W m c) (Cert.Kernel1Ideal.Stage.BB m c), ?_, ?_⟩
  · refine (θ_run Cert.Kernel1Ideal.defs _ _).mono (fun _ h c => ?_) (Cert.Kernel1Ideal.Value.run_blocks (F := Ideal) m ρ)
    obtain ⟨_, hv, hrest⟩ := h c
    exact ⟨hv.trans (Cert.Kernel1Ideal.Stage.final (fine m hpre c)), hrest⟩
  · refine (θ_run Cert.Reference1Ideal.defs _ _).mono (fun _ h c => ?_) (Cert.Reference1Ideal.Value.run (F := Ideal) m' ρ')
    obtain ⟨h0, h1, h2, h3, h4, h5, h6, h7, h8, h9⟩ := hag c
    obtain ⟨hv, hrest⟩ := h c
    have F := fine m hpre c
    have e := Cert.Reference1Ideal.Stage.reference_eq _ _ _ _ _ _ F.sm F.q F.k F.v F.w F.b
    refine ⟨hv.trans ((Cert.Reference1Ideal.Stage.res_eq m' c).trans ?_), hrest⟩
    refine Eq.trans ?_ e
    rw [h0, h3, h4, h5, h8, h9]

end Cert.ScanClaims

end
-- ==== Proof.ProjRow.lean ====
/- One row of the input projection: the products with the weight's columns, the centred convolution along the
   sequence over five neighbouring rows with its activation, and the step sizes. -/
module

public import Idealize.ShloMosaic.Lib.Pointwise

@[expose] public section

noncomputable section

namespace ProjRow

open Idealize.ShloMosaic

/-- A row times a column. -/
def dot (x w : Fin 1024 → EReal) : EReal := ∑ k, x k * w k

/-- A number times its logistic function. -/
def silu (a : EReal) : EReal := a * Ideal.div 1 (1 + Ideal.exp (-a))

/-- The smooth maximum with zero. -/
def softplus (a : EReal) : EReal := max a 0 + Ideal.log1p (Ideal.exp (-(max a (-a))))

/-- The value of a column two rows before row `l + j`, and zero outside the sequence. -/
def tap (u : Fin 8192 → EReal) (l j : ℕ) : EReal :=
  if h : 2 ≤ l + j ∧ l + j - 2 < 8192 then u ⟨l + j - 2, h.2⟩ else 0

/-- Five weighted taps added to a bias. -/
def weigh (b : EReal) (w s : Fin 5 → EReal) : EReal := b + w 0 * s 0 + w 1 * s 1 + w 2 * s 2 + w 3 * s 3 + w 4 * s 4

/-- The convolution of a column with five weights around row `l`. -/
def conv (u : Fin 8192 → EReal) (w : Fin 5 → EReal) (b : EReal) (l : ℕ) : EReal := weigh b w fun o => tap u l o.val

end ProjRow

end
-- ==== Proof.ProjStages.lean ====
/- The projection kernel over the extended reals in stages: the rows with their halo times the weight, kept column tile by
   column tile in the scratch; five shifted loads of a tile weighted and summed; the activation. Then what the kernel leaves
   in each of its eight blocks, said with these stages. -/
module

public import proofs.«01_k».proof.Proof.Gen.Kernel0Ideal.Value
public import proofs.«01_k».proof.Proof.ProjRow
public import Idealize.ShloMosaic.Lib.Pointwise
public import Idealize.ShloMosaic.Lib.Pipeline.ValueKit

@[expose] public section

set_option maxRecDepth 16384

noncomputable section

namespace Cert.Kernel0Ideal.Stage

open Cert.Kernel0Ideal Cert.Kernel0Ideal.Gen Idealize.ShloMosaic Idealize.ShloMosaic.TcCoe Idealize.SL.Sem
open Idealize.ShloMosaic.Pipeline (Dat)

/-- A tile's columns lie in the group of four tiles. -/
theorem tile_slices (ct : ℕ) : S528x512.Slices ![0, 128 * (ct % 4)] S528x128 := by
  have h : ct % 4 < 4 := Nat.mod_lt _ (by omega)
  generalize ct % 4 = q at h
  interval_cases q <;> decide

/-- One column tile of the halo rows' product, zero outside the sequence. -/
def slot (i : grid0.Coords) (p : Vec Ideal S1x8x1024 .f32) (x : Vec Ideal S1x512x1024 .f32) (n : Vec Ideal S1x8x1024 .f32) (w : Vec Ideal S1024x1536 .bf16)
    (ct : ℕ) (h : ct < 12) : FVec Ideal S1x528x128 .f32 :=
  shapeCast S1x528x128 (extractStridedSlice S528x128 ![0, 128 * (ct % 4)] (k0_pay10 (k0_pay3 p x n) (k0_pay4 i)
    (View.ld w (Rect.unit ![0, 512 * (ct / 4)] S1024x512.size (fun a => by fin_cases a <;> simp [Shape.size] <;> omega))))
    (tile_slices ct)) shapeCasts_S528x128_S1x528x128

/-- Where a column tile lies in the scratch. -/
def place (ct : ℕ) (h : ct < 12) : Rect S12x528x128 := Rect.unit ![ct, 0, 0] S1x528x128.size (fun a => by fin_cases a <;> simp [Shape.size] <;> omega)

/-- The twelve column tiles as the kernel writes them, the last first. -/
def slots (i : grid0.Coords) (p : Vec Ideal S1x8x1024 .f32) (x : Vec Ideal S1x512x1024 .f32) (n : Vec Ideal S1x8x1024 .f32) (w : Vec Ideal S1024x1536 .bf16) :
    List (View.Piece (Elt Ideal) S12x528x128 .f32) :=
  [⟨place 11 (by omega), slot i p x n w 11 (by omega)⟩, ⟨place 10 (by omega), slot i p x n w 10 (by omega)⟩, ⟨place 9 (by omega), slot i p x n w 9 (by omega)⟩,
   ⟨place 8 (by omega), slot i p x n w 8 (by omega)⟩, ⟨place 7 (by omega), slot i p x n w 7 (by omega)⟩, ⟨place 6 (by omega), slot i p x n w 6 (by omega)⟩,
   ⟨place 5 (by omega), slot i p x n w 5 (by omega)⟩, ⟨place 4 (by omega), slot i p x n w 4 (by omega)⟩, ⟨place 3 (by omega), slot i p x n w 3 (by omega)⟩,
   ⟨place 2 (by omega), slot i p x n w 2 (by omega)⟩, ⟨place 1 (by omega), slot i p x n w 1 (by omega)⟩, ⟨place 0 (by omega), slot i p x n w 0 (by omega)⟩]

/-- A tile loaded from the scratch, shifted by `j` rows. -/
def shifted (L : List (View.Piece (Elt Ideal) S12x528x128 .f32)) (ct : ℕ) (h : ct < 12) (j : ℕ) (hj : j < 5) : Vec Ideal S1x512x128 .f32 :=
  (View.whole cc0_scratch0).readCov L (Rect.unit (s := S12x528x128) ![ct, 6 + j, 0] S1x512x128.size (fun a => by fin_cases a <;> simp [Shape.size] <;> omega)).toLoadRect

/-- A tile of the bias, on every row. -/
def start (b : Vec Ideal S1x1536 .f32) (ct : ℕ) (h : ct < 12) : FVec Ideal S512x128 .f32 :=
  broadcastTo S512x128 (shapeCast S1x128 (shapeCast S1x128 (View.ld b (Rect.unit ![0, 128 * ct] S1x128.size (fun a => by fin_cases a <;> simp [Shape.size] <;> omega)))
    shapeCasts_S1x128_S1x128) shapeCasts_S1x128_S1x128) broadcasts_S1x128_S512x128

/-- One weighted tap added. -/
def step (k : Vec Ideal S5x1536 .f32) (L : List (View.Piece (Elt Ideal) S12x528x128 .f32)) (ct : ℕ) (h : ct < 12) (j : ℕ) (hj : j < 5)
    (a : FVec Ideal S512x128 .f32) : FVec Ideal S512x128 .f32 :=
  addf a (mulf (broadcastTo S512x128 (View.ld k (Rect.unit ![j, 128 * ct] S1x128.size (fun a => by fin_cases a <;> simp [Shape.size] <;> omega))) broadcasts_S1x128_S512x128)
    (shapeCast S512x128 (shifted L ct h j hj) shapeCasts_S1x512x128_S512x128))

/-- The activation of a tile. -/
def act (a : FVec Ideal S512x128 .f32) : FVec Ideal S512x128 .f32 :=
  mulf a (divf (broadcast S512x128 (Scalar.ofBits .f32 0x3F800000#32)) (addf (broadcast S512x128 (Scalar.ofBits .f32 0x3F800000#32))
    (exp (subf (broadcast S512x128 (Scalar.ofBits .f32 0x00000000#32)) a))))

/-- A tile of the convolution after its activation. -/
def tile (b : Vec Ideal S1x1536 .f32) (k : Vec Ideal S5x1536 .f32) (L : List (View.Piece (Elt Ideal) S12x528x128 .f32)) (ct : ℕ) (h : ct < 12) : FVec Ideal S512x128 .f32 :=
  act (step k L ct h 4 (by omega) (step k L ct h 3 (by omega) (step k L ct h 2 (by omega) (step k L ct h 1 (by omega) (step k L ct h 0 (by omega) (start b ct h))))))

/-- The tile as it is stored in the first result. -/
def wide (b : Vec Ideal S1x1536 .f32) (k : Vec Ideal S5x1536 .f32) (L : List (View.Piece (Elt Ideal) S12x528x128 .f32)) (ct : ℕ) (h : ct < 12) : FVec Ideal S1x512x128 .f32 :=
  shapeCast S1x512x128 (tile b k L ct h) shapeCasts_S512x128_S1x512x128

/-- The tile as it is stored in the second result. -/
def short (b : Vec Ideal S1x1536 .f32) (k : Vec Ideal S5x1536 .f32) (L : List (View.Piece (Elt Ideal) S12x528x128 .f32)) (ct : ℕ) (h : ct < 12) : FVec Ideal S1x512x128 .bf16 :=
  shapeCast S1x512x128 (truncf .bf16 (tile b k L ct h) bitsLt_bf16_f32) shapeCasts_S512x128_S1x512x128

variable (m : (ℓ : Loc nD τ sig) → Buf (Elt Ideal) ℓ) (c : Dev nD) (t : Fin cfg0.N)

/-- The scratch at a grid point. -/
def kept : List (View.Piece (Elt Ideal) S12x528x128 .f32) := slots (grid0.coords t) (iblk m c 1 t) (iblk m c 0 t) (iblk m c 2 t) (iblk m c 4 t)

/-- What the gate's block holds. -/
theorem z_parts (y) : (outsAt0 m c t).1 y = k0_pay55 (k0_pay2 (iblk m c 0 t)) (iblk m c 3 t) y := by
  unfold outsAt0
  frame_out
/-- What the queries' block holds. -/
theorem q_parts (y) : (outsAt0 m c t).2.2.2.1 y = k0_pay57 (k0_pay2 (iblk m c 0 t)) (k0_pay56 (iblk m c 5 t)) y := by
  frame_out
/-- What the keys' block holds. -/
theorem k_parts (y) : (outsAt0 m c t).2.2.2.2.1 y = k0_pay58 (k0_pay2 (iblk m c 0 t)) (iblk m c 6 t) y := by
  frame_out
/-- What the values' block holds. -/
theorem v_parts (y) : (outsAt0 m c t).2.2.2.2.2.1 y = k0_pay59 (k0_pay2 (iblk m c 0 t)) (iblk m c 7 t) y := by
  frame_out
/-- What the output gate's block holds. -/
theorem g_parts (y) : (outsAt0 m c t).2.2.2.2.2.2.1 y = k0_pay60 (k0_pay2 (iblk m c 0 t)) (iblk m c 8 t) y := by
  frame_out
/-- What the small columns' block holds. -/
theorem small_parts (y) : (outsAt0 m c t).2.2.2.2.2.2.2 y = k0_pay1 (k0_pay61 (k0_pay2 (iblk m c 0 t)) (iblk m c 9 t)) (iota Kind.tc S512x128 32 [1] iota_S512x128_d1_w32)
      (iblk m c 12 t) y := by
  frame_out

/-- What the first convolved block holds: eight tiles. -/
theorem xs_parts (y) : (outsAt0 m c t).2.1 y = View.canon (
    [⟨Rect.unit ![0, 0, 896] S1x512x128.size inb_S1x512x1024_S1x512x128_0_0_896, wide (iblk m c 11 t) (iblk m c 10 t) (kept m c t) 7 (by omega)⟩,
     ⟨Rect.unit ![0, 0, 768] S1x512x128.size inb_S1x512x1024_S1x512x128_0_0_768, wide (iblk m c 11 t) (iblk m c 10 t) (kept m c t) 6 (by omega)⟩,
     ⟨Rect.unit ![0, 0, 640] S1x512x128.size inb_S1x512x1024_S1x512x128_0_0_640, wide (iblk m c 11 t) (iblk m c 10 t) (kept m c t) 5 (by omega)⟩,
     ⟨Rect.unit ![0, 0, 512] S1x512x128.size inb_S1x512x1024_S1x512x128_0_0_512, wide (iblk m c 11 t) (iblk m c 10 t) (kept m c t) 4 (by omega)⟩,
     ⟨Rect.unit ![0, 0, 384] S1x512x128.size inb_S1x512x1024_S1x512x128_0_0_384, wide (iblk m c 11 t) (iblk m c 10 t) (kept m c t) 3 (by omega)⟩,
     ⟨Rect.unit ![0, 0, 256] S1x512x128.size inb_S1x512x1024_S1x512x128_0_0_256, wide (iblk m c 11 t) (iblk m c 10 t) (kept m c t) 2 (by omega)⟩,
     ⟨Rect.unit ![0, 0, 128] S1x512x128.size inb_S1x512x1024_S1x512x128_0_0_128, wide (iblk m c 11 t) (iblk m c 10 t) (kept m c t) 1 (by omega)⟩,
     ⟨Rect.unit ![0, 0, 0] S1x512x128.size inb_S1x512x1024_S1x512x128_0_0_0, wide (iblk m c 11 t) (iblk m c 10 t) (kept m c t) 0 (by omega)⟩]
    : List (View.Piece (Elt Ideal) S1x512x1024 .f32)) y := by
  frame_out
  rfl

/-- What the second convolved block holds: four tiles. -/
theorem bc_parts (y) : (outsAt0 m c t).2.2.1 y = View.canon (
    [⟨Rect.unit ![0, 0, 384] S1x512x128.size inb_S1x512x512_S1x512x128_0_0_384, short (iblk m c 11 t) (iblk m c 10 t) (kept m c t) 11 (by omega)⟩,
     ⟨Rect.unit ![0, 0, 256] S1x512x128.size inb_S1x512x512_S1x512x128_0_0_256, short (iblk m c 11 t) (iblk m c 10 t) (kept m c t) 10 (by omega)⟩,
     ⟨Rect.unit ![0, 0, 128] S1x512x128.size inb_S1x512x512_S1x512x128_0_0_128, short (iblk m c 11 t) (iblk m c 10 t) (kept m c t) 9 (by omega)⟩,
     ⟨Rect.unit ![0, 0, 0] S1x512x128.size inb_S1x512x512_S1x512x128_0_0_0, short (iblk m c 11 t) (iblk m c 10 t) (kept m c t) 8 (by omega)⟩]
    : List (View.Piece (Elt Ideal) S1x512x512 .bf16)) y := by
  frame_out
  rfl

end Cert.Kernel0Ideal.Stage

end
-- ==== Proof.ProjKernel.lean ====
/- The projection kernel over the extended reals: every stage read at an index, the blocks of a grid point, and the eight
   result arrays after the run as functions of the arguments. -/
module

public import proofs.«01_k».proof.Proof.ProjStages

@[expose] public section

set_option maxRecDepth 16384

noncomputable section

namespace Cert.Kernel0Ideal.Stage

open Cert.Kernel0Ideal Cert.Kernel0Ideal.Gen Idealize.ShloMosaic Idealize.ShloMosaic.TcCoe Idealize.SL.Sem
open Idealize.ShloMosaic.Pipeline (Dat)

/-- The gate's block at an index. -/
theorem z_at (X : Vec Ideal S1x512x1024 .f32) (W : Vec Ideal S1024x1024 .bf16) (y : S1x512x1024.Idx) :
    k0_pay55 (k0_pay2 X) W y = ProjRow.dot (fun k => X (ix3 0 (y 1) k)) fun k => W (ix2 k (y 2)) := by
  pointwise [k0_pay55, k0_pay2, ProjRow.dot]

/-- The queries' block at an index. -/
theorem q_at (X : Vec Ideal S1x512x1024 .f32) (W : Vec Ideal S1024x512 .bf16) (y : S1x512x512.Idx) :
    k0_pay57 (k0_pay2 X) (k0_pay56 W) y = ProjRow.dot (fun k => X (ix3 0 (y 1) k)) (fun k => W (ix2 k (y 2))) * Scalar.ofBits .f32 0x3DB504F3#32 := by
  pointwise [k0_pay57, k0_pay56, k0_pay2, ProjRow.dot]

/-- The keys' block at an index. -/
theorem k_at (X : Vec Ideal S1x512x1024 .f32) (W : Vec Ideal S1024x512 .bf16) (y : S1x512x512.Idx) :
    k0_pay58 (k0_pay2 X) W y = ProjRow.dot (fun k => X (ix3 0 (y 1) k)) fun k => W (ix2 k (y 2)) := by
  pointwise [k0_pay58, k0_pay2, ProjRow.dot]

/-- The values' block at an index. -/
theorem v_at (X : Vec Ideal S1x512x1024 .f32) (W : Vec Ideal S1024x1024 .bf16) (y : S1x512x1024.Idx) :
    k0_pay59 (k0_pay2 X) W y = ProjRow.dot (fun k => X (ix3 0 (y 1) k)) fun k => W (ix2 k (y 2)) := by
  pointwise [k0_pay59, k0_pay2, ProjRow.dot]

/-- The output gate's block at an index. -/
theorem g_at (X : Vec Ideal S1x512x1024 .f32) (W : Vec Ideal S1024x1024 .bf16) (y : S1x512x1024.Idx) :
    k0_pay60 (k0_pay2 X) W y = ProjRow.dot (fun k => X (ix3 0 (y 1) k)) fun k => W (ix2 k (y 2)) := by
  pointwise [k0_pay60, k0_pay2, ProjRow.dot]

/-- The small columns' product at an index. -/
theorem lin_at (X : Vec Ideal S1x512x1024 .f32) (W : Vec Ideal S1024x128 .bf16) (i : Fin 512) (j : Fin 128) :
    k0_pay61 (k0_pay2 X) W (ix2 i j) = ProjRow.dot (fun k => X (ix3 0 i k)) fun k => W (ix2 k j) := by
  pointwise [k0_pay61, k0_pay2, ProjRow.dot]

/-- The lanes that hold step sizes. -/
theorem small_mask : ∀ j : Fin 128, IntOp.cmpi CmpIPredicate.slt (BitVec.ofNat 32 j.val) 32#32 = if j.val < 32 then 1#1 else 0#1 := by decide +kernel

/-- The small columns' block at an index. -/
theorem small_at (X : Vec Ideal S1x512x1024 .f32) (W : Vec Ideal S1024x128 .bf16) (s : Vec Ideal S1x128 .f32) (y : S1x512x128.Idx) :
    k0_pay1 (k0_pay61 (k0_pay2 X) W) (iota Kind.tc S512x128 32 [1] iota_S512x128_d1_w32) s y
    = if (y 2).val < 32 then ProjRow.softplus (ProjRow.dot (fun k => X (ix3 0 (y 1) k)) (fun k => W (ix2 k (y 2))) + s (ix2 0 (y 2)))
      else ProjRow.dot (fun k => X (ix3 0 (y 1) k)) fun k => W (ix2 k (y 2)) := by
  pointwise [k0_pay1, lin_at, ProjRow.softplus]
  rw [small_mask (y 2)]
  split_ifs <;> rw [zero_sub] <;> rfl

/-- A row of the block with its halo. -/
def halo (p : Vec Ideal S1x8x1024 .f32) (x : Vec Ideal S1x512x1024 .f32) (n : Vec Ideal S1x8x1024 .f32) (e : Fin 528) (k : Fin 1024) : EReal :=
  if h : e.val < 8 then p (ix3 0 ⟨e.val, h⟩ k) else if h' : e.val < 520 then x (ix3 0 ⟨e.val - 8, by omega⟩ k) else n (ix3 0 ⟨e.val - 520, by omega⟩ k)

/-- The halo rows at an index. -/
theorem rows_at (p : Vec Ideal S1x8x1024 .f32) (x : Vec Ideal S1x512x1024 .f32) (n : Vec Ideal S1x8x1024 .f32) (e : Fin 528) (k : Fin 1024) :
    k0_pay3 p x n (ix2 e k) = halo p x n e k := by
  pointwise [k0_pay3, halo]
  by_cases h : e.val < 8
  · simp only [dif_pos h]
  · by_cases h' : e.val < 520
    · simp only [dif_neg h, dif_pos h', dif_pos (show e.val - 8 < 512 by omega)]
    · simp only [dif_neg h, dif_neg h', dif_neg (show ¬ e.val - 8 < 512 by omega), Nat.sub_sub]

/-- The comparisons of a row. -/
theorem row_masks : ∀ e : Fin 528, IntOp.cmpi CmpIPredicate.sge (BitVec.ofNat 32 e.val) 8#32 = (if 8 ≤ e.val then 1#1 else 0#1)
    ∧ IntOp.cmpi CmpIPredicate.slt (BitVec.ofNat 32 e.val) 520#32 = (if e.val < 520 then 1#1 else 0#1) := by decide +kernel

/-- The comparisons of a grid step. -/
theorem step_masks : ∀ i : Fin 16, Scalar.cmpi CmpIPredicate.sgt (BitVec.ofNat 32 i.val) 0#32 = (if 0 < i.val then 1#1 else 0#1)
    ∧ Scalar.cmpi CmpIPredicate.slt (BitVec.ofNat 32 i.val) 15#32 = (if i.val < 15 then 1#1 else 0#1) := by decide +kernel

/-- The rows that lie in the sequence. -/
theorem keep_at (i : grid0.Coords) (e : Fin 528) :
    k0_pay4 i (ix2 e 0) = if (8 ≤ e.val ∨ 0 < (i 1).val) ∧ (e.val < 520 ∨ (i 1).val < 15) then 1#1 else 0#1 := by
  pointwise [k0_pay4]
  rw [(row_masks e).1, (row_masks e).2, (step_masks ⟨(i 1).val, (i 1).isLt⟩).1, (step_masks ⟨(i 1).val, (i 1).isLt⟩).2]
  by_cases h1 : 8 ≤ e.val <;> by_cases h2 : e.val < 520 <;> by_cases h3 : 0 < (i 1).val <;> by_cases h4 : (i 1).val < 15 <;>
    simp only [h1, h2, h3, h4] <;> decide

/-- The masked product at an index. -/
theorem masked_at (r : FVec Ideal S528x1024 .bf16) (k : IVec S528x1 1) (w : Vec Ideal S1024x512 .bf16) (e : Fin 528) (j : Fin 512) :
    k0_pay10 r k w (ix2 e j) = if k (ix2 e 0) = 1#1 then ProjRow.dot (fun k => r (ix2 e k)) (fun k => w (ix2 k j)) else 0 := by
  pointwise [k0_pay10, ProjRow.dot]
  rfl

/-- A column tile at an index. -/
theorem slot_at (i : grid0.Coords) (p : Vec Ideal S1x8x1024 .f32) (x : Vec Ideal S1x512x1024 .f32) (n : Vec Ideal S1x8x1024 .f32) (w : Vec Ideal S1024x1536 .bf16)
    (ct : ℕ) (h : ct < 12) (e : Fin 528) (l : Fin 128) : slot i p x n w ct h (ix3 0 e l)
    = if (8 ≤ e.val ∨ 0 < (i 1).val) ∧ (e.val < 520 ∨ (i 1).val < 15) then ProjRow.dot (halo p x n e) (fun k => w (ix2 k ⟨128 * ct + l.val, by omega⟩)) else 0 := by
  pointwise [slot, masked_at, keep_at, rows_at]
  have hc : ∀ q, (⟨512 * (ct / 4) + (128 * (ct % 4) + l.val), q⟩ : Fin 1536) = ⟨128 * ct + l.val, by omega⟩ := fun q => Fin.ext (by dsimp only; omega)
  simp only [hc]
  split_ifs <;> first | rfl | simp_all

/-- A tile at an equal place. -/
theorem slot_move (i : grid0.Coords) (p : Vec Ideal S1x8x1024 .f32) (x : Vec Ideal S1x512x1024 .f32) (n : Vec Ideal S1x8x1024 .f32) (w : Vec Ideal S1024x1536 .bf16)
    (ct : Fin 12) (e : Fin 528) (l : Fin 128) (a : ℕ) (ha : a < 12) (y : S1x528x128.Idx) (h0 : ct.val = a + (y 0).val) (hy : (y 0).val < 1) (h1 : e.val = (y 1).val)
    (h2 : l.val = (y 2).val) : slot i p x n w a ha y = slot i p x n w ct.val ct.isLt (ix3 0 e l) := by
  obtain rfl : a = ct.val := by omega
  refine congrArg _ ?_
  funext d
  fin_cases d
  · exact Fin.ext (by show (y 0).val = 0; omega)
  · exact Fin.ext h1.symm
  · exact Fin.ext h2.symm

/-- The scratch at an index. -/
theorem scratch_at (i : grid0.Coords) (p : Vec Ideal S1x8x1024 .f32) (x : Vec Ideal S1x512x1024 .f32) (n : Vec Ideal S1x8x1024 .f32) (w : Vec Ideal S1024x1536 .bf16)
    (ct : Fin 12) (e : Fin 528) (l : Fin 128) : View.canon (slots i p x n w) (ix3 ct e l) = slot i p x n w ct.val ct.isLt (ix3 0 e l) := by
  unfold slots place
  canon_tiles y h
  all_goals exact slot_move i p x n w ct e l _ _ y (by simpa using h0) y0_lt h1 h2

end Cert.Kernel0Ideal.Stage

end
-- ==== Proof.ProjBlocks.lean ====
/- The projection kernel's input blocks at a grid point, read at an index: rows of the input, columns of the weight, the
   convolution's weights, its bias and the shifts. -/
module

public import proofs.«01_k».proof.Proof.ProjKernel

@[expose] public section

set_option maxRecDepth 16384

noncomputable section

namespace Cert.Kernel0Ideal.Stage

open Cert.Kernel0Ideal Cert.Kernel0Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The grid point's place in its sequence. -/
theorem at_step : ∀ t : Fin cfg0.N, ((grid0.coords t) 1).val = t.val % 16 := (by decide +kernel : ∀ t : Fin grid0.N, _)

/-- The blocks' indices along the grid: the rows and their halos. -/
theorem idx_rows : ∀ t : Fin cfg0.N, win0_0.index t = ![t.val / 16, t.val % 16, 0] ∧ win0_1.index t = ![t.val / 16, 64 * (t.val % 16) - 1, 0]
    ∧ win0_2.index t = ![t.val / 16, min (64 * (t.val % 16 + 1)) 1023, 0] := (by decide +kernel : ∀ t : Fin grid0.N, _)

/-- The weights stay. -/
theorem idx_weights : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] := (by decide +kernel : ∀ t : Fin grid0.N, _)

/-- The results' blocks follow the rows. -/
theorem idx_results : ∀ t : Fin cfg0.N, win0_13.index t = ![t.val / 16, t.val % 16, 0] ∧ win0_14.index t = ![t.val / 16, t.val % 16, 0]
    ∧ win0_15.index t = ![t.val / 16, t.val % 16, 0] ∧ win0_16.index t = ![t.val / 16, t.val % 16, 0] ∧ win0_17.index t = ![t.val / 16, t.val % 16, 0]
    ∧ win0_18.index t = ![t.val / 16, t.val % 16, 0] ∧ win0_19.index t = ![t.val / 16, t.val % 16, 0] ∧ win0_20.index t = ![t.val / 16, t.val % 16, 0] :=
  (by decide +kernel : ∀ t : Fin grid0.N, _)

/-- The convolved columns of the weight, side by side. -/
def catMixed (W : FVec Ideal S1024x5680 .f32) : FVec Ideal S1024x1536 .bf16 :=
  truncf .bf16 (concatenate S1024x1536 1 [⟨S1024x1024, extractStridedSlice S1024x1024 ![0, 1024] W slices_S1024x5680_S1024x1024_0_1024⟩,
    ⟨S1024x256, extractStridedSlice S1024x256 ![0, 2048] W slices_S1024x5680_S1024x256_0_2048⟩,
    ⟨S1024x256, extractStridedSlice S1024x256 ![0, 2304] W slices_S1024x5680_S1024x256_0_2304⟩] concatenates_S1024x1024_S1024x256_S1024x256_S1024x1536_d1) bitsLt_bf16_f32

/-- They are the columns from 1024 on. -/
theorem catMixed_at (W : FVec Ideal S1024x5680 .f32) (k : Fin 1024) (j : Fin 1536) : catMixed W (ix2 k j) = W (ix2 k ⟨1024 + j.val, by omega⟩) := by
  pointwise [catMixed]
  split_ifs <;> first
    | rfl
    | omega
    | exact congrArg W (congrArg (ix2 k) (Fin.ext (by simp only []; omega)))

/-- The small columns of the weight, side by side, then zeros. -/
def catSmall (W : FVec Ideal S1024x5680 .f32) : FVec Ideal S1024x128 .bf16 :=
  truncf .bf16 (concatenate S1024x128 1 [⟨S1024x16, extractStridedSlice S1024x16 ![0, 2560] W slices_S1024x5680_S1024x16_0_2560⟩,
    ⟨S1024x16, extractStridedSlice S1024x16 ![0, 2576] W slices_S1024x5680_S1024x16_0_2576⟩,
    ⟨S1024x16, extractStridedSlice S1024x16 ![0, 5664] W slices_S1024x5680_S1024x16_0_5664⟩,
    ⟨S1024x80, broadcastInDim S1024x80 ![] bcast_S_S1024x80 (constant S_ .f32 0x00000000#32)⟩] concatenates_S1024x16_S1024x16_S1024x16_S1024x80_S1024x128_d1) bitsLt_bf16_f32

/-- They at an index. -/
theorem catSmall_at (W : FVec Ideal S1024x5680 .f32) (k : Fin 1024) (j : Fin 128) : catSmall W (ix2 k j)
    = if h : j.val < 32 then W (ix2 k ⟨2560 + j.val, by omega⟩) else if h : j.val < 48 then W (ix2 k ⟨5632 + j.val, by omega⟩) else (0 : EReal) := by
  pointwise [catSmall]
  by_cases h1 : j.val < 16
  · rw [dif_pos h1, dif_pos (by omega)]
  · rw [dif_neg h1]
    by_cases h2 : j.val < 32
    · rw [dif_pos (by omega), dif_pos h2]
      exact congrArg W (congrArg (ix2 k) (Fin.ext (by dsimp only; omega)))
    · rw [dif_neg (by omega), dif_neg h2]
      by_cases h3 : j.val < 48
      · rw [dif_pos (by omega), dif_pos h3]
        exact congrArg W (congrArg (ix2 k) (Fin.ext (by dsimp only; omega)))
      · rw [dif_neg (by omega), dif_neg h3]

/-- The two shifts side by side, then zeros. -/
def catShift (f b : FVec Ideal S16 .f32) : FVec Ideal S1x128 .f32 :=
  concatenate S1x128 1 [⟨S1x16, shapeCast S1x16 f shapeCasts_S16_S1x16⟩, ⟨S1x16, shapeCast S1x16 b shapeCasts_S16_S1x16⟩,
    ⟨S1x96, broadcastInDim S1x96 ![] bcast_S_S1x96 (constant S_ .f32 0x00000000#32)⟩] concatenates_S1x16_S1x16_S1x96_S1x128_d1

/-- They at an index. -/
theorem catShift_at (f b : FVec Ideal S16 .f32) (j : Fin 128) : catShift f b (ix2 0 j)
    = if h : j.val < 16 then f (ix1 ⟨j.val, h⟩) else if h' : j.val < 32 then b (ix1 ⟨j.val - 16, by omega⟩) else (0 : EReal) := by
  pointwise [catShift]
  by_cases h1 : j.val < 16
  · rw [dif_pos h1, dif_pos (by omega)]
  · rw [dif_neg h1, dif_neg h1]
    by_cases h2 : j.val < 32
    · rw [dif_pos (by omega), dif_pos h2]
    · rw [dif_neg (by omega), dif_neg h2]

/-- The host code makes them. -/
theorem mixed_eq : V m c main_v6 = catMixed (m ((c : Thread nD τ).loc main_arg1)) := rfl
/-- And the small columns. -/
theorem small_eq : V m c main_v20 = catSmall (m ((c : Thread nD τ).loc main_arg1)) := rfl
/-- And the shifts. -/
theorem shift_eq : V m c main_v24 = catShift (m ((c : Thread nD τ).loc main_arg4)) (m ((c : Thread nD τ).loc main_arg5)) := rfl

variable (t : Fin cfg0.N)

/-- There are 128 grid points. -/
theorem at_most : t.val < 128 := t.isLt

/-- A row of the block is a row of the input. -/
theorem x0_at (r : Fin 512) (k : Fin 1024) : iblk m c 0 t (ix3 0 r k)
    = m ((c : Thread nD τ).loc main_arg0) (ix3 ⟨t.val / 16, by have := at_most t; omega⟩ ⟨512 * (t.val % 16) + r.val, by omega⟩ k) := by
  blk_point [iblk, V, idx_rows t]

/-- A row of the halo before. -/
theorem x1_at (h : 0 < t.val % 16) (r : Fin 8) (k : Fin 1024) : iblk m c 1 t (ix3 0 r k)
    = m ((c : Thread nD τ).loc main_arg0) (ix3 ⟨t.val / 16, by have := at_most t; omega⟩ ⟨512 * (t.val % 16) + r.val - 8, by omega⟩ k) := by
  blk_point [iblk, V, idx_rows t]

/-- A row of the halo after. -/
theorem x2_at (h : t.val % 16 < 15) (r : Fin 8) (k : Fin 1024) : iblk m c 2 t (ix3 0 r k)
    = m ((c : Thread nD τ).loc main_arg0) (ix3 ⟨t.val / 16, by have := at_most t; omega⟩ ⟨512 * (t.val % 16) + 512 + r.val, by omega⟩ k) := by
  blk_point [iblk, V, idx_rows t]

/-- The gate's weight. -/
theorem x3_at (k j : Fin 1024) : iblk m c 3 t (ix2 k j) = m ((c : Thread nD τ).loc main_arg1) (ix2 k ⟨j.val, by omega⟩) := by
  blk_point [iblk, V, idx_weights t]

/-- The convolved columns' weight. -/
theorem x4_at (k : Fin 1024) (j : Fin 1536) : iblk m c 4 t (ix2 k j) = m ((c : Thread nD τ).loc main_arg1) (ix2 k ⟨1024 + j.val, by omega⟩) := by
  have h : iblk m c 4 t (ix2 k j) = V m c main_v6 (ix2 k j) := by blk_point [iblk, idx_weights t]
  rw [h, mixed_eq, catMixed_at]

/-- The queries' weight. -/
theorem x5_at (k : Fin 1024) (j : Fin 512) : iblk m c 5 t (ix2 k j) = m ((c : Thread nD τ).loc main_arg1) (ix2 k ⟨2592 + j.val, by omega⟩) := by
  blk_point [iblk, V, idx_weights t]

/-- The keys' weight. -/
theorem x6_at (k : Fin 1024) (j : Fin 512) : iblk m c 6 t (ix2 k j) = m ((c : Thread nD τ).loc main_arg1) (ix2 k ⟨3104 + j.val, by omega⟩) := by
  blk_point [iblk, V, idx_weights t]

/-- The values' weight. -/
theorem x7_at (k j : Fin 1024) : iblk m c 7 t (ix2 k j) = m ((c : Thread nD τ).loc main_arg1) (ix2 k ⟨3616 + j.val, by omega⟩) := by
  blk_point [iblk, V, idx_weights t]

/-- The output gate's weight. -/
theorem x8_at (k j : Fin 1024) : iblk m c 8 t (ix2 k j) = m ((c : Thread nD τ).loc main_arg1) (ix2 k ⟨4640 + j.val, by omega⟩) := by
  blk_point [iblk, V, idx_weights t]

/-- The small columns' weight. -/
theorem x9_at (k : Fin 1024) (j : Fin 128) : iblk m c 9 t (ix2 k j)
    = if h : j.val < 32 then m ((c : Thread nD τ).loc main_arg1) (ix2 k ⟨2560 + j.val, by omega⟩)
      else if h : j.val < 48 then m ((c : Thread nD τ).loc main_arg1) (ix2 k ⟨5632 + j.val, by omega⟩) else (0 : EReal) := by
  have h : iblk m c 9 t (ix2 k j) = V m c main_v20 (ix2 k j) := by blk_point [iblk, idx_weights t]
  rw [h, small_eq, catSmall_at]

/-- The convolution's weights. -/
theorem x10_at (o : Fin 5) (j : Fin 1536) : iblk m c 10 t (ix2 o j) = m ((c : Thread nD τ).loc main_arg2) (ix2 o j) := by
  blk_point [iblk, V, idx_weights t]

/-- The convolution's bias. -/
theorem x11_at (j : Fin 1536) : iblk m c 11 t (ix2 0 j) = m ((c : Thread nD τ).loc main_arg3) (ix1 j) := by
  blk_point [iblk, V, idx_weights t]

/-- The shifts. -/
theorem x12_at (j : Fin 128) : iblk m c 12 t (ix2 0 j)
    = if h : j.val < 16 then m ((c : Thread nD τ).loc main_arg4) (ix1 ⟨j.val, h⟩)
      else if h' : j.val < 32 then m ((c : Thread nD τ).loc main_arg5) (ix1 ⟨j.val - 16, by omega⟩) else (0 : EReal) := by
  have h : iblk m c 12 t (ix2 0 j) = V m c main_v24 (ix2 0 j) := by blk_point [iblk, idx_weights t]
  rw [h, shift_eq, catShift_at]

end Cert.Kernel0Ideal.Stage

end
-- ==== Proof.ProjTiles.lean ====
/- The projection kernel's convolved blocks at a grid point: a shifted load of the scratch is a tap of the sequence, so a
   tile is the activated convolution of a column. -/
module

public import proofs.«01_k».proof.Proof.ProjBlocks

@[expose] public section

set_option maxRecDepth 16384

noncomputable section

namespace Cert.Kernel0Ideal.Stage

open Cert.Kernel0Ideal Cert.Kernel0Ideal.Gen Idealize.ShloMosaic Idealize.ShloMosaic.TcCoe Idealize.SL.Sem
open Idealize.ShloMosaic.Pipeline (Dat)

/-- A shifted load at an index. -/
theorem shifted_at (L : List (View.Piece (Elt Ideal) S12x528x128 .f32)) (ct : ℕ) (h : ct < 12) (j : ℕ) (hj : j < 5) (r : Fin 512) (l : Fin 128) :
    shifted L ct h j hj (ix3 0 r l) = View.canon L (ix3 ⟨ct, h⟩ ⟨6 + j + r.val, by omega⟩ l) := by
  unfold shifted
  rw [View.readCov_eq_canon']
  refine congrArg (View.canon L) (funext fun d => ?_)
  fin_cases d
  · exact Fin.ext (by simp [LoadRect.idx, Rect.unit, ix3])
  · exact Fin.ext (by simp [LoadRect.idx, Rect.unit, ix3])
  · exact Fin.ext (by simp [LoadRect.idx, Rect.unit, ix3])

/-- One weighted tap added, at an index. -/
theorem step_at (k : Vec Ideal S5x1536 .f32) (L : List (View.Piece (Elt Ideal) S12x528x128 .f32)) (ct : ℕ) (h : ct < 12) (j : ℕ) (hj : j < 5)
    (a : FVec Ideal S512x128 .f32) (r : Fin 512) (l : Fin 128) : step k L ct h j hj a (ix2 r l)
    = a (ix2 r l) + k (ix2 ⟨j, hj⟩ ⟨128 * ct + l.val, by omega⟩) * View.canon L (ix3 ⟨ct, h⟩ ⟨6 + j + r.val, by omega⟩ l) := by
  pointwise [step, shifted_at]

/-- The bias at an index. -/
theorem start_at (b : Vec Ideal S1x1536 .f32) (ct : ℕ) (h : ct < 12) (r : Fin 512) (l : Fin 128) : start b ct h (ix2 r l) = b (ix2 0 ⟨128 * ct + l.val, by omega⟩) := by
  pointwise [start]

/-- The activation at an index. -/
theorem act_at (a : FVec Ideal S512x128 .f32) (r : Fin 512) (l : Fin 128) : act a (ix2 r l) = ProjRow.silu (a (ix2 r l)) := by
  pointwise [act, ProjRow.silu]
  simp only [zero_sub]

/-- A tile at an index. -/
theorem tile_at (b : Vec Ideal S1x1536 .f32) (k : Vec Ideal S5x1536 .f32) (L : List (View.Piece (Elt Ideal) S12x528x128 .f32)) (ct : ℕ) (h : ct < 12)
    (r : Fin 512) (l : Fin 128) : tile b k L ct h (ix2 r l)
    = ProjRow.silu (ProjRow.weigh (b (ix2 0 ⟨128 * ct + l.val, by omega⟩)) (fun o => k (ix2 o ⟨128 * ct + l.val, by omega⟩))
        fun o => View.canon L (ix3 ⟨ct, h⟩ ⟨6 + o.val + r.val, by omega⟩ l)) := by
  unfold tile
  rw [act_at, step_at, step_at, step_at, step_at, step_at, start_at]
  rfl

variable (m : (ℓ : Loc nD τ sig) → Buf (Elt Ideal) ℓ) (c : Dev nD) (t : Fin cfg0.N)

/-- A scratch row is a tap of the sequence. -/
theorem kept_at (ct : Fin 12) (o : Fin 5) (r : Fin 512) (l : Fin 128) : View.canon (kept m c t) (ix3 ct ⟨6 + o.val + r.val, by omega⟩ l)
    = ProjRow.tap (fun r' => ProjRow.dot (fun k => m ((c : Thread nD τ).loc main_arg0) (ix3 ⟨t.val / 16, by have := at_most t; omega⟩ r' k))
        fun k => m ((c : Thread nD τ).loc main_arg1) (ix2 k ⟨1024 + (128 * ct.val + l.val), by omega⟩)) (512 * (t.val % 16) + r.val) o.val := by
  unfold kept
  rw [scratch_at, slot_at, at_step]
  unfold ProjRow.tap
  simp only [x4_at]
  have hm : t.val % 16 < 16 := Nat.mod_lt _ (by omega)
  by_cases hb : 2 ≤ 512 * (t.val % 16) + r.val + o.val ∧ 512 * (t.val % 16) + r.val + o.val - 2 < 8192
  · rw [dif_pos hb, if_pos (by constructor <;> omega)]
    refine congrArg (fun u => ProjRow.dot u _) (funext fun k => ?_)
    unfold halo
    split_ifs with h1 h2
    · have h1' : 6 + o.val + r.val < 8 := h1
      rw [x1_at m c t (by omega)]
      exact congrArg (fun q => m ((c : Thread nD τ).loc main_arg0) (ix3 _ q k)) (Fin.ext (by dsimp only at h1 ⊢; omega))
    · rw [x0_at m c t]
      exact congrArg (fun q => m ((c : Thread nD τ).loc main_arg0) (ix3 _ q k)) (Fin.ext (by dsimp only at h1 ⊢; omega))
    · have h2' : ¬ 6 + o.val + r.val < 520 := h2
      rw [x2_at m c t (by omega)]
      exact congrArg (fun q => m ((c : Thread nD τ).loc main_arg0) (ix3 _ q k)) (Fin.ext (by dsimp only at h1 h2 ⊢; omega))
  · rw [dif_neg hb, if_neg (by omega)]

/-- A convolved and activated column at a grid point. -/
def mixedAt (r : Fin 512) (j : Fin 1536) : EReal :=
  ProjRow.silu (ProjRow.conv (fun r' => ProjRow.dot (fun k => m ((c : Thread nD τ).loc main_arg0) (ix3 ⟨t.val / 16, by have := at_most t; omega⟩ r' k))
        fun k => m ((c : Thread nD τ).loc main_arg1) (ix2 k ⟨1024 + j.val, by omega⟩))
      (fun o => m ((c : Thread nD τ).loc main_arg2) (ix2 o j)) (m ((c : Thread nD τ).loc main_arg3) (ix1 j)) (512 * (t.val % 16) + r.val))

/-- A tile of a grid point is that. -/
theorem tile_point (ct : ℕ) (h : ct < 12) (r : Fin 512) (l : Fin 128) : tile (iblk m c 11 t) (iblk m c 10 t) (kept m c t) ct h (ix2 r l)
    = mixedAt m c t r ⟨128 * ct + l.val, by omega⟩ := by
  rw [tile_at, x11_at]
  simp only [x10_at, kept_at m c t ⟨ct, h⟩]
  rfl

/-- The stored tile of the first convolved block. -/
theorem wide_point (ct : ℕ) (h : ct < 12) (y : S1x512x128.Idx) (r : Fin 512) (j : Fin 1536) (hr : r.val = (y 1).val) (hj : j.val = 128 * ct + (y 2).val) :
    wide (iblk m c 11 t) (iblk m c 10 t) (kept m c t) ct h y = mixedAt m c t r j := by
  have e : wide (iblk m c 11 t) (iblk m c 10 t) (kept m c t) ct h y = tile (iblk m c 11 t) (iblk m c 10 t) (kept m c t) ct h (ix2 (y 1) (y 2)) := by
    pointwise [wide]
  exact e.trans ((tile_point m c t ct h (y 1) (y 2)).trans (congrArg₂ (mixedAt m c t) (Fin.ext hr.symm) (Fin.ext hj.symm)))

/-- The stored tile of the second convolved block. -/
theorem short_point (ct : ℕ) (h : ct < 12) (y : S1x512x128.Idx) (r : Fin 512) (j : Fin 1536) (hr : r.val = (y 1).val) (hj : j.val = 128 * ct + (y 2).val) :
    short (iblk m c 11 t) (iblk m c 10 t) (kept m c t) ct h y = mixedAt m c t r j := by
  have e : short (iblk m c 11 t) (iblk m c 10 t) (kept m c t) ct h y = tile (iblk m c 11 t) (iblk m c 10 t) (kept m c t) ct h (ix2 (y 1) (y 2)) := by
    pointwise [short]
  exact e.trans ((tile_point m c t ct h (y 1) (y 2)).trans (congrArg₂ (mixedAt m c t) (Fin.ext hr.symm) (Fin.ext hj.symm)))

/-- The first convolved block. -/
theorem xs_point (y : S1x512x1024.Idx) : (outsAt0 m c t).2.1 y
    = mixedAt m c t (y 1) ⟨(y 2).val, by have h : (y 2).val < 1024 := (y 2).isLt; omega⟩ := by
  rw [xs_parts]
  canon_tiles x h
  all_goals exact wide_point m c t _ _ x _ _ h1 (by simpa using h2)

/-- The second convolved block. -/
theorem bc_point (y : S1x512x512.Idx) : (outsAt0 m c t).2.2.1 y
    = mixedAt m c t (y 1) ⟨1024 + (y 2).val, by have h : (y 2).val < 512 := (y 2).isLt; omega⟩ := by
  rw [bc_parts]
  canon_tiles x h
  all_goals exact short_point m c t _ _ x _ _ h1 (by dsimp only; omega)

end Cert.Kernel0Ideal.Stage

end
-- ==== Proof.ProjFinal.lean ====
/- The projection kernel's eight result arrays after the run, each a function of the argument arrays. -/
module

public import proofs.«01_k».proof.Proof.ProjTiles

@[expose] public section

set_option maxRecDepth 16384

noncomputable section

namespace Cert.Kernel0Ideal.Stage

open Cert.Kernel0Ideal Cert.Kernel0Ideal.Gen Idealize.ShloMosaic Idealize.ShloMosaic.TcCoe Idealize.SL.Sem
open Idealize.ShloMosaic.Pipeline (Dat)

/-- A row of the input times a column of the weight. -/
def cell (X : FVec Ideal S8x8192x1024 .f32) (W : FVec Ideal S1024x5680 .f32) (b : Fin 8) (l : Fin 8192) (j : Fin 5680) : EReal :=
  ProjRow.dot (fun k => X (ix3 b l k)) fun k => W (ix2 k j)

/-- A convolved and activated column. -/
def mixedCell (X : FVec Ideal S8x8192x1024 .f32) (W : FVec Ideal S1024x5680 .f32) (K : FVec Ideal S5x1536 .f32) (B : FVec Ideal S1536 .f32)
    (b : Fin 8) (l : Fin 8192) (j : Fin 1536) : EReal :=
  ProjRow.silu (ProjRow.conv (fun r => cell X W b r ⟨1024 + j.val, by omega⟩) (fun o => K (ix2 o j)) (B (ix1 j)) l.val)

/-- A small column: a step size, a low-rank column or zero. -/
def smallCell (X : FVec Ideal S8x8192x1024 .f32) (W : FVec Ideal S1024x5680 .f32) (f g : FVec Ideal S16 .f32) (b : Fin 8) (l : Fin 8192) (j : Fin 128) : EReal :=
  if h : j.val < 16 then ProjRow.softplus (cell X W b l ⟨2560 + j.val, by omega⟩ + f (ix1 ⟨j.val, h⟩))
  else if h : j.val < 32 then ProjRow.softplus (cell X W b l ⟨2560 + j.val, by omega⟩ + g (ix1 ⟨j.val - 16, by omega⟩))
  else if h : j.val < 48 then cell X W b l ⟨5632 + j.val, by omega⟩ else 0

variable (m : (ℓ : Loc nD τ sig) → Buf (Elt Ideal) ℓ) (c : Dev nD)

/-- The gate array as a function of the arguments. -/
def zG (X : FVec Ideal S8x8192x1024 .f32) (W : FVec Ideal S1024x5680 .f32) : FVec Ideal S8x8192x1024 .bf16 := fun y =>
  cell X W (y 0) (y 1) ⟨0 + (y 2).val, by have h : (y 2).val < 1024 := (y 2).isLt; omega⟩

/-- After the run the gate array is that. -/
theorem z_final : (dats m 0 c).arrAt 13 cfg0.N = zG (m ((c : Thread nD τ).loc main_arg0)) (m ((c : Thread nD τ).loc main_arg1)) := by
  refine (dats m 0 c).arrAt_eq_of_covers 13 _ (by decide +kernel) fun t _ y => ?_
  blk_simp
  rw [after0_13, z_parts, z_at]
  unfold zG cell
  congr 1
  · funext k
    refine (x0_at m c t (y 1) k).trans (congrArg (m ((c : Thread nD τ).loc main_arg0)) ?_)
    blk_ext [idx_results t]
  · funext k
    refine (x3_at m c t k (y 2)).trans (congrArg (m ((c : Thread nD τ).loc main_arg1)) ?_)
    blk_ext [idx_results t]

/-- The query array as a function of the arguments. -/
def qG (X : FVec Ideal S8x8192x1024 .f32) (W : FVec Ideal S1024x5680 .f32) : FVec Ideal S8x8192x512 .f32 := fun y =>
  cell X W (y 0) (y 1) ⟨2592 + (y 2).val, by have h : (y 2).val < 512 := (y 2).isLt; omega⟩ * Scalar.ofBits .f32 0x3DB504F3#32

/-- After the run the query array is that. -/
theorem q_final : (dats m 0 c).arrAt 16 cfg0.N = qG (m ((c : Thread nD τ).loc main_arg0)) (m ((c : Thread nD τ).loc main_arg1)) := by
  refine (dats m 0 c).arrAt_eq_of_covers 16 _ (by decide +kernel) fun t _ y => ?_
  blk_simp
  rw [after0_16, q_parts, q_at]
  unfold qG cell
  congr 2
  · funext k
    refine (x0_at m c t (y 1) k).trans (congrArg (m ((c : Thread nD τ).loc main_arg0)) ?_)
    blk_ext [idx_results t]
  · funext k
    refine (x5_at m c t k (y 2)).trans (congrArg (m ((c : Thread nD τ).loc main_arg1)) ?_)
    blk_ext [idx_results t]

/-- The key array as a function of the arguments. -/
def kG (X : FVec Ideal S8x8192x1024 .f32) (W : FVec Ideal S1024x5680 .f32) : FVec Ideal S8x8192x512 .f32 := fun y =>
  cell X W (y 0) (y 1) ⟨3104 + (y 2).val, by have h : (y 2).val < 512 := (y 2).isLt; omega⟩

/-- After the run the key array is that. -/
theorem k_final : (dats m 0 c).arrAt 17 cfg0.N = kG (m ((c : Thread nD τ).loc main_arg0)) (m ((c : Thread nD τ).loc main_arg1)) := by
  refine (dats m 0 c).arrAt_eq_of_covers 17 _ (by decide +kernel) fun t _ y => ?_
  blk_simp
  rw [after0_17, k_parts, k_at]
  unfold kG cell
  congr 1
  · funext k
    refine (x0_at m c t (y 1) k).trans (congrArg (m ((c : Thread nD τ).loc main_arg0)) ?_)
    blk_ext [idx_results t]
  · funext k
    refine (x6_at m c t k (y 2)).trans (congrArg (m ((c : Thread nD τ).loc main_arg1)) ?_)
    blk_ext [idx_results t]

/-- The value array as a function of the arguments. -/
def vG (X : FVec Ideal S8x8192x1024 .f32) (W : FVec Ideal S1024x5680 .f32) : FVec Ideal S8x8192x1024 .bf16 := fun y =>
  cell X W (y 0) (y 1) ⟨3616 + (y 2).val, by have h : (y 2).val < 1024 := (y 2).isLt; omega⟩

/-- After the run the value array is that. -/
theorem v_final : (dats m 0 c).arrAt 18 cfg0.N = vG (m ((c : Thread nD τ).loc main_arg0)) (m ((c : Thread nD τ).loc main_arg1)) := by
  refine (dats m 0 c).arrAt_eq_of_covers 18 _ (by decide +kernel) fun t _ y => ?_
  blk_simp
  rw [after0_18, v_parts, v_at]
  unfold vG cell
  congr 1
  · funext k
    refine (x0_at m c t (y 1) k).trans (congrArg (m ((c : Thread nD τ).loc main_arg0)) ?_)
    blk_ext [idx_results t]
  · funext k
    refine (x7_at m c t k (y 2)).trans (congrArg (m ((c : Thread nD τ).loc main_arg1)) ?_)
    blk_ext [idx_results t]

/-- The output gate array as a function of the arguments. -/
def gG (X : FVec Ideal S8x8192x1024 .f32) (W : FVec Ideal S1024x5680 .f32) : FVec Ideal S8x8192x1024 .bf16 := fun y =>
  cell X W (y 0) (y 1) ⟨4640 + (y 2).val, by have h : (y 2).val < 1024 := (y 2).isLt; omega⟩

/-- After the run the output gate array is that. -/
theorem g_final : (dats m 0 c).arrAt 19 cfg0.N = gG (m ((c : Thread nD τ).loc main_arg0)) (m ((c : Thread nD τ).loc main_arg1)) := by
  refine (dats m 0 c).arrAt_eq_of_covers 19 _ (by decide +kernel) fun t _ y => ?_
  blk_simp
  rw [after0_19, g_parts, g_at]
  unfold gG cell
  congr 1
  · funext k
    refine (x0_at m c t (y 1) k).trans (congrArg (m ((c : Thread nD τ).loc main_arg0)) ?_)
    blk_ext [idx_results t]
  · funext k
    refine (x8_at m c t k (y 2)).trans (congrArg (m ((c : Thread nD τ).loc main_arg1)) ?_)
    blk_ext [idx_results t]

/-- A column at a grid point is the column at its row. -/
theorem mixedAt_eq (t : Fin cfg0.N) (r : Fin 512) (j : Fin 1536) : mixedAt m c t r j
    = mixedCell (m ((c : Thread nD τ).loc main_arg0)) (m ((c : Thread nD τ).loc main_arg1)) (m ((c : Thread nD τ).loc main_arg2)) (m ((c : Thread nD τ).loc main_arg3)) ⟨t.val / 16, by have := at_most t; omega⟩ ⟨512 * (t.val % 16) + r.val, by omega⟩ j := rfl

/-- The first convolved array as a function of the arguments. -/
def xsG (X : FVec Ideal S8x8192x1024 .f32) (W : FVec Ideal S1024x5680 .f32) (K : FVec Ideal S5x1536 .f32) (B : FVec Ideal S1536 .f32) : FVec Ideal S8x8192x1024 .f32 := fun y =>
  mixedCell X W K B (y 0) (y 1) ⟨0 + (y 2).val, by have h : (y 2).val < 1024 := (y 2).isLt; omega⟩

/-- After the run the first convolved array is that. -/
theorem xs_final : (dats m 0 c).arrAt 14 cfg0.N = xsG (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14]
  refine (xs_point m c t y).trans ((mixedAt_eq m c t _ _).trans ?_)
  unfold xsG
  congr 1
  · apply Fin.ext
    blk_simp [idx_results t]
  · apply Fin.ext
    blk_simp [idx_results t]
    exact congrArg (· + _) (Nat.mul_comm _ _)
  · apply Fin.ext
    blk_simp [idx_results t]

/-- The second convolved array as a function of the arguments. -/
def bcG (X : FVec Ideal S8x8192x1024 .f32) (W : FVec Ideal S1024x5680 .f32) (K : FVec Ideal S5x1536 .f32) (B : FVec Ideal S1536 .f32) : FVec Ideal S8x8192x512 .bf16 := fun y =>
  mixedCell X W K B (y 0) (y 1) ⟨1024 + (y 2).val, by have h : (y 2).val < 512 := (y 2).isLt; omega⟩

/-- After the run the second convolved array is that. -/
theorem bc_final : (dats m 0 c).arrAt 15 cfg0.N = bcG (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t _ y => ?_
  blk_simp
  rw [after0_15]
  refine (bc_point m c t y).trans ((mixedAt_eq m c t _ _).trans ?_)
  unfold bcG
  congr 1
  · apply Fin.ext
    blk_simp [idx_results t]
  · apply Fin.ext
    blk_simp [idx_results t]
    exact congrArg (· + _) (Nat.mul_comm _ _)
  · apply Fin.ext
    blk_simp [idx_results t]

/-- The small columns at a grid point. -/
theorem small_point (t : Fin cfg0.N) (r : Fin 512) (j : Fin 128) :
    (if j.val < 32 then ProjRow.softplus (ProjRow.dot (fun k => iblk m c 0 t (ix3 0 r k)) (fun k => iblk m c 9 t (ix2 k j)) + iblk m c 12 t (ix2 0 j))
      else ProjRow.dot (fun k => iblk m c 0 t (ix3 0 r k)) fun k => iblk m c 9 t (ix2 k j))
    = smallCell (m ((c : Thread nD τ).loc main_arg0)) (m ((c : Thread nD τ).loc main_arg1)) (m ((c : Thread nD τ).loc main_arg4)) (m ((c : Thread nD τ).loc main_arg5)) ⟨t.val / 16, by have := at_most t; omega⟩ ⟨512 * (t.val % 16) + r.val, by omega⟩ j := by
  unfold smallCell cell
  simp only [x0_at, x9_at, x12_at]
  by_cases h1 : j.val < 16
  · have h2 : j.val < 32 := by omega
    simp only [dif_pos h1, dif_pos h2, if_pos h2]
  · by_cases h2 : j.val < 32
    · simp only [dif_neg h1, dif_pos h2, if_pos h2]
    · by_cases h3 : j.val < 48
      · simp only [dif_neg h1, dif_neg h2, if_neg h2, dif_pos h3]
      · simp only [dif_neg h1, dif_neg h2, if_neg h2, dif_neg h3, ProjRow.dot, mul_zero, Finset.sum_const_zero]

/-- The small array as a function of the arguments. -/
def smallG (X : FVec Ideal S8x8192x1024 .f32) (W : FVec Ideal S1024x5680 .f32) (f g : FVec Ideal S16 .f32) : FVec Ideal S8x8192x128 .f32 := fun y =>
  smallCell X W f g (y 0) (y 1) (y 2)

/-- After the run the small array is that. -/
theorem small_final : (dats m 0 c).arrAt 20 cfg0.N = smallG (m ((c : Thread nD τ).loc main_arg0)) (m ((c : Thread nD τ).loc main_arg1)) (m ((c : Thread nD τ).loc main_arg4)) (m ((c : Thread nD τ).loc main_arg5)) := by
  refine (dats m 0 c).arrAt_eq_of_covers 20 _ (by decide +kernel) fun t _ y => ?_
  blk_simp
  rw [after0_20, small_parts, small_at]
  refine (small_point m c t (y 1) (y 2)).trans ?_
  unfold smallG
  congr 1
  · apply Fin.ext
    blk_simp [idx_results t]
  · apply Fin.ext
    blk_simp [idx_results t]
    exact congrArg (· + _) (Nat.mul_comm _ _)
  · apply Fin.ext
    blk_simp [idx_results t]

end Cert.Kernel0Ideal.Stage

end
-- ==== Proof.ProjReference.lean ====
/- The plain input projection over the extended reals, read at an index: every result is a function of the rows, the
   weights and the shifts. -/
module

public import proofs.«01_k».proof.Proof.Gen.Reference0Ideal.Run
public import proofs.«01_k».proof.Proof.ProjRow
public import Idealize.ShloMosaic.Lib.Tactic.CleanTypes

@[expose] public section

set_option maxRecDepth 16384

noncomputable section

namespace Cert.Reference0Ideal.Rows

open Cert.Reference0Ideal Cert.Reference0Ideal.Gen Cert.Reference0Ideal.Value Idealize.ShloMosaic Idealize.ShloMosaic.TcCoe Idealize.SL.Sem

variable (X : FVec Ideal S8x8192x1024 .f32) (W : FVec Ideal S1024x5680 .f32) (K : FVec Ideal S5x1536 .f32) (B : FVec Ideal S1536 .f32)
  (bf bb : FVec Ideal S16 .f32) (d : FVec Ideal S8x8192x5680 .f32)

/-- The rows times the whole input weight. -/
def all : FVec Ideal S8x8192x5680 .f32 := Host.dotGeneral dot_S8x8192x1024_S1024x5680_S8x8192x5680_2_0_01_1_n_n none X W

/-- An element of the product is a row times a column. -/
theorem all_at (b : Fin 8) (l : Fin 8192) (j : Fin 5680) : all X W (ix3 b l j) = ProjRow.dot (fun k => X (ix3 b l k)) fun k => W (ix2 k j) := by
  pointwise [all, ProjRow.dot]

/-- The columns that are convolved. -/
def mixed : FVec Ideal S8x8192x1536 .f32 :=
  concatenate S8x8192x1536 2 [⟨S8x8192x1024, extractStridedSlice S8x8192x1024 ![0, 0, 1024] d slices_S8x8192x5680_S8x8192x1024_0_0_1024⟩,
    ⟨S8x8192x256, extractStridedSlice S8x8192x256 ![0, 0, 2048] d slices_S8x8192x5680_S8x8192x256_0_0_2048⟩,
    ⟨S8x8192x256, extractStridedSlice S8x8192x256 ![0, 0, 2304] d slices_S8x8192x5680_S8x8192x256_0_0_2304⟩] concatenates_S8x8192x1024_S8x8192x256_S8x8192x256_S8x8192x1536_d2

/-- They are the columns from 1024 on. -/
theorem mixed_at (b : Fin 8) (l : Fin 8192) (j : Fin 1536) : mixed d (ix3 b l j) = d (ix3 b l ⟨1024 + j.val, by omega⟩) := by
  pointwise [mixed]
  split_ifs <;> first
    | rfl
    | omega
    | exact congrArg d (congrArg (ix3 b l) (Fin.ext (by simp only []; omega)))

/-- Two rows of zeros before and after. -/
def padded : FVec Ideal S8x8196x1536 .f32 :=
  pad S8x8196x1536 ![0, 2, 0] ![0, 2, 0] ![0, 0, 0] (mixed d) (sitofp .f32 (constantI S_ 32 0#32)) pads_S8x8192x1536_S8x8196x1536_000_220_000 h_S_

/-- A padded row is a row two before, or zero. -/
theorem padded_at (b : Fin 8) (e : Fin 8196) (j : Fin 1536) : padded d (ix3 b e j)
    = if h : 2 ≤ e.val ∧ e.val - 2 < 8192 then d (ix3 b ⟨e.val - 2, h.2⟩ ⟨1024 + j.val, by omega⟩) else 0 := by
  pointwise [padded, mixed_at]
  have hz : (FloatOps.sitofp FTy.f32 0#32 : Ideal .f32) = (0 : EReal) := by simp [FloatOps.sitofp]
  split_ifs
  · rfl
  · exact hz

/-- Tap `j` of the convolution with its weights. -/
def tapped (o : ℕ) (h1 : S8x8196x1536.Slices ![0, o, 0] S8x8192x1536) (h2 : S5x1536.Slices ![o, 0] S1x1536) : FVec Ideal S8x8192x1536 .f32 :=
  mulf (extractStridedSlice S8x8192x1536 ![0, o, 0] (padded d) h1) (broadcastInDim S8x8192x1536 ![0, 1, 2] bcast_S1x1x1536_S8x8192x1536_0_1_2
    (broadcastInDim S1x1x1536 ![2] bcast_S1536_S1x1x1536_2 (shapeCast _ (extractStridedSlice S1x1536 ![o, 0] K h2) shapeCasts_S1x1536_S1536)))

/-- A tap at an index. -/
theorem tapped_at (o : ℕ) (h1 : S8x8196x1536.Slices ![0, o, 0] S8x8192x1536) (h2 : S5x1536.Slices ![o, 0] S1x1536) (ho : o < 5)
    (b : Fin 8) (l : Fin 8192) (j : Fin 1536) : tapped K d o h1 h2 (ix3 b l j)
    = K (ix2 ⟨o, ho⟩ j) * ProjRow.tap (fun r => d (ix3 b r ⟨1024 + j.val, by omega⟩)) l.val o := by
  pointwise [tapped, padded_at, ProjRow.tap]
  rw [mul_comm]
  simp only [Nat.add_comm o]

/-- The convolution before its activation. -/
def conved : FVec Ideal S8x8192x1536 .f32 :=
  addf (addf (addf (addf (addf (addf (broadcastInDim S8x8192x1536 ![] bcast_S_S8x8192x1536 (constant S_ .f32 0x00000000#32))
    (tapped K d 0 slices_S8x8196x1536_S8x8192x1536_0_0_0 slices_S5x1536_S1x1536_0_0)) (tapped K d 1 slices_S8x8196x1536_S8x8192x1536_0_1_0 slices_S5x1536_S1x1536_1_0))
    (tapped K d 2 slices_S8x8196x1536_S8x8192x1536_0_2_0 slices_S5x1536_S1x1536_2_0)) (tapped K d 3 slices_S8x8196x1536_S8x8192x1536_0_3_0 slices_S5x1536_S1x1536_3_0))
    (tapped K d 4 slices_S8x8196x1536_S8x8192x1536_0_4_0 slices_S5x1536_S1x1536_4_0))
    (broadcastInDim S8x8192x1536 ![0, 1, 2] bcast_S1x1x1536_S8x8192x1536_0_1_2 (broadcastInDim S1x1x1536 ![2] bcast_S1536_S1x1x1536_2 B))

/-- The convolution at an index. -/
theorem conved_at (b : Fin 8) (l : Fin 8192) (j : Fin 1536) : conved K B d (ix3 b l j)
    = ProjRow.conv (fun r => d (ix3 b r ⟨1024 + j.val, by omega⟩)) (fun o => K (ix2 o j)) (B (ix1 j)) l.val := by
  pointwise [conved, tapped_at, ProjRow.conv, ProjRow.weigh]
  rw [add_comm _ (B (ix1 j))]
  simp only [add_assoc]

/-- The activation. -/
def active : FVec Ideal S8x8192x1536 .f32 :=
  mulf (conved K B d) (Host.divf (broadcastInDim S8x8192x1536 ![] bcast_S_S8x8192x1536 (constant S_ .f32 0x3F800000#32))
    (addf (broadcastInDim S8x8192x1536 ![] bcast_S_S8x8192x1536 (constant S_ .f32 0x3F800000#32)) (Host.exp (Host.negf (conved K B d)))))

/-- The activation at an index. -/
theorem active_at (b : Fin 8) (l : Fin 8192) (j : Fin 1536) : active K B d (ix3 b l j)
    = ProjRow.silu (ProjRow.conv (fun r => d (ix3 b r ⟨1024 + j.val, by omega⟩)) (fun o => K (ix2 o j)) (B (ix1 j)) l.val) := by
  pointwise [active, conved_at, ProjRow.silu]

/-- The first result of the convolution. -/
def xs : FVec Ideal S8x8192x1024 .f32 := extractStridedSlice S8x8192x1024 ![0, 0, 0] (active K B d) slices_S8x8192x1536_S8x8192x1024_0_0_0

/-- Its other two, side by side. -/
def bc : FVec Ideal S8x8192x512 .bf16 :=
  truncf .bf16 (concatenate S8x8192x512 2 [⟨S8x8192x256, extractStridedSlice S8x8192x256 ![0, 0, 1024] (active K B d) slices_S8x8192x1536_S8x8192x256_0_0_1024⟩,
    ⟨S8x8192x256, extractStridedSlice S8x8192x256 ![0, 0, 1280] (active K B d) slices_S8x8192x1536_S8x8192x256_0_0_1280⟩] concatenates_S8x8192x256_S8x8192x256_S8x8192x512_d2) bitsLt_bf16_f32

/-- The first result at an index. -/
theorem xs_at (b : Fin 8) (l : Fin 8192) (j : Fin 1024) : xs K B d (ix3 b l j)
    = ProjRow.silu (ProjRow.conv (fun r => d (ix3 b r ⟨1024 + j.val, by omega⟩)) (fun o => K (ix2 o ⟨j.val, by omega⟩)) (B (ix1 ⟨j.val, by omega⟩)) l.val) := by
  pointwise [xs, active_at]

/-- The other two at an index. -/
theorem bc_at (b : Fin 8) (l : Fin 8192) (j : Fin 512) : bc K B d (ix3 b l j)
    = ProjRow.silu (ProjRow.conv (fun r => d (ix3 b r ⟨2048 + j.val, by omega⟩)) (fun o => K (ix2 o ⟨1024 + j.val, by omega⟩)) (B (ix1 ⟨1024 + j.val, by omega⟩)) l.val) := by
  pointwise [bc, active_at]
  by_cases h : j.val < 256
  · rw [dif_pos h]
    simp only [show ∀ p, (⟨1024 + (1024 + j.val), p⟩ : Fin 5680) = ⟨2048 + j.val, by omega⟩ from fun p => Fin.ext (by dsimp only; omega)]
  · rw [dif_neg h]
    simp only [show ∀ p, (⟨1024 + (1280 + (j.val - 256)), p⟩ : Fin 5680) = ⟨2048 + j.val, by omega⟩ from fun p => Fin.ext (by dsimp only; omega),
      show ∀ p, (⟨1280 + (j.val - 256), p⟩ : Fin 1536) = ⟨1024 + j.val, by omega⟩ from fun p => Fin.ext (by dsimp only; omega)]

/-- A step size: the smooth maximum of a column with its shift. -/
def soft (x : FVec Ideal S8x8192x16 .f32) (s : FVec Ideal S16 .f32) : FVec Ideal S8x8192x16 .f32 :=
  have a := addf x (broadcastInDim S8x8192x16 ![0, 1, 2] bcast_S1x1x16_S8x8192x16_0_1_2 (broadcastInDim S1x1x16 ![2] bcast_S16_S1x1x16_2 s))
  have z := broadcastInDim S8x8192x16 ![] bcast_S_S8x8192x16 (constant S_ .f32 0x00000000#32)
  select (cmpf .une (subf a z) (subf a z)) (addf a z) (addf (maximumf a z) (Host.log1p (Host.exp (Host.negf (Host.absf (subf a z))))))

/-- A step size at an index. -/
theorem soft_at (x : FVec Ideal S8x8192x16 .f32) (s : FVec Ideal S16 .f32) (b : Fin 8) (l : Fin 8192) (j : Fin 16) : soft x s (ix3 b l j)
    = ProjRow.softplus (x (ix3 b l j) + s (ix1 j)) := by
  pointwise [soft, ProjRow.softplus]
  rw [if_neg (fun h => h rfl)]
  rfl

/-- The step sizes, the low-rank columns and zeros side by side. -/
def small : FVec Ideal S8x8192x128 .f32 :=
  concatenate S8x8192x128 2 [⟨S8x8192x16, soft (extractStridedSlice S8x8192x16 ![0, 0, 2560] d slices_S8x8192x5680_S8x8192x16_0_0_2560) bf⟩,
    ⟨S8x8192x16, soft (extractStridedSlice S8x8192x16 ![0, 0, 2576] d slices_S8x8192x5680_S8x8192x16_0_0_2576) bb⟩,
    ⟨S8x8192x16, extractStridedSlice S8x8192x16 ![0, 0, 5664] d slices_S8x8192x5680_S8x8192x16_0_0_5664⟩,
    ⟨S8x8192x80, broadcastInDim S8x8192x80 ![] bcast_S_S8x8192x80 (constant S_ .f32 0x00000000#32)⟩] concatenates_S8x8192x16_S8x8192x16_S8x8192x16_S8x8192x80_S8x8192x128_d2

/-- They at an index. -/
theorem small_at (b : Fin 8) (l : Fin 8192) (j : Fin 128) : small bf bb d (ix3 b l j)
    = if h : j.val < 16 then ProjRow.softplus (d (ix3 b l ⟨2560 + j.val, by omega⟩) + bf (ix1 ⟨j.val, h⟩))
      else if h : j.val < 32 then ProjRow.softplus (d (ix3 b l ⟨2560 + j.val, by omega⟩) + bb (ix1 ⟨j.val - 16, by omega⟩))
      else if h : j.val < 48 then d (ix3 b l ⟨5632 + j.val, by omega⟩) else 0 := by
  pointwise [small, soft_at]
  split_ifs <;> first
    | rfl
    | omega
    | (rw [dif_pos (by omega)]
       simp only [show ∀ p, (⟨2576 + (j.val - 16), p⟩ : Fin 5680) = ⟨2560 + j.val, by omega⟩ from fun p => Fin.ext (by dsimp only; omega)])
    | (rw [dif_neg (by omega), dif_pos (by omega)]
       simp only [show ∀ p, (⟨5664 + (j.val - 16 - 16), p⟩ : Fin 5680) = ⟨5632 + j.val, by omega⟩ from fun p => Fin.ext (by dsimp only; omega)])
    | rw [dif_neg (by omega), dif_neg (by omega)]

/-- The gate columns. -/
def z : FVec Ideal S8x8192x1024 .bf16 := truncf .bf16 (extractStridedSlice S8x8192x1024 ![0, 0, 0] d slices_S8x8192x5680_S8x8192x1024_0_0_0) bitsLt_bf16_f32

/-- They at an index. -/
theorem z_at (b : Fin 8) (l : Fin 8192) (j : Fin 1024) : z d (ix3 b l j) = d (ix3 b l ⟨0 + j.val, by omega⟩) := by
  pointwise [z]

/-- The query columns. -/
def q : FVec Ideal S8x8192x512 .f32 := mulf (extractStridedSlice S8x8192x512 ![0, 0, 2592] d slices_S8x8192x5680_S8x8192x512_0_0_2592) (broadcastInDim S8x8192x512 ![] bcast_S_S8x8192x512 (constant S_ .f32 0x3DB504F3#32))

/-- They at an index. -/
theorem q_at (b : Fin 8) (l : Fin 8192) (j : Fin 512) : q d (ix3 b l j) = d (ix3 b l ⟨2592 + j.val, by omega⟩) * Scalar.ofBits .f32 0x3DB504F3#32 := by
  pointwise [q]

/-- The key columns. -/
def k : FVec Ideal S8x8192x512 .f32 := extractStridedSlice S8x8192x512 ![0, 0, 3104] d slices_S8x8192x5680_S8x8192x512_0_0_3104

/-- They at an index. -/
theorem k_at (b : Fin 8) (l : Fin 8192) (j : Fin 512) : k d (ix3 b l j) = d (ix3 b l ⟨3104 + j.val, by omega⟩) := by
  pointwise [k]

/-- The value columns. -/
def v : FVec Ideal S8x8192x1024 .bf16 := truncf .bf16 (extractStridedSlice S8x8192x1024 ![0, 0, 3616] d slices_S8x8192x5680_S8x8192x1024_0_0_3616) bitsLt_bf16_f32

/-- They at an index. -/
theorem v_at (b : Fin 8) (l : Fin 8192) (j : Fin 1024) : v d (ix3 b l j) = d (ix3 b l ⟨3616 + j.val, by omega⟩) := by
  pointwise [v]

/-- The output gate columns. -/
def g : FVec Ideal S8x8192x1024 .bf16 := truncf .bf16 (extractStridedSlice S8x8192x1024 ![0, 0, 4640] d slices_S8x8192x5680_S8x8192x1024_0_0_4640) bitsLt_bf16_f32

/-- They at an index. -/
theorem g_at (b : Fin 8) (l : Fin 8192) (j : Fin 1024) : g d (ix3 b l j) = d (ix3 b l ⟨4640 + j.val, by omega⟩) := by
  pointwise [g]

variable (m : (ℓ : Loc nD τ sig) → Buf (Elt Ideal) ℓ) (c : Dev nD)

/-- The first result of the convolution is that function of the arguments. -/
theorem xs_eq : res_main_v54 m c = xs (m ((c.tc : Thread nD τ).loc main_arg2)) (m ((c.tc : Thread nD τ).loc main_arg3)) (all (m ((c.tc : Thread nD τ).loc main_arg0)) (m ((c.tc : Thread nD τ).loc main_arg1))) := rfl
/-- So are its other two. -/
theorem bc_eq : res_main_v69 m c = bc (m ((c.tc : Thread nD τ).loc main_arg2)) (m ((c.tc : Thread nD τ).loc main_arg3)) (all (m ((c.tc : Thread nD τ).loc main_arg0)) (m ((c.tc : Thread nD τ).loc main_arg1))) := rfl
/-- So are the small columns. -/
theorem small_eq : res_main_v66 m c = small (m ((c.tc : Thread nD τ).loc main_arg4)) (m ((c.tc : Thread nD τ).loc main_arg5)) (all (m ((c.tc : Thread nD τ).loc main_arg0)) (m ((c.tc : Thread nD τ).loc main_arg1))) := rfl

end Cert.Reference0Ideal.Rows

end
-- ==== Proof.ProjClaims.lean ====
/- The claims about the projection call: the three frames, and the equality over the extended reals of the kernel's eight
   results with the plain reference's. -/
module

public import proofs.«01_k».proof.Defs
public import proofs.«01_k».proof.Proof.Gen.Kernel0.Frame
public import proofs.«01_k».proof.Proof.ProjFinal
public import proofs.«01_k».proof.Proof.ProjReference
public import Idealize.ShloMosaic.Lib.Quiescent

@[expose] public section

noncomputable section

namespace Cert.ProjClaims

open Idealize.ShloMosaic Idealize.ShloMosaic.TcCoe Idealize.SL.Sem
open Cert.Kernel0Ideal.Stage (cell mixedCell smallCell)
open Cert.Reference0Ideal.Rows (all all_at)

/-- The kernel ends, leaves its arguments and its counters as they were. -/
theorem frame_kernel : Cert.quiescent_Kernel0 := fun m ρ _ => Cert.Kernel0.Gen.frame m ρ
/-- So does its reading over the extended reals. -/
theorem frame_ideal : Cert.quiescent_Kernel0Ideal := fun m ρ _ => Cert.Kernel0Ideal.Gen.frame m ρ
/-- And the reference, which has no counters. -/
theorem frame_reference : Cert.quiescent_Reference0Ideal := fun m ρ _ =>
  (θ_run Cert.Reference0Ideal.defs _ _).mono (fun r h => ⟨fun c => (h c).2.2.2.2.2.2.2.2, Idealize.ShloMosaic.sem_eq_zero_of_no_sems (by decide) r.2⟩)
    (Cert.Reference0Ideal.Value.run (F := Ideal) m ρ)

/-- Two arrays that agree at every index. -/
theorem ext3 {α : Type} {n0 n1 n2 : ℕ} {f g : (⟨3, ![n0, n1, n2]⟩ : Shape).Idx → α} (h : ∀ b l j, f (ix3 b l j) = g (ix3 b l j)) : f = g :=
  funext fun y => by rw [eq_ix3 y]; exact h _ _ _

section
open Cert.Reference0Ideal

variable (X : FVec Ideal S8x8192x1024 .f32) (W : FVec Ideal S1024x5680 .f32) (K : FVec Ideal S5x1536 .f32) (B : FVec Ideal S1536 .f32) (f g : FVec Ideal S16 .f32)

/-- The two gate arrays agree. -/
theorem z_same : Rows.z (all X W) = Cert.Kernel0Ideal.Stage.zG X W := by
  refine ext3 fun b l j => ?_
  rw [Rows.z_at, all_at]
  rfl

/-- The two query arrays agree. -/
theorem q_same : Rows.q (all X W) = Cert.Kernel0Ideal.Stage.qG X W := by
  refine ext3 fun b l j => ?_
  rw [Rows.q_at, all_at]
  rfl

/-- The two key arrays agree. -/
theorem k_same : Rows.k (all X W) = Cert.Kernel0Ideal.Stage.kG X W := by
  refine ext3 fun b l j => ?_
  rw [Rows.k_at, all_at]
  rfl

/-- The two value arrays agree. -/
theorem v_same : Rows.v (all X W) = Cert.Kernel0Ideal.Stage.vG X W := by
  refine ext3 fun b l j => ?_
  rw [Rows.v_at, all_at]
  rfl

/-- The two output gate arrays agree. -/
theorem g_same : Rows.g (all X W) = Cert.Kernel0Ideal.Stage.gG X W := by
  refine ext3 fun b l j => ?_
  rw [Rows.g_at, all_at]
  rfl

/-- The two first convolved arrays agree. -/
theorem xs_same : Rows.xs K B (all X W) = Cert.Kernel0Ideal.Stage.xsG X W K B := by
  refine ext3 fun b l j => ?_
  rw [Rows.xs_at]
  simp only [all_at]
  simp only [Cert.Kernel0Ideal.Stage.xsG, mixedCell, cell, Nat.zero_add]
  rfl

/-- The two second convolved arrays agree. -/
theorem bc_same : Rows.bc K B (all X W) = Cert.Kernel0Ideal.Stage.bcG X W K B := by
  refine ext3 fun b l j => ?_
  rw [Rows.bc_at]
  simp only [all_at]
  simp only [Cert.Kernel0Ideal.Stage.bcG, mixedCell, cell, ← Nat.add_assoc]
  rfl

/-- The two small arrays agree. -/
theorem small_same : Rows.small f g (all X W) = Cert.Kernel0Ideal.Stage.smallG X W f g := by
  refine ext3 fun b l j => ?_
  rw [Rows.small_at]
  simp only [all_at]
  rfl

end

/-- From equal arguments the kernel's eight results are the reference's, as extended reals. -/
theorem algebraic : Cert.algebraic_Kernel0Ideal_Reference0Ideal := by
  intro m ρ m' ρ' _ hag
  refine ⟨fun c => Cert.Kernel0Ideal.Stage.zG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)), fun c => Cert.Kernel0Ideal.Stage.xsG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)), fun c => Cert.Kernel0Ideal.Stage.bcG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)), fun c => Cert.Kernel0Ideal.Stage.qG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)), fun c => Cert.Kernel0Ideal.Stage.kG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)), fun c => Cert.Kernel0Ideal.Stage.vG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)), fun c => Cert.Kernel0Ideal.Stage.gG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)), fun c => Cert.Kernel0Ideal.Stage.smallG (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg4)) (m ((c.tc : Thread Cert.Kernel0Ideal.nD Cert.Kernel0Ideal.τ).loc Cert.Kernel0Ideal.main_arg5)), ?_, ?_⟩
  · refine (θ_run Cert.Kernel0Ideal.defs _ _).mono (fun _ h c => ?_) (Cert.Kernel0Ideal.Value.run_blocks (F := Ideal) m ρ)
    obtain ⟨hz, hxs, hbc, hq, hk, hv, hg, hsmall, hrest⟩ := h c
    exact ⟨hz.trans (Cert.Kernel0Ideal.Stage.z_final m c), hxs.trans (Cert.Kernel0Ideal.Stage.xs_final m c), hbc.trans (Cert.Kernel0Ideal.Stage.bc_final m c), hq.trans (Cert.Kernel0Ideal.Stage.q_final m c), hk.trans (Cert.Kernel0Ideal.Stage.k_final m c), hv.trans (Cert.Kernel0Ideal.Stage.v_final m c), hg.trans (Cert.Kernel0Ideal.Stage.g_final m c), hsmall.trans (Cert.Kernel0Ideal.Stage.small_final m c), hrest⟩
  · refine (θ_run Cert.Reference0Ideal.defs _ _).mono (fun _ h c => ?_) (Cert.Reference0Ideal.Value.run (F := Ideal) m' ρ')
    obtain ⟨h0, h1, h2, h3, h4, h5⟩ := hag c
    obtain ⟨hz, hxs, hbc, hq, hk, hv, hg, hsmall, hrest⟩ := h c
    beta_reduce
    rw [← h0, ← h1, ← h2, ← h3, ← h4, ← h5]
    exact ⟨hz.trans (z_same (m' ((c.tc : Thread Cert.Reference0Ideal.nD Cert.Reference0Ideal.τ).loc Cert.Reference0Ideal.main_arg0)) (m' ((c.tc : Thread Cert.Reference0Ideal.nD Cert.Reference0Ideal.τ).loc Cert.Reference0Ideal.main_arg1))),
      hxs.trans ((Cert.Reference0Ideal.Rows.xs_eq m' c).trans (xs_same (m' ((c.tc : Thread Cert.Reference0Ideal.nD Cert.Reference0Ideal.τ).loc Cert.Reference0Ideal.main_arg0)) (m' ((c.tc : Thread Cert.Reference0Ideal.nD Cert.Reference0Ideal.τ).loc Cert.Reference0Ideal.main_arg1)) (m' ((c.tc : Thread Cert.Reference0Ideal.nD Cert.Reference0Ideal.τ).loc Cert.Reference0Ideal.main_arg2)) (m' ((c.tc : Thread Cert.Reference0Ideal.nD Cert.Reference0Ideal.τ).loc Cert.Reference0Ideal.main_arg3)))),
      hbc.trans ((Cert.Reference0Ideal.Rows.bc_eq m' c).trans (bc_same (m' ((c.tc : Thread Cert.Reference0Ideal.nD Cert.Reference0Ideal.τ).loc Cert.Reference0Ideal.main_arg0)) (m' ((c.tc : Thread Cert.Reference0Ideal.nD Cert.Reference0Ideal.τ).loc Cert.Reference0Ideal.main_arg1)) (m' ((c.tc : Thread Cert.Reference0Ideal.nD Cert.Reference0Ideal.τ).loc Cert.Reference0Ideal.main_arg2)) (m' ((c.tc : Thread Cert.Reference0Ideal.nD Cert.Reference0Ideal.τ).loc Cert.Reference0Ideal.main_arg3)))),
      hq.trans (q_same (m' ((c.tc : Thread Cert.Reference0Ideal.nD Cert.Reference0Ideal.τ).loc Cert.Reference0Ideal.main_arg0)) (m' ((c.tc : Thread Cert.Reference0Ideal.nD Cert.Reference0Ideal.τ).loc Cert.Reference0Ideal.main_arg1))),
      hk.trans (k_same (m' ((c.tc : Thread Cert.Reference0Ideal.nD Cert.Reference0Ideal.τ).loc Cert.Reference0Ideal.main_arg0)) (m' ((c.tc : Thread Cert.Reference0Ideal.nD Cert.Reference0Ideal.τ).loc Cert.Reference0Ideal.main_arg1))),
      hv.trans (v_same (m' ((c.tc : Thread Cert.Reference0Ideal.nD Cert.Reference0Ideal.τ).loc Cert.Reference0Ideal.main_arg0)) (m' ((c.tc : Thread Cert.Reference0Ideal.nD Cert.Reference0Ideal.τ).loc Cert.Reference0Ideal.main_arg1))),
      hg.trans (g_same (m' ((c.tc : Thread Cert.Reference0Ideal.nD Cert.Reference0Ideal.τ).loc Cert.Reference0Ideal.main_arg0)) (m' ((c.tc : Thread Cert.Reference0Ideal.nD Cert.Reference0Ideal.τ).loc Cert.Reference0Ideal.main_arg1))),
      hsmall.trans ((Cert.Reference0Ideal.Rows.small_eq m' c).trans (small_same _ _ _ _)), hrest⟩

end Cert.ProjClaims

end
-- ==== Proof.MlpRow.lean ====
/- One row of the memory cross-attention and feed-forward block over the extended reals: the function both
   programs compute for every row, and the regrouping of its two long sums into four parts. -/
module

public import Idealize.ShloMosaic.Lib.Pointwise
public import Idealize.ShloMosaic.Lib.Pipeline.ValueKit

@[expose] public section

noncomputable section

namespace Cert.MlpRow

open Idealize.ShloMosaic

/-- The fourth root of two, as the word both programs carry. -/
abbrev alpha : EReal := Ideal.ofBits FTy.f32 0x3F9837F0#32
/-- One sixteenth, the scale of the scores. -/
abbrev scale : EReal := Ideal.ofBits FTy.f32 0x3D800000#32
/-- The start of every row maximum. -/
abbrev floor : EReal := Ideal.ofBits FTy.f32 0xFF800000#32
/-- The row length, by which the norms divide. -/
abbrev width : EReal := Ideal.ofBits FTy.f32 0x44800000#32
/-- The small number the norms add to the variance. -/
abbrev eps : EReal := Ideal.ofBits FTy.f32 0x3727C5AC#32

/-- A row times a matrix. -/
def dot {n p : ℕ} (x : Fin n → EReal) (W : Fin n → Fin p → EReal) (j : Fin p) : EReal := ∑ k, x k * W k j

/-- The exponentials of a row less its maximum. -/
def expo (s : Fin 256 → EReal) (m : Fin 256) : EReal := Ideal.exp (s m - Finset.fold max floor s Finset.univ)

/-- The softmax of a row. -/
def soft (s : Fin 256 → EReal) (m : Fin 256) : EReal := Ideal.div (expo s m) (∑ k, expo s k)

/-- One head: the softmax of the scaled scores against every memory row, times the value rows. -/
def headOut (q : Fin 256 → EReal) (K V : Fin 256 → Fin 256 → EReal) (d : Fin 256) : EReal :=
  ∑ m, soft (fun m' => (∑ e, q e * K m' e) * scale) m * V m d

/-- Column `e` of head `h`. -/
def col (h : Fin 4) (e : Fin 256) : Fin 1024 := ⟨h.val * 256 + e.val, by omega⟩

/-- The four heads' outputs side by side. -/
def heads (q : Fin 1024 → EReal) (K V : Fin 256 → Fin 1024 → EReal) (c : Fin 1024) : EReal :=
  headOut (fun e => q (col ⟨c.val / 256, by omega⟩ e)) (fun m e => K m (col ⟨c.val / 256, by omega⟩ e))
    (fun m e => V m (col ⟨c.val / 256, by omega⟩ e)) ⟨c.val % 256, by omega⟩

/-- The layer norm of a row, with scale and shift. -/
def norm (x g b : Fin 1024 → EReal) (j : Fin 1024) : EReal :=
  (x j - Ideal.div (∑ k, x k) width) * Ideal.rsqrt (Ideal.div (∑ i, (x i - Ideal.div (∑ k, x k) width) * (x i - Ideal.div (∑ k, x k) width)) width + eps)
    * g j + b j

/-- The residual with the attention added. -/
def attn (x q : Fin 1024 → EReal) (K V : Fin 256 → Fin 1024 → EReal) (Wo : Fin 1024 → Fin 1024 → EReal) (j : Fin 1024) : EReal :=
  alpha * x j + dot (heads q K V) Wo j

/-- The squared positive part of a hidden unit. -/
def act (y : Fin 1024 → EReal) {p : ℕ} (W1 : Fin 1024 → Fin p → EReal) (u : Fin p) : EReal := max (dot y W1 u) 0 * max (dot y W1 u) 0

/-- The residual with the feed-forward block added. -/
def mlp (y : Fin 1024 → EReal) (W1 : Fin 1024 → Fin 4096 → EReal) (W2 : Fin 4096 → Fin 1024 → EReal) (j : Fin 1024) : EReal :=
  alpha * y j + dot (act y W1) W2 j

/-- The whole row: attention, norm, feed-forward, norm. -/
def layer (x : Fin 1024 → EReal) (K V : Fin 256 → Fin 1024 → EReal) (Wq Wo : Fin 1024 → Fin 1024 → EReal) (g2 b2 : Fin 1024 → EReal)
    (W1 : Fin 1024 → Fin 4096 → EReal) (W2 : Fin 4096 → Fin 1024 → EReal) (g3 b3 : Fin 1024 → EReal) : Fin 1024 → EReal :=
  norm (mlp (norm (attn x (dot x Wq) K V Wo) g2 b2) W1 W2) g3 b3

/-- A sum over 1024 columns, head by head. -/
theorem sum_heads (f : Fin 1024 → EReal) : ∑ c, f c
    = ∑ e, f (col 0 e) + ∑ e, f (col 1 e) + ∑ e, f (col 2 e) + ∑ e, f (col 3 e) := by
  rw [Fin.sum_univ_tiles 4 256 rfl f, Fin.sum_univ_four]
  rfl

/-- Unit `e` of quarter `h` of the hidden layer. -/
def unit (h : Fin 4) (e : Fin 1024) : Fin 4096 := ⟨h.val * 1024 + e.val, by omega⟩

/-- A sum over 4096 hidden units, quarter by quarter. -/
theorem sum_quarters (f : Fin 4096 → EReal) : ∑ c, f c
    = ∑ e, f (unit 0 e) + ∑ e, f (unit 1 e) + ∑ e, f (unit 2 e) + ∑ e, f (unit 3 e) := by
  rw [Fin.sum_univ_tiles 4 1024 rfl f, Fin.sum_univ_four]
  rfl

/-- The heads' outputs at a column of head `h`. -/
theorem heads_col (q : Fin 1024 → EReal) (K V : Fin 256 → Fin 1024 → EReal) (h : Fin 4) (d : Fin 256) :
    heads q K V (col h d) = headOut (fun e => q (col h e)) (fun m e => K m (col h e)) (fun m e => V m (col h e)) d := by
  have e1 : (⟨(col h d).val / 256, by omega⟩ : Fin 4) = h := by
    apply Fin.ext; simp only [col]; omega
  have e2 : (⟨(col h d).val % 256, by omega⟩ : Fin 256) = d := by
    apply Fin.ext; simp only [col]; omega
  unfold heads
  rw [e1, e2]

/-- The attention's residual with the heads written one after another, as the kernel adds them. -/
theorem attn_heads (x q : Fin 1024 → EReal) (K V : Fin 256 → Fin 1024 → EReal) (Wo : Fin 1024 → Fin 1024 → EReal) (j : Fin 1024) :
    attn x q K V Wo j = alpha * x j
      + dot (headOut (fun e => q (col 0 e)) (fun m e => K m (col 0 e)) (fun m e => V m (col 0 e))) (fun d => Wo (col 0 d)) j
      + dot (headOut (fun e => q (col 1 e)) (fun m e => K m (col 1 e)) (fun m e => V m (col 1 e))) (fun d => Wo (col 1 d)) j
      + dot (headOut (fun e => q (col 2 e)) (fun m e => K m (col 2 e)) (fun m e => V m (col 2 e))) (fun d => Wo (col 2 d)) j
      + dot (headOut (fun e => q (col 3 e)) (fun m e => K m (col 3 e)) (fun m e => V m (col 3 e))) (fun d => Wo (col 3 d)) j := by
  unfold attn dot
  rw [sum_heads]
  simp only [heads_col, add_assoc]

/-- The feed-forward residual with the hidden units taken a quarter at a time, as the kernel adds them. -/
theorem mlp_quarters (y : Fin 1024 → EReal) (W1 : Fin 1024 → Fin 4096 → EReal) (W2 : Fin 4096 → Fin 1024 → EReal) (j : Fin 1024) :
    mlp y W1 W2 j = alpha * y j
      + dot (act y fun k u => W1 k (unit 0 u)) (fun u => W2 (unit 0 u)) j
      + dot (act y fun k u => W1 k (unit 1 u)) (fun u => W2 (unit 1 u)) j
      + dot (act y fun k u => W1 k (unit 2 u)) (fun u => W2 (unit 2 u)) j
      + dot (act y fun k u => W1 k (unit 3 u)) (fun u => W2 (unit 3 u)) j := by
  unfold mlp
  have h : dot (act y W1) W2 j = _ := sum_quarters fun u => act y W1 u * W2 u j
  rw [h]
  simp only [← add_assoc]
  rfl

/-- A maximum started from a value is not below it. -/
theorem max_floor {n : ℕ} (a : EReal) (f : Fin n → EReal) : max a (Finset.fold max a f Finset.univ) = Finset.fold max a f Finset.univ :=
  max_eq_right ((Finset.le_fold_max _).2 (Or.inl le_rfl))

/-- A column is column `c % 256` of head `c / 256`. -/
theorem col_divmod (c : Fin 1024) : col ⟨c.val / 256, by omega⟩ ⟨c.val % 256, by omega⟩ = c := by
  apply Fin.ext; simp only [col]; omega
/-- The columns of head 0. -/
theorem col_0 (e : Fin 256) : col 0 e = ⟨e.val, by omega⟩ := Fin.ext (by simp [col])
/-- The columns of head 1. -/
theorem col_1 (e : Fin 256) : col 1 e = ⟨256 + e.val, by omega⟩ := Fin.ext (by simp [col])
/-- The columns of head 2. -/
theorem col_2 (e : Fin 256) : col 2 e = ⟨512 + e.val, by omega⟩ := Fin.ext (by simp [col])
/-- The columns of head 3. -/
theorem col_3 (e : Fin 256) : col 3 e = ⟨768 + e.val, by omega⟩ := Fin.ext (by simp [col])
/-- The hidden units of quarter 0. -/
theorem unit_0 (e : Fin 1024) : unit 0 e = ⟨e.val, by omega⟩ := Fin.ext (by simp [unit])
/-- The hidden units of quarter 1. -/
theorem unit_1 (e : Fin 1024) : unit 1 e = ⟨1024 + e.val, by omega⟩ := Fin.ext (by simp [unit])
/-- The hidden units of quarter 2. -/
theorem unit_2 (e : Fin 1024) : unit 2 e = ⟨2048 + e.val, by omega⟩ := Fin.ext (by simp [unit])
/-- The hidden units of quarter 3. -/
theorem unit_3 (e : Fin 1024) : unit 3 e = ⟨3072 + e.val, by omega⟩ := Fin.ext (by simp [unit])

end Cert.MlpRow

end
-- ==== Proof.MlpStages.lean ====
/- The stages of one 256-row part of the fused attention and feed-forward kernel, as operations on
   whole vectors, and the fact that each of the four parts the kernel's body stores is the same chain of
   these stages over its own rows. -/
module

public import proofs.«01_k».proof.Proof.Gen.Kernel2Ideal.Value
public import proofs.«01_k».proof.Proof.MlpRow
public import Idealize.ShloMosaic.Lib.Pointwise
public import Idealize.ShloMosaic.Lib.Pipeline.ValueKit

@[expose] public section

set_option maxRecDepth 16384

noncomputable section

namespace Cert.Kernel2Ideal.Stage

open Cert.Kernel2Ideal Cert.Kernel2Ideal.Gen Idealize.ShloMosaic Idealize.SL.Sem

variable {F : FTy → Type} [FloatOps F]

/-- The rows of one part as a matrix. -/
def rowsOf (X : Vec F S1x256x1024 .f32) : FVec F S256x1024 .f32 :=
  shapeCast S256x1024 X shapeCasts_S1x256x1024_S256x1024

/-- Rows times a square matrix. -/
def lin (x : FVec F S256x1024 .bf16) (W : Vec F S1024x1024 .bf16) : FVec F S256x1024 .f32 :=
  matmul dot_S256x1024_S1024x1024_S256x1024_1_0_0_1_n_n none x (shapeCast S1024x1024 W shapeCasts_S1024x1024_S1024x1024)
    (constant S256x1024 .f32 0x00000000#32)

/-- The format change that stands before every product. -/
def lo (x : FVec F S256x1024 .f32) : FVec F S256x1024 .bf16 := truncf .bf16 x bitsLt_bf16_f32

/-- The residual scaled by the fourth root of two. -/
def scaled (x : FVec F S256x1024 .f32) : FVec F S256x1024 .f32 :=
  mulf (broadcast S256x1024 (Scalar.ofBits .f32 0x3F9837F0#32)) x

/-- The query columns of head 0. -/
def head0 (q : FVec F S256x1024 .f32) : FVec F S256x256 .f32 := extractStridedSlice S256x256 ![0, 0] q slices_S256x1024_o0_0_S256x256
/-- The query columns of head 1. -/
def head1 (q : FVec F S256x1024 .f32) : FVec F S256x256 .f32 := extractStridedSlice S256x256 ![0, 256] q slices_S256x1024_o0_256_S256x256
/-- The query columns of head 2. -/
def head2 (q : FVec F S256x1024 .f32) : FVec F S256x256 .f32 := extractStridedSlice S256x256 ![0, 512] q slices_S256x1024_o0_512_S256x256
/-- The query columns of head 3. -/
def head3 (q : FVec F S256x1024 .f32) : FVec F S256x256 .f32 := extractStridedSlice S256x256 ![0, 768] q slices_S256x1024_o0_768_S256x256

/-- The scaled scores of one head. -/
def scores (q : FVec F S256x256 .f32) (K : Vec F S1x256x256 .bf16) : FVec F S256x256 .f32 :=
  mulf (matmul dot_S256x256_S256x256_S256x256_1_1_0_0_n_n none (truncf .bf16 q bitsLt_bf16_f32)
      (shapeCast S256x256 K shapeCasts_S1x256x256_S256x256) (constant S256x256 .f32 0x00000000#32))
    (broadcast S256x256 (Scalar.ofBits .f32 0x3D800000#32))

/-- The exponentials of the scores less their row maximum. -/
def expo (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- The exponentials divided by their row sum. -/
def weights (e : FVec F S256x256 .f32) : FVec F S256x256 .f32 :=
  divf e (broadcastTo S256x256 (shapeCast S256x1 (multiReduction .add [1] S256 e 0x00000000#32 reduces_S256x256_S256 (.inl rfl) rfl)
    shapeCasts_S256_S256x1) broadcasts_S256x1_S256x256)

/-- The weighted sum of the value rows of one head. -/
def mix (p : FVec F S256x256 .f32) (V : Vec F S1x256x256 .bf16) : FVec F S256x256 .f32 :=
  matmul dot_S256x256_S256x256_S256x256_1_0_0_1_n_n none (truncf .bf16 p bitsLt_bf16_f32)
    (shapeCast S256x256 V shapeCasts_S1x256x256_S256x256) (constant S256x256 .f32 0x00000000#32)

/-- One head's output added to what the heads before it left. -/
def attend (acc : FVec F S256x1024 .f32) (q : FVec F S256x256 .f32) (K V : Vec F S1x256x256 .bf16) (W : Vec F S256x1024 .bf16) :
    FVec F S256x1024 .f32 :=
  addf acc (matmul dot_S256x256_S256x1024_S256x1024_1_0_0_1_n_n none (truncf .bf16 (mix (weights (expo (scores q K))) V) bitsLt_bf16_f32)
    (shapeCast S256x1024 W shapeCasts_S256x1024_S256x1024) (constant S256x1024 .f32 0x00000000#32))

/-- Rows less their mean. -/
def centred (x : FVec F S256x1024 .f32) : FVec F S256x1024 .f32 :=
  subf x (broadcastTo S256x1024 (divf (shapeCast S256x1 (multiReduction .add [1] S256 x 0x00000000#32 reduces_S256x1024_S256 (.inl rfl) rfl)
    shapeCasts_S256_S256x1) (broadcast S256x1 (Scalar.ofBits .f32 0x44800000#32))) broadcasts_S256x1_S256x1024)

/-- The layer norm of every row, with its scale and shift. -/
def norm (x : FVec F S256x1024 .f32) (g b : Vec F S1x1024 .f32) : FVec F S256x1024 .f32 :=
  addf (mulf (mulf (centred x) (broadcastTo S256x1024 (rsqrt (addf (divf (shapeCast S256x1
      (multiReduction .add [1] S256 (mulf (centred x) (centred x)) 0x00000000#32 reduces_S256x1024_S256 (.inl rfl) rfl) shapeCasts_S256_S256x1)
      (broadcast S256x1 (Scalar.ofBits .f32 0x44800000#32))) (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- One quarter of the hidden units, added to what the quarters before it left. -/
def feed (acc x : FVec F S256x1024 .f32) (W1 W2 : Vec F S1024x1024 .bf16) : FVec F S256x1024 .f32 :=
  addf acc (lin (lo (mulf (maximumf (lin (lo x) W1) (broadcast S256x1024 (Scalar.ofBits .f32 0x00000000#32)))
    (maximumf (lin (lo x) W1) (broadcast S256x1024 (Scalar.ofBits .f32 0x00000000#32))))) W2)

variable (x0 : Vec F S1x1024x1024 .f32) (x1 x2 : Vec F S1x256x1024 .bf16) (x3 x4 : Vec F S1024x1024 .bf16) (x5 x6 : Vec F S1x1024 .f32)
  (x7 : Vec F S1024x4096 .bf16) (x8 : Vec F S4096x1024 .bf16) (x9 x10 : Vec F S1x1024 .f32)

/-- The attention half of one part before its norm. -/
def attnPart (X : Vec F S1x256x1024 .f32) (q : FVec F S256x1024 .f32) (x1 x2 : Vec F S1x256x1024 .bf16) (x4 : Vec F S1024x1024 .bf16) :
    FVec F S256x1024 .f32 :=
  attend (attend (attend (attend (scaled (rowsOf X)) (head0 q) (View.ld x1 r0_5) (View.ld x2 r0_5) (View.ld x4 r0_6))
    (head1 q) (View.ld x1 r0_7) (View.ld x2 r0_7) (View.ld x4 r0_8))
    (head2 q) (View.ld x1 r0_9) (View.ld x2 r0_9) (View.ld x4 r0_10))
    (head3 q) (View.ld x1 r0_11) (View.ld x2 r0_11) (View.ld x4 r0_12)

/-- The feed-forward half of one part before its norm. -/
def mlpPart (x : FVec F S256x1024 .f32) (x7 : Vec F S1024x4096 .bf16) (x8 : Vec F S4096x1024 .bf16) : FVec F S256x1024 .f32 :=
  feed (feed (feed (feed (scaled x) x (View.ld x7 r0_14) (View.ld x8 r0_15)) x (View.ld x7 r0_16) (View.ld x8 r0_17))
    x (View.ld x7 r0_18) (View.ld x8 r0_19)) x (View.ld x7 r0_20) (View.ld x8 r0_21)

/-- One part of 256 rows, from its rows and the operands every part shares. -/
def part (X : Vec F S1x256x1024 .f32) (x1 x2 : Vec F S1x256x1024 .bf16) (x3 x4 : Vec F S1024x1024 .bf16) (x5 x6 : Vec F S1x1024 .f32)
    (x7 : Vec F S1024x4096 .bf16) (x8 : Vec F S4096x1024 .bf16) (x9 x10 : Vec F S1x1024 .f32) : FVec F S1x256x1024 .f32 :=
  shapeCast S1x256x1024 (norm (mlpPart (norm (attnPart X (lin (lo (rowsOf X)) (View.ld x3 r0_4)) x1 x2 x4) (View.ld x5 r0_13) (View.ld x6 r0_13)) x7 x8)
    (View.ld x9 r0_13) (View.ld x10 r0_13)) shapeCasts_S256x1024_S1x256x1024

/-- The attention half of the first part, with its norm. -/
theorem mid_0 : k0_pay127 x0 x1 x2 x3 x4 x5 x6 x7 x8 x9 x10 = norm (attnPart (View.ld x0 r0_0) (lin (lo (rowsOf (View.ld x0 r0_0)))
    (View.ld x3 r0_4)) x1 x2 x4) (View.ld x5 r0_13) (View.ld x6 r0_13) := rfl
/-- The attention half of the second part, with its norm. -/
theorem mid_1 : k0_pay128 x0 x1 x2 x3 x4 x5 x6 x7 x8 x9 x10 = norm (attnPart (View.ld x0 r0_1) (lin (lo (rowsOf (View.ld x0 r0_1)))
    (View.ld x3 r0_4)) x1 x2 x4) (View.ld x5 r0_13) (View.ld x6 r0_13) := rfl
/-- The attention half of the third part. -/
theorem mid_2 : k0_pay125 x0 x1 x2 x3 x4 x5 x6 x7 x8 x9 x10 = attnPart (View.ld x0 r0_2) (lin (lo (rowsOf (View.ld x0 r0_2)))
    (View.ld x3 r0_4)) x1 x2 x4 := rfl
/-- The attention half of the fourth part. -/
theorem mid_3 : k0_pay126 x0 x1 x2 x3 x4 x5 x6 x7 x8 x9 x10 = attnPart (View.ld x0 r0_3) (lin (lo (rowsOf (View.ld x0 r0_3)))
    (View.ld x3 r0_4)) x1 x2 x4 := rfl

/-- The block the body leaves is the four parts, each from its own 256 rows. -/
theorem out_parts : out0_11 x0 x1 x2 x3 x4 x5 x6 x7 x8 x9 x10 = View.canon
    [⟨r0_3, part (View.ld x0 r0_3) x1 x2 x3 x4 x5 x6 x7 x8 x9 x10⟩, ⟨r0_2, part (View.ld x0 r0_2) x1 x2 x3 x4 x5 x6 x7 x8 x9 x10⟩,
     ⟨r0_1, part (View.ld x0 r0_1) x1 x2 x3 x4 x5 x6 x7 x8 x9 x10⟩, ⟨r0_0, part (View.ld x0 r0_0) x1 x2 x3 x4 x5 x6 x7 x8 x9 x10⟩] := rfl

end Cert.Kernel2Ideal.Stage

end
-- ==== Proof.MlpKernel.lean ====
/- The fused attention and feed-forward kernel over the extended reals: every stage read at an index, the
   block of a grid point row by row, and the result array after the run as one function of the arguments. -/
module

public import proofs.«01_k».proof.Proof.MlpStages

@[expose] public section

set_option maxRecDepth 16384

noncomputable section

namespace Cert.Kernel2Ideal.Stage

open Cert.Kernel2Ideal Cert.Kernel2Ideal.Gen Idealize.ShloMosaic Idealize.ShloMosaic.TcCoe Idealize.SL.Sem
open Idealize.ShloMosaic.Pipeline (Dat)

/-- The queries of a row: the row times the query matrix. -/
theorem q_at (X : Vec Ideal S1x256x1024 .f32) (x3 : Vec Ideal S1024x1024 .bf16) (i : Fin 256) (j : Fin 1024) :
    lin (lo (rowsOf X)) (View.ld x3 r0_4) (ix2 i j) = MlpRow.dot (fun k => X (ix3 0 i k)) (fun k c => x3 (ix2 k c)) j := by
  pointwise [lin, lo, rowsOf, MlpRow.dot]

/-- One head added, at an index. -/
theorem attend_at (acc : FVec Ideal S256x1024 .f32) (q : FVec Ideal S256x256 .f32) (K V : Vec Ideal S1x256x256 .bf16)
    (W : Vec Ideal S256x1024 .bf16) (i : Fin 256) (j : Fin 1024) : attend acc q K V W (ix2 i j)
    = acc (ix2 i j) + MlpRow.dot (MlpRow.headOut (fun e => q (ix2 i e)) (fun m e => K (ix3 0 m e)) (fun m e => V (ix3 0 m e)))
        (fun d c => W (ix2 d c)) j := by
  pointwise [attend, mix, weights, expo, scores, MlpRow.dot, MlpRow.headOut, MlpRow.soft, MlpRow.expo]

/-- The norm at an index is the norm of the row. -/
theorem norm_at (x : FVec Ideal S256x1024 .f32) (g b : Vec Ideal S1x1024 .f32) (i : Fin 256) (j : Fin 1024) :
    norm x (View.ld g r0_13) (View.ld b r0_13) (ix2 i j)
      = MlpRow.norm (fun k => x (ix2 i k)) (fun k => g (ix2 0 k)) (fun k => b (ix2 0 k)) j := by
  pointwise [norm, centred, MlpRow.norm]

/-- One quarter of the hidden units added, at an index. -/
theorem feed_at (acc x : FVec Ideal S256x1024 .f32) (W1 W2 : Vec Ideal S1024x1024 .bf16) (i : Fin 256) (j : Fin 1024) :
    feed acc x W1 W2 (ix2 i j) = acc (ix2 i j) + MlpRow.dot (MlpRow.act (fun k => x (ix2 i k)) fun k u => W1 (ix2 k u)) (fun u c => W2 (ix2 u c)) j := by
  pointwise [feed, lin, lo, MlpRow.dot, MlpRow.act]

/-- The attention half at an index is the attention of the row. -/
theorem attn_at (X : Vec Ideal S1x256x1024 .f32) (q : FVec Ideal S256x1024 .f32) (x1 x2 : Vec Ideal S1x256x1024 .bf16)
    (x4 : Vec Ideal S1024x1024 .bf16) (i : Fin 256) (j : Fin 1024) : attnPart X q x1 x2 x4 (ix2 i j)
    = MlpRow.attn (fun k => X (ix3 0 i k)) (fun k => q (ix2 i k)) (fun m c => x1 (ix3 0 m c)) (fun m c => x2 (ix3 0 m c))
        (fun k c => x4 (ix2 k c)) j := by
  rw [MlpRow.attn_heads, attnPart, attend_at, attend_at, attend_at, attend_at]
  pointwise [scaled, rowsOf, head0, head1, head2, head3]
  simp only [MlpRow.col_0, MlpRow.col_1, MlpRow.col_2, MlpRow.col_3]

/-- The feed-forward half at an index is the feed-forward of the row. -/
theorem mlp_at (x : FVec Ideal S256x1024 .f32) (x7 : Vec Ideal S1024x4096 .bf16) (x8 : Vec Ideal S4096x1024 .bf16) (i : Fin 256) (j : Fin 1024) :
    mlpPart x x7 x8 (ix2 i j) = MlpRow.mlp (fun k => x (ix2 i k)) (fun k u => x7 (ix2 k u)) (fun u c => x8 (ix2 u c)) j := by
  rw [MlpRow.mlp_quarters, mlpPart, feed_at, feed_at, feed_at, feed_at]
  pointwise [scaled]
  simp only [MlpRow.unit_0, MlpRow.unit_1, MlpRow.unit_2, MlpRow.unit_3]

/-- One part at an index is the whole row function of that row. -/
theorem part_ix (X : Vec Ideal S1x256x1024 .f32) (x1 x2 : Vec Ideal S1x256x1024 .bf16) (x3 x4 : Vec Ideal S1024x1024 .bf16) (x5 x6 : Vec Ideal S1x1024 .f32)
    (x7 : Vec Ideal S1024x4096 .bf16) (x8 : Vec Ideal S4096x1024 .bf16) (x9 x10 : Vec Ideal S1x1024 .f32) (i : Fin 256) (j : Fin 1024) :
    part X x1 x2 x3 x4 x5 x6 x7 x8 x9 x10 (ix3 0 i j)
    = MlpRow.layer (fun k => X (ix3 0 i k)) (fun m c => x1 (ix3 0 m c)) (fun m c => x2 (ix3 0 m c)) (fun k c => x3 (ix2 k c)) (fun k c => x4 (ix2 k c))
        (fun k => x5 (ix2 0 k)) (fun k => x6 (ix2 0 k)) (fun k u => x7 (ix2 k u)) (fun u c => x8 (ix2 u c)) (fun k => x9 (ix2 0 k)) (fun k => x10 (ix2 0 k)) j := by
  pointwise [part]
  rw [norm_at]
  simp only [mlp_at, norm_at, attn_at, q_at]
  rfl

/-- The same at any index of the part. -/
theorem part_at (X : Vec Ideal S1x256x1024 .f32) (x1 x2 : Vec Ideal S1x256x1024 .bf16) (x3 x4 : Vec Ideal S1024x1024 .bf16) (x5 x6 : Vec Ideal S1x1024 .f32)
    (x7 : Vec Ideal S1024x4096 .bf16) (x8 : Vec Ideal S4096x1024 .bf16) (x9 x10 : Vec Ideal S1x1024 .f32) (y : S1x256x1024.Idx) :
    part X x1 x2 x3 x4 x5 x6 x7 x8 x9 x10 y
    = MlpRow.layer (fun k => X (ix3 0 (y 1) k)) (fun m c => x1 (ix3 0 m c)) (fun m c => x2 (ix3 0 m c)) (fun k c => x3 (ix2 k c)) (fun k c => x4 (ix2 k c))
        (fun k => x5 (ix2 0 k)) (fun k => x6 (ix2 0 k)) (fun k u => x7 (ix2 k u)) (fun u c => x8 (ix2 u c)) (fun k => x9 (ix2 0 k)) (fun k => x10 (ix2 0 k)) (y 2) := by
  refine Eq.trans (congrArg _ ?_) (part_ix X x1 x2 x3 x4 x5 x6 x7 x8 x9 x10 (y 1) (y 2))
  blk_ext

variable (x0 : Vec Ideal S1x1024x1024 .f32) (x1 x2 : Vec Ideal S1x256x1024 .bf16) (x3 x4 : Vec Ideal S1024x1024 .bf16) (x5 x6 : Vec Ideal S1x1024 .f32)
  (x7 : Vec Ideal S1024x4096 .bf16) (x8 : Vec Ideal S4096x1024 .bf16) (x9 x10 : Vec Ideal S1x1024 .f32)

/-- The block a grid point leaves, row by row. -/
theorem out_at (y : S1x1024x1024.Idx) : out0_11 x0 x1 x2 x3 x4 x5 x6 x7 x8 x9 x10 y
    = MlpRow.layer (fun k => x0 (ix3 0 (y 1) k)) (fun m c => x1 (ix3 0 m c)) (fun m c => x2 (ix3 0 m c)) (fun k c => x3 (ix2 k c)) (fun k c => x4 (ix2 k c))
        (fun k => x5 (ix2 0 k)) (fun k => x6 (ix2 0 k)) (fun k u => x7 (ix2 k u)) (fun u c => x8 (ix2 u c)) (fun k => x9 (ix2 0 k)) (fun k => x10 (ix2 0 k)) (y 2) := by
  rw [out_parts]
  canon_tiles x h
  all_goals
    rw [part_at]
    congr 1
    · funext k
      pointwise
      blk_ext
    · exact Fin.ext h2.symm

variable (m : (ℓ : Loc nD τ sig) → Buf (Elt Ideal) ℓ)

/-- The blocks' indices along the grid. -/
theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![t.val / 8, t.val % 8, 0] :=
  (by decide +kernel : ∀ t : Fin grid0.N, _)

/-- The result array as a function of the argument arrays: every row is the row function of that row. -/
def G (X : FVec Ideal S8x8192x1024 .f32) (K V : FVec Ideal S8x256x1024 .bf16) (Wq Wo : FVec Ideal S1024x1024 .f32) (g2 b2 : FVec Ideal S1024 .f32)
    (W1 : FVec Ideal S1024x4096 .f32) (W2 : FVec Ideal S4096x1024 .f32) (g3 b3 : FVec Ideal S1024 .f32) : FVec Ideal S8x8192x1024 .f32 := fun y =>
  MlpRow.layer (fun k => X (ix3 (y 0) (y 1) k)) (fun m c => K (ix3 (y 0) m c)) (fun m c => V (ix3 (y 0) m c)) (fun k c => Wq (ix2 k c)) (fun k c => Wo (ix2 k c))
    (fun k => g2 (ix1 k)) (fun k => b2 (ix1 k)) (fun k u => W1 (ix2 k u)) (fun u c => W2 (ix2 u c)) (fun k => g3 (ix1 k)) (fun k => b3 (ix1 k)) (y 2)

/-- After the run the result array is `G` of the arguments. -/
theorem final (c : Dev nD) : (dats m 0 c).arrAt 11 cfg0.N
    = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11, out_at]
  unfold G
  congr 1
  rotate_right
  · apply Fin.ext
    blk_simp [idx t]
  all_goals (funext; blk_point [iblk, V, idx t])

end Cert.Kernel2Ideal.Stage

end
-- ==== Proof.MlpReference.lean ====
/- The plain attention and feed-forward reference over the extended reals, read at an index: every row of its
   result is the row function of that row. -/
module

public import proofs.«01_k».proof.Proof.Gen.Reference2Ideal.Run
public import proofs.«01_k».proof.Proof.MlpRow
public import Idealize.ShloMosaic.Lib.Tactic.CleanTypes

@[expose] public section

set_option maxRecDepth 16384

noncomputable section

namespace Cert.Reference2Ideal.Rows

open Cert.Reference2Ideal Cert.Reference2Ideal.Gen Cert.Reference2Ideal.Value Idealize.ShloMosaic Idealize.ShloMosaic.TcCoe Idealize.SL.Sem

variable (V0 : Valuation τ sig (Elt Ideal))

/-- Row `l` of batch `b` of the input. -/
def xrow (b : Fin 8) (l : Fin 8192) (k : Fin 1024) : EReal := (V0 (Proc.devRef .tc main_arg0) : FVec Ideal S8x8192x1024 .f32) (ix3 b l k)
/-- The memory keys of batch `b`. -/
def keys (b : Fin 8) (m : Fin 256) (c : Fin 1024) : EReal := (V0 (Proc.devRef .tc main_arg1) : FVec Ideal S8x256x1024 .bf16) (ix3 b m c)
/-- The memory values of batch `b`. -/
def vals (b : Fin 8) (m : Fin 256) (c : Fin 1024) : EReal := (V0 (Proc.devRef .tc main_arg2) : FVec Ideal S8x256x1024 .bf16) (ix3 b m c)
/-- The query matrix. -/
def wq (k c : Fin 1024) : EReal := (V0 (Proc.devRef .tc main_arg3) : FVec Ideal S1024x1024 .f32) (ix2 k c)
/-- The output matrix. -/
def wo (k c : Fin 1024) : EReal := (V0 (Proc.devRef .tc main_arg4) : FVec Ideal S1024x1024 .f32) (ix2 k c)
/-- The first norm's scale. -/
def g2 (k : Fin 1024) : EReal := (V0 (Proc.devRef .tc main_arg5) : FVec Ideal S1024 .f32) (ix1 k)
/-- The first norm's shift. -/
def b2 (k : Fin 1024) : EReal := (V0 (Proc.devRef .tc main_arg6) : FVec Ideal S1024 .f32) (ix1 k)
/-- The first feed-forward weight. -/
def w1 (k : Fin 1024) (u : Fin 4096) : EReal := (V0 (Proc.devRef .tc main_arg7) : FVec Ideal S1024x4096 .f32) (ix2 k u)
/-- The second feed-forward weight. -/
def w2 (u : Fin 4096) (c : Fin 1024) : EReal := (V0 (Proc.devRef .tc main_arg8) : FVec Ideal S4096x1024 .f32) (ix2 u c)
/-- The second norm's scale. -/
def g3 (k : Fin 1024) : EReal := (V0 (Proc.devRef .tc main_arg9) : FVec Ideal S1024 .f32) (ix1 k)
/-- The second norm's shift. -/
def b3 (k : Fin 1024) : EReal := (V0 (Proc.devRef .tc main_arg10) : FVec Ideal S1024 .f32) (ix1 k)

/-- The scaled scores. -/
theorem v8_at (b : Fin 8) (h : Fin 4) (l : Fin 8192) (m : Fin 256) : (res_main_v8 V0 : FVec Ideal S8x4x8192x256 .f32) (ix4 b h l m)
    = (∑ e, MlpRow.dot (xrow V0 b l) (wq V0) (MlpRow.col h e) * keys V0 b m (MlpRow.col h e)) * MlpRow.scale := by
  unfold res_main_v8
  clean_types
  pointwise [MlpRow.dot, xrow, wq, keys]
  simp only [MlpRow.col]

/-- The reference's row maximum at an index is the maximum over the row. -/
theorem rowMax_at (x : FVec Ideal S8x4x8192x256 .f32) (b : Fin 8) (h : Fin 4) (l : Fin 8192) :
    Host.reduce FloatOps.maximumf x (constant S_ .f32 0xFF800000#32) reducesTo_S8x4x8192x256_S8x4x8192_d3 h_S_ (ix3 b h l)
      = Finset.univ.fold max MlpRow.floor fun m => x (ix4 b h l m) := by
  have hr : Shape.Reduces (S8x4x8192x256) [3] S8x4x8192 := by decide
  rw [Host.reduce_eq_fold_single _ _ _ _ hr]
  refine congrArg (fun g => Finset.fold max MlpRow.floor g Finset.univ) (funext fun k => congrArg x ?_)
  funext a
  apply Fin.ext
  rw [Shape.Reduces.lift_val]
  match a with
  | ⟨0, _⟩ => rfl
  | ⟨1, _⟩ => rfl
  | ⟨2, _⟩ => rfl
  | ⟨3, _⟩ => rfl

/-- A value per row, spread over the row. -/
theorem spread_at (Y : FVec Ideal S8x4x8192 .f32) (b : Fin 8) (h : Fin 4) (l : Fin 8192) (m : Fin 256) :
    broadcastInDim S8x4x8192x256 ![0, 1, 2, 3] bcast_S8x4x8192x1_S8x4x8192x256_0_1_2_3
      (broadcastInDim S8x4x8192x1 ![0, 1, 2] bcast_S8x4x8192_S8x4x8192x1_0_1_2 Y) (ix4 b h l m) = Y (ix3 b h l) := by
  pointwise

/-- The maximum with the start value, at a row. -/
theorem floor_at (M : FVec Ideal S8x4x8192 .f32) (b : Fin 8) (h : Fin 4) (l : Fin 8192) :
    maximumf (broadcastInDim S8x4x8192 ![] bcast_S_S8x4x8192 (constant S_ .f32 0xFF800000#32)) M (ix3 b h l) = max MlpRow.floor (M (ix3 b h l)) := rfl

/-- The exponentials of a row less its maximum, read at an index. -/
theorem expo_at (x : FVec Ideal S8x4x8192x256 .f32) (b : Fin 8) (h : Fin 4) (l : Fin 8192) (m : Fin 256) :
    (Host.exp (subf x (broadcastInDim S8x4x8192x256 ![0, 1, 2, 3] bcast_S8x4x8192x1_S8x4x8192x256_0_1_2_3
      (broadcastInDim S8x4x8192x1 ![0, 1, 2] bcast_S8x4x8192_S8x4x8192x1_0_1_2
        (maximumf (broadcastInDim S8x4x8192 ![] bcast_S_S8x4x8192 (constant S_ .f32 0xFF800000#32))
          (Host.reduce FloatOps.maximumf x (constant S_ .f32 0xFF800000#32) reducesTo_S8x4x8192x256_S8x4x8192_d3 h_S_)))))
      : FVec Ideal S8x4x8192x256 .f32) (ix4 b h l m) = MlpRow.expo (fun m => x (ix4 b h l m)) m := by
  refine (congrArg (fun v => Ideal.exp (x (ix4 b h l m) - v)) (spread_at _ b h l m)).trans ?_
  rw [floor_at, rowMax_at, MlpRow.max_floor]
  rfl

/-- The exponentials. -/
theorem v15_at (b : Fin 8) (h : Fin 4) (l : Fin 8192) (m : Fin 256) : (res_main_v15 V0 : FVec Ideal S8x4x8192x256 .f32) (ix4 b h l m)
    = MlpRow.expo (fun m => (res_main_v8 V0 : FVec Ideal S8x4x8192x256 .f32) (ix4 b h l m)) m :=
  expo_at (res_main_v8 V0) b h l m

/-- The residual with the attention. -/
theorem v26_at (b : Fin 8) (l : Fin 8192) (j : Fin 1024) : (res_main_v26 V0 : FVec Ideal S8x8192x1024 .f32) (ix3 b l j)
    = MlpRow.attn (xrow V0 b l) (MlpRow.dot (xrow V0 b l) (wq V0)) (keys V0 b) (vals V0 b) (wo V0) j := by
  unfold res_main_v26
  clean_types
  pointwise [MlpRow.attn, MlpRow.dot, MlpRow.heads, MlpRow.headOut, MlpRow.soft]
  simp only [v15_at, v8_at]
  refine congrArg _ (Finset.sum_congr rfl fun x _ => congrArg (· * _) (Finset.sum_congr rfl fun i _ => ?_))
  rw [mul_comm, MlpRow.col_divmod]
  rfl

/-- The first norm, of the attention's row. -/
theorem v50_at (b : Fin 8) (l : Fin 8192) (j : Fin 1024) : (res_main_v50 V0 : FVec Ideal S8x8192x1024 .f32) (ix3 b l j)
    = MlpRow.norm (fun k => (res_main_v26 V0 : FVec Ideal S8x8192x1024 .f32) (ix3 b l k)) (g2 V0) (b2 V0) j := by
  unfold res_main_v50 res_main_v32 res_main_v30
  clean_types
  pointwise [MlpRow.norm, g2, b2]

/-- The feed-forward part with its residual, of the first norm's row. -/
theorem v57_at (b : Fin 8) (l : Fin 8192) (j : Fin 1024) : (res_main_v57 V0 : FVec Ideal S8x8192x1024 .f32) (ix3 b l j)
    = MlpRow.mlp (fun k => (res_main_v50 V0 : FVec Ideal S8x8192x1024 .f32) (ix3 b l k)) (w1 V0) (w2 V0) j := by
  unfold res_main_v57 res_main_v54
  clean_types
  pointwise [MlpRow.mlp, MlpRow.dot, MlpRow.act, w1, w2]

/-- The reference's result term at an index is the row function of that row. -/
theorem result_at (b : Fin 8) (l : Fin 8192) (j : Fin 1024) : (addf (mulf (mulf (subf (res_main_v57 V0) (broadcastInDim S8x8192x1024 ![0, 1, 2] bcast_S8x8192x1_S8x8192x1024_0_1_2 (res_main_v61 V0))) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v63 V0) (res_main_v63 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x3727C5AC#32)))))) (broadcastInDim S8x8192x1024 ![0, 1, 2] bcast_S1x1x1024_S8x8192x1024_0_1_2 (broadcastInDim S1x1x1024 ![2] bcast_S1024_S1x1x1024_2 (V0 (Proc.devRef .tc main_arg9))))) (broadcastInDim S8x8192x1024 ![0, 1, 2] bcast_S1x1x1024_S8x8192x1024_0_1_2 (broadcastInDim S1x1x1024 ![2] bcast_S1024_S1x1x1024_2 (V0 (Proc.devRef .tc main_arg10))))
      : FVec Ideal S8x8192x1024 .f32) (ix3 b l j)
    = MlpRow.layer (xrow V0 b l) (keys V0 b) (vals V0 b) (wq V0) (wo V0) (g2 V0) (b2 V0) (w1 V0) (w2 V0) (g3 V0) (b3 V0) j := by
  have e : MlpRow.layer (xrow V0 b l) (keys V0 b) (vals V0 b) (wq V0) (wo V0) (g2 V0) (b2 V0) (w1 V0) (w2 V0) (g3 V0) (b3 V0) j
      = MlpRow.norm (fun k => (res_main_v57 V0 : FVec Ideal S8x8192x1024 .f32) (ix3 b l k)) (g3 V0) (b3 V0) j := by
    simp only [v57_at, v50_at, v26_at]
    rfl
  rw [e]
  unfold res_main_v63 res_main_v61
  clean_types
  pointwise [MlpRow.norm, g3, b3]

/-- The reference's result as one array. -/
def whole : FVec Ideal S8x8192x1024 .f32 := fun y =>
  MlpRow.layer (xrow V0 (y 0) (y 1)) (keys V0 (y 0)) (vals V0 (y 0)) (wq V0) (wo V0) (g2 V0) (b2 V0) (w1 V0) (w2 V0) (g3 V0) (b3 V0) (y 2)

/-- The reference's result term is that array. -/
theorem result_eq : (addf (mulf (mulf (subf (res_main_v57 V0) (broadcastInDim S8x8192x1024 ![0, 1, 2] bcast_S8x8192x1_S8x8192x1024_0_1_2 (res_main_v61 V0))) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v63 V0) (res_main_v63 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x3727C5AC#32)))))) (broadcastInDim S8x8192x1024 ![0, 1, 2] bcast_S1x1x1024_S8x8192x1024_0_1_2 (broadcastInDim S1x1x1024 ![2] bcast_S1024_S1x1x1024_2 (V0 (Proc.devRef .tc main_arg9))))) (broadcastInDim S8x8192x1024 ![0, 1, 2] bcast_S1x1x1024_S8x8192x1024_0_1_2 (broadcastInDim S1x1x1024 ![2] bcast_S1024_S1x1x1024_2 (V0 (Proc.devRef .tc main_arg10)))) : FVec Ideal S8x8192x1024 .f32) = whole V0 := by
  funext y
  refine Eq.trans (congrArg _ ?_) (result_at V0 (y 0) (y 1) (y 2))
  blk_ext

end Cert.Reference2Ideal.Rows

end
-- ==== Proof.MlpClaims.lean ====
/- The claims about the attention and feed-forward call: the three frames, and the equality over the extended
   reals of the kernel's result with the plain reference's. -/
module

public import proofs.«01_k».proof.Defs
public import proofs.«01_k».proof.Proof.Gen.Kernel2.Frame
public import proofs.«01_k».proof.Proof.MlpKernel
public import proofs.«01_k».proof.Proof.MlpReference
public import Idealize.ShloMosaic.Lib.Quiescent

@[expose] public section

noncomputable section

namespace Cert.MlpClaims

open Idealize.ShloMosaic Idealize.ShloMosaic.TcCoe Idealize.SL.Sem

/-- The kernel ends, leaves its arguments and its counters as they were. -/
theorem frame_kernel : Cert.quiescent_Kernel2 := fun m ρ _ => Cert.Kernel2.Gen.frame m ρ
/-- So does its reading over the extended reals. -/
theorem frame_ideal : Cert.quiescent_Kernel2Ideal := fun m ρ _ => Cert.Kernel2Ideal.Gen.frame m ρ
/-- And the reference, which has no counters. -/
theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The kernel's result array, device by device, as a function of its arguments. -/
def result (m : (ℓ : Loc Cert.Kernel2Ideal.nD Cert.Kernel2Ideal.τ Cert.Kernel2Ideal.sig) → Buf (Elt Ideal) ℓ) (c : Dev Cert.Kernel2Ideal.nD) :
    FVec Ideal Cert.Kernel2Ideal.S8x8192x1024 .f32 :=
  open Cert.Kernel2Ideal in Cert.Kernel2Ideal.Stage.G (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8)) (m (c.tc.loc main_arg9)) (m (c.tc.loc main_arg10))

/-- From equal arguments the kernel's result is the reference's, as extended reals. -/
theorem algebraic : Cert.algebraic_Kernel2Ideal_Reference2Ideal := by
  intro m ρ m' ρ' _ hag
  refine ⟨fun c => result m c, ?_, ?_⟩
  · exact (θ_run Cert.Kernel2Ideal.defs _ _).mono (fun _ h c => ⟨(h c).1.trans (Cert.Kernel2Ideal.Stage.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4, h5, h6, h7, h8, h9, h10⟩ := hag c
    refine (Cert.Reference2Ideal.Rows.result_eq (StableHlo.launchContents m' c)).trans ?_
    unfold result
    show Cert.Kernel2Ideal.Stage.G (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = _
    rw [h0, h1, h2, h3, h4, h5, h6, h7, h8, h9, h10]

end Cert.MlpClaims

end
-- ==== Proof.MemClaims.lean ====
/- The claims about the call that prepares the memory's keys and values: the three frames, and the equality over the
   extended reals of the kernel's two results with the plain reference's. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.MemClaims

open Idealize.ShloMosaic Idealize.ShloMosaic.TcCoe Idealize.SL.Sem
open Idealize.ShloMosaic.Pipeline (Dat)

/-- The kernel ends, leaves its arguments and its counters as they were. -/
theorem frame_kernel : Cert.quiescent_Kernel3 := fun m ρ _ => Cert.Kernel3.Gen.frame m ρ
/-- So does its reading over the extended reals. -/
theorem frame_ideal : Cert.quiescent_Kernel3Ideal := fun m ρ _ => Cert.Kernel3Ideal.Gen.frame m ρ
/-- And the reference, which has no counters. -/
theorem frame_reference : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The reference's product of the memory with a weight. -/
abbrev prod (X : FVec Ideal Cert.Reference3Ideal.S8x256x1024 .f32) (W : FVec Ideal Cert.Reference3Ideal.S1024x1024 .f32) :
    FVec Ideal Cert.Reference3Ideal.S8x256x1024 .bf16 :=
  truncf .bf16 (Host.dotGeneral Cert.Reference3Ideal.dot_S8x256x1024_S1024x1024_S8x256x1024_2_0_01_1_n_n none X W) Cert.Reference3Ideal.Gen.bitsLt_bf16_f32

section
open Cert.Kernel3Ideal Cert.Kernel3Ideal.Gen

variable (m : (ℓ : Loc nD τ sig) → Buf (Elt Ideal) ℓ) (c : Dev nD)

/-- The blocks follow the batch; the weights stay. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] := (by decide +kernel : ∀ t : Fin grid0.N, _)

/-- What a grid point stores for the keys. -/
theorem point_k (t : Fin cfg0.N) (y) : k0_pay2 (iblk m c 0 t) (iblk m c 1 t) y
    = prod (m ((c : Thread nD τ).loc main_arg0)) (m ((c : Thread nD τ).loc main_arg1)) (((cfg0.win 3).blk t).view.emb y) := by
  pointwise [k0_pay2, k0_pay1, prod]
  blk_point [iblk, V, idx t]

/-- What a grid point stores for the values. -/
theorem point_v (t : Fin cfg0.N) (y) : k0_pay3 (iblk m c 0 t) (iblk m c 2 t) y
    = prod (m ((c : Thread nD τ).loc main_arg0)) (m ((c : Thread nD τ).loc main_arg2)) (((cfg0.win 4).blk t).view.emb y) := by
  pointwise [k0_pay3, k0_pay1, prod]
  blk_point [iblk, V, idx t]

/-- The keys after the run. -/
theorem final_k : (dats m 0 c).arrAt 3 cfg0.N = prod (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_k m c t y

/-- The values after the run. -/
theorem final_v : (dats m 0 c).arrAt 4 cfg0.N = prod (m ((c : Thread nD τ).loc main_arg0)) (m ((c : Thread nD τ).loc main_arg2)) := by
  refine (dats m 0 c).arrAt_eq_of_covers 4 _ (by decide +kernel) fun t _ y => ?_
  blk_simp
  rw [after0_4]; frame_out
  exact point_v m c t y

end

/-- From equal arguments the kernel's keys and values are the reference's, as extended reals. -/
theorem algebraic : Cert.algebraic_Kernel3Ideal_Reference3Ideal := by
  intro m ρ m' ρ' _ hag
  refine ⟨fun c => prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)), ?_, ?_⟩
  · refine (θ_run Cert.Kernel3Ideal.defs _ _).mono (fun _ h c => ?_) (Cert.Kernel3Ideal.Value.run_blocks (F := Ideal) m ρ)
    obtain ⟨hk, hv, hrest⟩ := h c
    exact ⟨hk.trans (final_k m c), hv.trans (final_v m c), hrest⟩
  · refine (θ_run Cert.Reference3Ideal.defs _ _).mono (fun _ h c => ?_) (Cert.Reference3Ideal.Value.run (F := Ideal) m' ρ')
    obtain ⟨h0, h1, h2⟩ := hag c
    obtain ⟨hk, hv, hrest⟩ := h c
    beta_reduce
    rw [← h0, ← h1, ← h2]
    exact ⟨hk, hv, hrest⟩

end Cert.MemClaims

end
-- ==== Proof.lean ====
module

public import proofs.«01_k».proof.Defs
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel1Ideal.Value
public import proofs.«01_k».proof.Proof.Gen.Reference1Ideal.Run
public import proofs.«01_k».proof.Proof.Gen.Kernel0
public import proofs.«01_k».proof.Proof.Gen.Kernel0.Skeleton
public import proofs.«01_k».proof.Proof.Gen.Kernel0.Launch
public import proofs.«01_k».proof.Proof.Gen.Kernel0.Points
public import proofs.«01_k».proof.Proof.Gen.Kernel0.Frame
public import proofs.«01_k».proof.Proof.Gen.Kernel0Ideal
public import proofs.«01_k».proof.Proof.Gen.Kernel0Ideal.Skeleton
public import proofs.«01_k».proof.Proof.Gen.Kernel0Ideal.Launch
public import proofs.«01_k».proof.Proof.Gen.Kernel0Ideal.Points
public import proofs.«01_k».proof.Proof.Gen.Kernel0Ideal.Frame
public import proofs.«01_k».proof.Proof.Gen.Reference0Ideal
public import proofs.«01_k».proof.Proof.Gen.Kernel0Ideal.Value
public import proofs.«01_k».proof.Proof.Gen.Reference0Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.ScanClaims
public import proofs.«01_k».proof.Proof.ProjClaims
public import proofs.«01_k».proof.Proof.MlpClaims
public import proofs.«01_k».proof.Proof.MemClaims
public import Idealize.ShloMosaic.Lib.Quiescent
public import Idealize.ShloMosaic.Adequacy
public import Idealize.ShloMosaic.Init

@[expose] public section

noncomputable section

namespace Cert.Proof

/-- Every claim, in the order stated. -/
theorem claim : Cert.Claim := ⟨Cert.Kernel1.Gen.facts, Cert.Kernel1Ideal.Gen.facts, Cert.Reference1Ideal.Gen.facts,
  Cert.Kernel0.Gen.facts, Cert.Kernel0Ideal.Gen.facts, Cert.Reference0Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  ScanFinite.facts,
  Cert.ScanClaims.frame_kernel, Cert.ScanClaims.frame_ideal, Cert.ScanClaims.frame_ideal_finite, Cert.ScanClaims.frame_reference, Cert.ScanClaims.frame_reference_finite,
  Cert.ProjClaims.frame_kernel, Cert.ProjClaims.frame_ideal, Cert.ProjClaims.frame_reference,
  Cert.MlpClaims.frame_kernel, Cert.MlpClaims.frame_ideal, Cert.MlpClaims.frame_reference,
  Cert.MemClaims.frame_kernel, Cert.MemClaims.frame_ideal, Cert.MemClaims.frame_reference,
  Cert.ScanClaims.preserves, Cert.ScanClaims.algebraic,
  trivial, Cert.ProjClaims.algebraic,
  trivial, Cert.MlpClaims.algebraic,
  trivial, Cert.MemClaims.algebraic⟩

end Cert.Proof

end
